-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_below_infinity [hPre_gates_below_infinity : Cert.Pre_gates_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gates_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_below_infinity [hPre_gates_below_infinity : Cert.Pre_gates_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_scores_finite [hPre_scores_finite : Cert.Pre_scores_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_scores_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_scores_finite [hPre_scores_finite : Cert.Pre_scores_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_scores_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_even_scores_finite [hPre_even_scores_finite : Cert.Pre_even_scores_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_even_scores_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_even_scores_finite [hPre_even_scores_finite : Cert.Pre_even_scores_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_even_scores_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_below_infinity [hKernelIdeal : Cert.KernelIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_below_infinity [hReferenceIdeal : Cert.ReferenceIdeal.Facts] [hPre_gates_below_infinity : Cert.Pre_gates_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_scores_finite [hKernel3Ideal : Cert.Kernel3Ideal.Facts] [hPre_scores_finite : Cert.Pre_scores_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_scores_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_scores_finite [hReference3Ideal : Cert.Reference3Ideal.Facts] [hPre_scores_finite : Cert.Pre_scores_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_scores_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_even_scores_finite [hKernel6Ideal : Cert.Kernel6Ideal.Facts] [hPre_even_scores_finite : Cert.Pre_even_scores_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_even_scores_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_even_scores_finite [hReference6Ideal : Cert.Reference6Ideal.Facts] [hPre_even_scores_finite : Cert.Pre_even_scores_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_even_scores_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def preserves_Kernel_KernelIdeal : Prop :=
  True

def algebraic_KernelIdeal_ReferenceIdeal_pre_gates_below_infinity [hKernelIdeal : Cert.KernelIdeal.Facts] [hReferenceIdeal : Cert.ReferenceIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_scores_finite [hKernel3Ideal : Cert.Kernel3Ideal.Facts] [hReference3Ideal : Cert.Reference3Ideal.Facts] [hPre_scores_finite : Cert.Pre_scores_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_scores_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v19) = v3 c
          ∧ r.2.mem ((c.tc : Thread Cert.Reference5Ideal.nD Cert.Reference5Ideal.τ).loc Cert.Reference5Ideal.main_v26) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_even_scores_finite [hKernel6Ideal : Cert.Kernel6Ideal.Facts] [hReference6Ideal : Cert.Reference6Ideal.Facts] [hPre_even_scores_finite : Cert.Pre_even_scores_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_even_scores_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v42_0)) (v1 : (c : Dev Cert.Kernel7Ideal.nD) → Buf (Elt Ideal) ((c.tc : Thread Cert.Kernel7Ideal.nD Cert.Kernel7Ideal.τ).loc Cert.Kernel7Ideal.main_v42_1)) (v2 : (c : Dev Cert.Kernel7Ideal.nD) → Buf (Elt Ideal) ((c.tc : Thread Cert.Kernel7Ideal.nD Cert.Kernel7Ideal.τ).loc Cert.Kernel7Ideal.main_v42_2)) (v3 : (c : Dev Cert.Kernel7Ideal.nD) → Buf (Elt Ideal) ((c.tc : Thread Cert.Kernel7Ideal.nD Cert.Kernel7Ideal.τ).loc Cert.Kernel7Ideal.main_v42_3)) (v4 : (c : Dev Cert.Kernel7Ideal.nD) → Buf (Elt Ideal) ((c.tc : Thread Cert.Kernel7Ideal.nD Cert.Kernel7Ideal.τ).loc Cert.Kernel7Ideal.main_v42_4)) (v5 : (c : Dev Cert.Kernel7Ideal.nD) → Buf (Elt Ideal) ((c.tc : Thread Cert.Kernel7Ideal.nD Cert.Kernel7Ideal.τ).loc Cert.Kernel7Ideal.main_v42_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v42_0) = v0 c
          ∧ r.2.mem ((c.tc : Thread Cert.Kernel7Ideal.nD Cert.Kernel7Ideal.τ).loc Cert.Kernel7Ideal.main_v42_1) = v1 c
          ∧ r.2.mem ((c.tc : Thread Cert.Kernel7Ideal.nD Cert.Kernel7Ideal.τ).loc Cert.Kernel7Ideal.main_v42_2) = v2 c
          ∧ r.2.mem ((c.tc : Thread Cert.Kernel7Ideal.nD Cert.Kernel7Ideal.τ).loc Cert.Kernel7Ideal.main_v42_3) = v3 c
          ∧ r.2.mem ((c.tc : Thread Cert.Kernel7Ideal.nD Cert.Kernel7Ideal.τ).loc Cert.Kernel7Ideal.main_v42_4) = v4 c
          ∧ r.2.mem ((c.tc : Thread Cert.Kernel7Ideal.nD Cert.Kernel7Ideal.τ).loc Cert.Kernel7Ideal.main_v42_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v40) = v1 c
          ∧ r.2.mem ((c.tc : Thread Cert.Reference7Ideal.nD Cert.Reference7Ideal.τ).loc Cert.Reference7Ideal.main_v42) = v2 c
          ∧ r.2.mem ((c.tc : Thread Cert.Reference7Ideal.nD Cert.Reference7Ideal.τ).loc Cert.Reference7Ideal.main_v46) = v3 c
          ∧ r.2.mem ((c.tc : Thread Cert.Reference7Ideal.nD Cert.Reference7Ideal.τ).loc Cert.Reference7Ideal.main_v48) = v4 c
          ∧ r.2.mem ((c.tc : Thread Cert.Reference7Ideal.nD Cert.Reference7Ideal.τ).loc Cert.Reference7Ideal.main_v51) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_gates_below_infinity : Cert.Pre_gates_below_infinity.Facts) (hPre_scores_finite : Cert.Pre_scores_finite.Facts) (hPre_even_scores_finite : Cert.Pre_even_scores_finite.Facts),
    quiescent_Kernel (hKernel := hKernel)
    ∧ quiescent_KernelIdeal (hKernelIdeal := hKernelIdeal)
    ∧ quiescent_KernelIdeal_pre_gates_below_infinity (hKernelIdeal := hKernelIdeal) (hPre_gates_below_infinity := hPre_gates_below_infinity)
    ∧ quiescent_ReferenceIdeal (hReferenceIdeal := hReferenceIdeal)
    ∧ quiescent_ReferenceIdeal_pre_gates_below_infinity (hReferenceIdeal := hReferenceIdeal) (hPre_gates_below_infinity := hPre_gates_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_scores_finite (hKernel3Ideal := hKernel3Ideal) (hPre_scores_finite := hPre_scores_finite)
    ∧ quiescent_Reference3Ideal (hReference3Ideal := hReference3Ideal)
    ∧ quiescent_Reference3Ideal_pre_scores_finite (hReference3Ideal := hReference3Ideal) (hPre_scores_finite := hPre_scores_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_even_scores_finite (hKernel6Ideal := hKernel6Ideal) (hPre_even_scores_finite := hPre_even_scores_finite)
    ∧ quiescent_Reference6Ideal (hReference6Ideal := hReference6Ideal)
    ∧ quiescent_Reference6Ideal_pre_even_scores_finite (hReference6Ideal := hReference6Ideal) (hPre_even_scores_finite := hPre_even_scores_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_gates_below_infinity (hKernelIdeal := hKernelIdeal) (hReferenceIdeal := hReferenceIdeal) (hPre_gates_below_infinity := hPre_gates_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_scores_finite (hKernel3Ideal := hKernel3Ideal) (hReference3Ideal := hReference3Ideal) (hPre_scores_finite := hPre_scores_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_even_scores_finite (hKernel6Ideal := hKernel6Ideal) (hReference6Ideal := hReference6Ideal) (hPre_even_scores_finite := hPre_even_scores_finite)
    ∧ preserves_Kernel7_Kernel7Ideal
    ∧ algebraic_Kernel7Ideal_Reference7Ideal (hKernel7Ideal := hKernel7Ideal) (hReference7Ideal := hReference7Ideal)
-- ==== Pre_even_scores_finite.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩

class Facts : Prop where
  concatenates_S4x4096x512_S4x4096x512_S4x4096x1024_d2 : Shape.Concatenates [S4x4096x512, S4x4096x512] S4x4096x1024 2
  bitsLt_bf16_f32 : FTy.bits .bf16 < FTy.bits .f32
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096x1024_S4x4096x4x256 : S4x4096x1024.ShapeCasts S4x4096x4x256
  shapeCasts_S4x256x1024_S4x256x4x256 : S4x256x1024.ShapeCasts S4x256x4x256
  reducesTo_S4x4x4096x256_S4x4x4096_d3 : S4x4x4096x256.ReducesTo [3] S4x4x4096
  bcast_S_S4x4x4096 : S_.BroadcastsInDim S4x4x4096 (![] : Fin 0 → Fin S4x4x4096.rank)
  dot_S4x4096x1024_S1024x1024_S4x4096x1024_2_0_01_1_n_n_wf : DotDims.WF S4x4096x1024 S1024x1024 S4x4096x1024 [2] [0] [0, 1] [1] [] []
  dot_S4x4096x4x256_S4x256x4x256_S4x4x4096x256_3_3_1_1_02_02_wf : DotDims.WF S4x4096x4x256 S4x256x4x256 S4x4x4096x256 [3] [3] [1] [1] [0, 2] [0, 2]

variable [Facts]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x4x256_S4x256x4x256_S4x4x4096x256_3_3_1_1_02_02 : DotDims S4x4096x4x256 S4x256x4x256 S4x4x4096x256 where
  lhsContracting := [3]
  rhsContracting := [3]
  lhsNonContracting := [1]
  rhsNonContracting := [1]
  lhsBatch := [0, 2]
  rhsBatch := [0, 2]
  wf := dot_S4x4096x4x256_S4x256x4x256_S4x4x4096x256_3_3_1_1_02_02_wf
def fn_part1 {F : FTy → Type} [FloatOps F] (main_arg3 : FVec F S4x256x1024 .bf16) (main_arg6 : FVec F S1024 .f32) (main_arg9 : FVec F S1024x1024 .f32) (main_v16 : FVec F S4x4096x1024 .f32) (main_v19 : FVec F S4x4096x1 .f32) : IVec S4x4x4096 1 :=
  let main_cst_3 : FVec F S_ .f32 := constant S_ .f32 0x44800000#32
  let main_v20 : FVec F S4x4096x1 .f32 := broadcastInDim S4x4096x1 ![] bcast_S_S4x4096x1 main_cst_3
  let main_v21 : FVec F S4x4096x1 .f32 := Host.divf main_v19 main_v20
  let main_cst_4 : FVec F S_ .f32 := constant S_ .f32 0x358637BD#32
  let main_v22 : FVec F S4x4096x1 .f32 := broadcastInDim S4x4096x1 ![] bcast_S_S4x4096x1 main_cst_4
  let main_v23 : FVec F S4x4096x1 .f32 := addf main_v21 main_v22
  let main_v24 : FVec F S4x4096x1 .f32 := Host.rsqrt main_v23
  let main_v25 : FVec F S4x4096x1024 .f32 := broadcastInDim S4x4096x1024 ![0, 1, 2] bcast_S4x4096x1_S4x4096x1024_0_1_2 main_v24
  let main_v26 : FVec F S4x4096x1024 .f32 := mulf main_v16 main_v25
  let main_v27 : FVec F S1x1x1024 .f32 := broadcastInDim S1x1x1024 ![2] bcast_S1024_S1x1x1024_2 main_arg6
  let main_v28 : FVec F S4x4096x1024 .f32 := broadcastInDim S4x4096x1024 ![0, 1, 2] bcast_S1x1x1024_S4x4096x1024_0_1_2 main_v27
  let main_v29 : FVec F S4x4096x1024 .f32 := mulf main_v26 main_v28
  let main_v30 : FVec F S4x4096x1024 .f32 := (fun l r => Host.dotGeneral dot_S4x4096x1024_S1024x1024_S4x4096x1024_2_0_01_1_n_n none l r) main_v29 main_arg9
  let main_v31 : FVec F S4x4096x4x256 .f32 := shapeCast S4x4096x4x256 main_v30 shapeCasts_S4x4096x1024_S4x4096x4x256
  let main_v32 : FVec F S4x256x1024 .f32 := (extf .f32 · bitsLt_bf16_f32) main_arg3
  let main_v33 : FVec F S4x256x4x256 .f32 := shapeCast S4x256x4x256 main_v32 shapeCasts_S4x256x1024_S4x256x4x256
  let main_v34 : FVec F S4x4x4096x256 .f32 := (fun l r => Host.dotGeneral dot_S4x4096x4x256_S4x256x4x256_S4x4x4096x256_3_3_1_1_02_02 none l r) main_v31 main_v33
  let main_cst_5 : FVec F S_ .f32 := constant S_ .f32 0xFF800000#32
  let main_v35 : FVec F S4x4x4096 .f32 := (fun x v => Host.reduce FloatOps.maximumf x v reducesTo_S4x4x4096x256_S4x4x4096_d3 h_S_) main_v34 main_cst_5
  let main_v36 : FVec F S4x4x4096 .f32 := Host.absf main_v35
  let main_cst_6 : FVec F S_ .f32 := constant S_ .f32 0x7F800000#32
  let main_v37 : FVec F S4x4x4096 .f32 := broadcastInDim S4x4x4096 ![] bcast_S_S4x4x4096 main_cst_6
  let main_v38 : IVec S4x4x4096 1 := cmpf .olt main_v36 main_v37
  main_v38

def fn {F : FTy → Type} [FloatOps F] (main_arg0 : FVec F S4x4096x1024 .f32) (main_arg1 : FVec F S4x4096x512 .bf16) (main_arg2 : FVec F S4x4096x512 .bf16) (main_arg3 : FVec F S4x256x1024 .bf16) (main_arg4 : FVec F S4x256x1024 .bf16) (main_arg5 : FVec F S1024 .f32) (main_arg6 : FVec F S1024 .f32) (main_arg7 : FVec F S1024 .f32) (main_arg8 : FVec F S1024x1024 .f32) (main_arg9 : FVec F S1024x1024 .f32) (main_arg10 : FVec F S1024x1024 .f32) : IVec S4x4x4096 1 :=
  let main_v0 : FVec F S4x4096x1024 .bf16 := (fun a b => concatenate S4x4096x1024 2 [⟨S4x4096x512, a⟩, ⟨S4x4096x512, b⟩] concatenates_S4x4096x512_S4x4096x512_S4x4096x1024_d2) main_arg1 main_arg2
  let main_v1 : FVec F S4x4096x1024 .f32 := (extf .f32 · bitsLt_bf16_f32) main_v0
  let main_v2 : FVec F S4x4096x1024 .f32 := (fun l r => Host.dotGeneral dot_S4x4096x1024_S1024x1024_S4x4096x1024_2_0_01_1_n_n none l r) main_v1 main_arg8
  let main_v3 : FVec F S4x4096x1024 .f32 := mulf main_v2 main_v2
  let main_cst : FVec F S_ .f32 := constant S_ .f32 0x00000000#32
  let main_v4 : FVec F S4x4096 .f32 := (fun x v => Host.reduceAdd x v reducesTo_S4x4096x1024_S4x4096_d2 h_S_) main_v3 main_cst
  let main_v5 : FVec F S4x4096x1 .f32 := broadcastInDim S4x4096x1 ![0, 1] bcast_S4x4096_S4x4096x1_0_1 main_v4
  let main_cst_0 : FVec F S_ .f32 := constant S_ .f32 0x44800000#32
  let main_v6 : FVec F S4x4096x1 .f32 := broadcastInDim S4x4096x1 ![] bcast_S_S4x4096x1 main_cst_0
  let main_v7 : FVec F S4x4096x1 .f32 := Host.divf main_v5 main_v6
  let main_cst_1 : FVec F S_ .f32 := constant S_ .f32 0x358637BD#32
  let main_v8 : FVec F S4x4096x1 .f32 := broadcastInDim S4x4096x1 ![] bcast_S_S4x4096x1 main_cst_1
  let main_v9 : FVec F S4x4096x1 .f32 := addf main_v7 main_v8
  let main_v10 : FVec F S4x4096x1 .f32 := Host.rsqrt main_v9
  let main_v11 : FVec F S4x4096x1024 .f32 := broadcastInDim S4x4096x1024 ![0, 1, 2] bcast_S4x4096x1_S4x4096x1024_0_1_2 main_v10
  let main_v12 : FVec F S4x4096x1024 .f32 := mulf main_v2 main_v11
  let main_v13 : FVec F S1x1x1024 .f32 := broadcastInDim S1x1x1024 ![2] bcast_S1024_S1x1x1024_2 main_arg5
  let main_v14 : FVec F S4x4096x1024 .f32 := broadcastInDim S4x4096x1024 ![0, 1, 2] bcast_S1x1x1024_S4x4096x1024_0_1_2 main_v13
  let main_v15 : FVec F S4x4096x1024 .f32 := mulf main_v12 main_v14
  let main_v16 : FVec F S4x4096x1024 .f32 := addf main_arg0 main_v15
  let main_v17 : FVec F S4x4096x1024 .f32 := mulf main_v16 main_v16
  let main_cst_2 : FVec F S_ .f32 := constant S_ .f32 0x00000000#32
  let main_v18 : FVec F S4x4096 .f32 := (fun x v => Host.reduceAdd x v reducesTo_S4x4096x1024_S4x4096_d2 h_S_) main_v17 main_cst_2
  let main_v19 : FVec F S4x4096x1 .f32 := broadcastInDim S4x4096x1 ![0, 1] bcast_S4x4096_S4x4096x1_0_1 main_v18
  fn_part1 (F := F) main_arg3 main_arg6 main_arg9 main_v16 main_v19
-- ==== Pre_gates_below_infinity.lean ====
abbrev S4x4096x512 : Shape := ⟨3, ![4, 4096, 512]⟩
abbrev S4x4096x1024 : Shape := ⟨3, ![4, 4096, 1024]⟩
abbrev S256 : Shape := ⟨1, ![256]⟩
abbrev S_ : Shape := ⟨0, ![]⟩

class Facts : Prop where
  bcast_S_S4x4096x512 : S_.BroadcastsInDim S4x4096x512 (![] : Fin 0 → Fin S4x4096x512.rank)

variable [Facts]

def fn {F : FTy → Type} [FloatOps F] (main_arg0 : FVec F S4x4096x512 .f32) (main_arg1 : FVec F S4x4096x512 .f32) (main_arg2 : FVec F S4x4096x1024 .bf16) (main_arg3 : FVec F S4x4096x512 .f32) (main_arg4 : FVec F S4x4096x1024 .f32) (main_arg5 : FVec F S256 .f32) : IVec S4x4096x512 1 :=
  let main_cst : FVec F S_ .f32 := constant S_ .f32 0x7F800000#32
  let main_v0 : FVec F S4x4096x512 .f32 := broadcastInDim S4x4096x512 ![] bcast_S_S4x4096x512 main_cst
  let main_v1 : IVec S4x4096x512 1 := cmpf .olt main_arg3 main_v0
  main_v1
-- ==== Pre_scores_finite.lean ====
abbrev S4x4096x1024 : Shape := ⟨3, ![4, 4096, 1024]⟩
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩

class Facts : Prop where
  bitsLt_bf16_f32 : FTy.bits .bf16 < FTy.bits .f32
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096x1024_S4x4096x4x256 : S4x4096x1024.ShapeCasts S4x4096x4x256
  shapeCasts_S4x256x1024_S4x256x4x256 : S4x256x1024.ShapeCasts S4x256x4x256
  reducesTo_S4x4x4096x256_S4x4x4096_d3 : S4x4x4096x256.ReducesTo [3] S4x4x4096
  bcast_S_S4x4x4096 : S_.BroadcastsInDim S4x4x4096 (![] : Fin 0 → Fin S4x4x4096.rank)
  dot_S4x4096x1024_S1024x1024_S4x4096x1024_2_0_01_1_n_n_wf : DotDims.WF S4x4096x1024 S1024x1024 S4x4096x1024 [2] [0] [0, 1] [1] [] []
  dot_S4x4096x4x256_S4x256x4x256_S4x4x4096x256_3_3_1_1_02_02_wf : DotDims.WF S4x4096x4x256 S4x256x4x256 S4x4x4096x256 [3] [3] [1] [1] [0, 2] [0, 2]

variable [Facts]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x4x256_S4x256x4x256_S4x4x4096x256_3_3_1_1_02_02 : DotDims S4x4096x4x256 S4x256x4x256 S4x4x4096x256 where
  lhsContracting := [3]
  rhsContracting := [3]
  lhsNonContracting := [1]
  rhsNonContracting := [1]
  lhsBatch := [0, 2]
  rhsBatch := [0, 2]
  wf := dot_S4x4096x4x256_S4x256x4x256_S4x4x4096x256_3_3_1_1_02_02_wf
def fn_part1 {F : FTy → Type} [FloatOps F] (main_arg2 : FVec F S4x256x1024 .bf16) (main_arg5 : FVec F S1024 .f32) (main_arg8 : FVec F S1024x1024 .f32) (main_v15 : FVec F S4x4096x1024 .f32) (main_v18 : FVec F S4x4096x1 .f32) (main_cst_3 : FVec F S_ .f32) : IVec S4x4x4096 1 :=
  let main_v19 : FVec F S4x4096x1 .f32 := broadcastInDim S4x4096x1 ![] bcast_S_S4x4096x1 main_cst_3
  let main_v20 : FVec F S4x4096x1 .f32 := Host.divf main_v18 main_v19
  let main_cst_4 : FVec F S_ .f32 := constant S_ .f32 0x358637BD#32
  let main_v21 : FVec F S4x4096x1 .f32 := broadcastInDim S4x4096x1 ![] bcast_S_S4x4096x1 main_cst_4
  let main_v22 : FVec F S4x4096x1 .f32 := addf main_v20 main_v21
  let main_v23 : FVec F S4x4096x1 .f32 := Host.rsqrt main_v22
  let main_v24 : FVec F S4x4096x1024 .f32 := broadcastInDim S4x4096x1024 ![0, 1, 2] bcast_S4x4096x1_S4x4096x1024_0_1_2 main_v23
  let main_v25 : FVec F S4x4096x1024 .f32 := mulf main_v15 main_v24
  let main_v26 : FVec F S1x1x1024 .f32 := broadcastInDim S1x1x1024 ![2] bcast_S1024_S1x1x1024_2 main_arg5
  let main_v27 : FVec F S4x4096x1024 .f32 := broadcastInDim S4x4096x1024 ![0, 1, 2] bcast_S1x1x1024_S4x4096x1024_0_1_2 main_v26
  let main_v28 : FVec F S4x4096x1024 .f32 := mulf main_v25 main_v27
  let main_v29 : FVec F S4x4096x1024 .f32 := (fun l r => Host.dotGeneral dot_S4x4096x1024_S1024x1024_S4x4096x1024_2_0_01_1_n_n none l r) main_v28 main_arg8
  let main_v30 : FVec F S4x4096x4x256 .f32 := shapeCast S4x4096x4x256 main_v29 shapeCasts_S4x4096x1024_S4x4096x4x256
  let main_v31 : FVec F S4x256x1024 .f32 := (extf .f32 · bitsLt_bf16_f32) main_arg2
  let main_v32 : FVec F S4x256x4x256 .f32 := shapeCast S4x256x4x256 main_v31 shapeCasts_S4x256x1024_S4x256x4x256
  let main_v33 : FVec F S4x4x4096x256 .f32 := (fun l r => Host.dotGeneral dot_S4x4096x4x256_S4x256x4x256_S4x4x4096x256_3_3_1_1_02_02 none l r) main_v30 main_v32
  let main_cst_5 : FVec F S_ .f32 := constant S_ .f32 0xFF800000#32
  let main_v34 : FVec F S4x4x4096 .f32 := (fun x v => Host.reduce FloatOps.maximumf x v reducesTo_S4x4x4096x256_S4x4x4096_d3 h_S_) main_v33 main_cst_5
  let main_v35 : FVec F S4x4x4096 .f32 := Host.absf main_v34
  let main_cst_6 : FVec F S_ .f32 := constant S_ .f32 0x7F800000#32
  let main_v36 : FVec F S4x4x4096 .f32 := broadcastInDim S4x4x4096 ![] bcast_S_S4x4x4096 main_cst_6
  let main_v37 : IVec S4x4x4096 1 := cmpf .olt main_v35 main_v36
  main_v37

def fn {F : FTy → Type} [FloatOps F] (main_arg0 : FVec F S4x4096x1024 .f32) (main_arg1 : FVec F S4x4096x1024 .bf16) (main_arg2 : FVec F S4x256x1024 .bf16) (main_arg3 : FVec F S4x256x1024 .bf16) (main_arg4 : FVec F S1024 .f32) (main_arg5 : FVec F S1024 .f32) (main_arg6 : FVec F S1024 .f32) (main_arg7 : FVec F S1024x1024 .f32) (main_arg8 : FVec F S1024x1024 .f32) (main_arg9 : FVec F S1024x1024 .f32) : IVec S4x4x4096 1 :=
  let main_v0 : FVec F S4x4096x1024 .f32 := (extf .f32 · bitsLt_bf16_f32) main_arg1
  let main_v1 : FVec F S4x4096x1024 .f32 := (fun l r => Host.dotGeneral dot_S4x4096x1024_S1024x1024_S4x4096x1024_2_0_01_1_n_n none l r) main_v0 main_arg7
  let main_v2 : FVec F S4x4096x1024 .f32 := mulf main_v1 main_v1
  let main_cst : FVec F S_ .f32 := constant S_ .f32 0x00000000#32
  let main_v3 : FVec F S4x4096 .f32 := (fun x v => Host.reduceAdd x v reducesTo_S4x4096x1024_S4x4096_d2 h_S_) main_v2 main_cst
  let main_v4 : FVec F S4x4096x1 .f32 := broadcastInDim S4x4096x1 ![0, 1] bcast_S4x4096_S4x4096x1_0_1 main_v3
  let main_cst_0 : FVec F S_ .f32 := constant S_ .f32 0x44800000#32
  let main_v5 : FVec F S4x4096x1 .f32 := broadcastInDim S4x4096x1 ![] bcast_S_S4x4096x1 main_cst_0
  let main_v6 : FVec F S4x4096x1 .f32 := Host.divf main_v4 main_v5
  let main_cst_1 : FVec F S_ .f32 := constant S_ .f32 0x358637BD#32
  let main_v7 : FVec F S4x4096x1 .f32 := broadcastInDim S4x4096x1 ![] bcast_S_S4x4096x1 main_cst_1
  let main_v8 : FVec F S4x4096x1 .f32 := addf main_v6 main_v7
  let main_v9 : FVec F S4x4096x1 .f32 := Host.rsqrt main_v8
  let main_v10 : FVec F S4x4096x1024 .f32 := broadcastInDim S4x4096x1024 ![0, 1, 2] bcast_S4x4096x1_S4x4096x1024_0_1_2 main_v9
  let main_v11 : FVec F S4x4096x1024 .f32 := mulf main_v1 main_v10
  let main_v12 : FVec F S1x1x1024 .f32 := broadcastInDim S1x1x1024 ![2] bcast_S1024_S1x1x1024_2 main_arg4
  let main_v13 : FVec F S4x4096x1024 .f32 := broadcastInDim S4x4096x1024 ![0, 1, 2] bcast_S1x1x1024_S4x4096x1024_0_1_2 main_v12
  let main_v14 : FVec F S4x4096x1024 .f32 := mulf main_v11 main_v13
  let main_v15 : FVec F S4x4096x1024 .f32 := addf main_arg0 main_v14
  let main_v16 : FVec F S4x4096x1024 .f32 := mulf main_v15 main_v15
  let main_cst_2 : FVec F S_ .f32 := constant S_ .f32 0x00000000#32
  let main_v17 : FVec F S4x4096 .f32 := (fun x v => Host.reduceAdd x v reducesTo_S4x4096x1024_S4x4096_d2 h_S_) main_v16 main_cst_2
  let main_v18 : FVec F S4x4096x1 .f32 := broadcastInDim S4x4096x1 ![0, 1] bcast_S4x4096_S4x4096x1_0_1 main_v17
  let main_cst_3 : FVec F S_ .f32 := constant S_ .f32 0x44800000#32
  fn_part1 (F := F) main_arg2 main_arg5 main_arg8 main_v15 main_v18 main_cst_3
-- ==== Kernel.lean ====
abbrev S4x4096x512 : Shape := ⟨3, ![4, 4096, 512]⟩
abbrev S4x4096x1024 : Shape := ⟨3, ![4, 4096, 1024]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S1x256x512 : Shape := ⟨3, ![1, 256, 512]⟩
abbrev S1x256x1024 : Shape := ⟨3, ![1, 256, 1024]⟩
abbrev S4x256x128 : Shape := ⟨3, ![4, 256, 128]⟩
abbrev S256x512 : Shape := ⟨2, ![256, 512]⟩
abbrev S256x1024 : Shape := ⟨2, ![256, 1024]⟩
abbrev S4x4x256x128 : Shape := ⟨4, ![4, 4, 256, 128]⟩
abbrev S1x512 : Shape := ⟨2, ![1, 512]⟩
abbrev S64x512 : Shape := ⟨2, ![64, 512]⟩
abbrev S256x128 : Shape := ⟨2, ![256, 128]⟩
abbrev S1x256x256 : Shape := ⟨3, ![1, 256, 256]⟩
abbrev S1x64x256 : Shape := ⟨3, ![1, 64, 256]⟩
abbrev S64x256 : Shape := ⟨2, ![64, 256]⟩
abbrev S64x128 : Shape := ⟨2, ![64, 128]⟩
abbrev S1x1x256x128 : Shape := ⟨4, ![1, 1, 256, 128]⟩
abbrev S1x256x128 : Shape := ⟨3, ![1, 256, 128]⟩
abbrev S1x128 : Shape := ⟨2, ![1, 128]⟩
abbrev S64 : Shape := ⟨1, ![64]⟩
abbrev S64x1 : Shape := ⟨2, ![64, 1]⟩

abbrev nBuf : Space → Nat
  | .hbm => 57
  | .vmem => 19
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .bf16⟩
  | .hbm, ⟨3, _⟩ => ⟨S4x4096x512, .f32⟩
  | .hbm, ⟨4, _⟩ => ⟨S4x4096x1024, .f32⟩
  | .hbm, ⟨5, _⟩ => ⟨S256, .f32⟩
  | .hbm, ⟨6, _⟩ => ⟨S1x256, .f32⟩
  | .hbm, ⟨7, _⟩ => ⟨S256, .i32⟩
  | .hbm, ⟨8, _⟩ => ⟨S256x1, .i32⟩
  | .hbm, ⟨9, _⟩ => ⟨S1x256, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x1, .i32⟩
  | .hbm, ⟨14, _⟩ => ⟨S_, .i32⟩
  | .hbm, ⟨15, _⟩ => ⟨S_, .i32⟩
  | .hbm, ⟨16, _⟩ => ⟨S256x1, .i32⟩
  | .hbm, ⟨17, _⟩ => ⟨S256x1, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S1x256, .i32⟩
  | .hbm, ⟨33, _⟩ => ⟨S_, .i32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S1x256, .i32⟩
  | .hbm, ⟨42, _⟩ => ⟨S1x256, .i32⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x256, .i1⟩
  | .hbm, ⟨47, _⟩ => ⟨S_, .i32⟩
  | .hbm, ⟨48, _⟩ => ⟨S1x256, .i32⟩
  | .hbm, ⟨49, _⟩ => ⟨S1x256, .i32⟩
  | .hbm, ⟨50, _⟩ => ⟨S1x256, .i32⟩
  | .hbm, ⟨51, _⟩ => ⟨S256x256, .i32⟩
  | .hbm, ⟨52, _⟩ => ⟨S256x256, .i32⟩
  | .hbm, ⟨53, _⟩ => ⟨S256x256, .i1⟩
  | .hbm, ⟨54, _⟩ => ⟨S256x256, .i1⟩
  | .hbm, ⟨55, _⟩ => ⟨S256x256, .bf16⟩
  | .hbm, ⟨56, _⟩ => ⟨S4x4096x1024, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x256, .f32⟩
  | .local _ .vmem, ⟨11, _⟩ => ⟨S256x256, .bf16⟩
  | .local _ .vmem, ⟨12, _⟩ => ⟨S1x256x1024, .bf16⟩
  | .local _ .vmem, ⟨13, _⟩ => ⟨S1x256x1024, .bf16⟩
  | .local _ .vmem, ⟨14, _⟩ => ⟨S4x256x128, .f32⟩
  | .local _ .vmem, ⟨15, _⟩ => ⟨S256x512, .bf16⟩
  | .local _ .vmem, ⟨16, _⟩ => ⟨S256x1024, .f32⟩
  | .local _ .vmem, ⟨17, _⟩ => ⟨S4x4x256x128, .f32⟩
  | .local _ .vmem, ⟨18, _⟩ => ⟨S4x4x256x128, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x4096x512 : Shape := ⟨3, ![4, 4096, 512]⟩
abbrev S4x4096x1024 : Shape := ⟨3, ![4, 4096, 1024]⟩
abbrev S256 : Shape := ⟨1, ![256]⟩
abbrev S4x64x64x4x128 : Shape := ⟨5, ![4, 64, 64, 4, 128]⟩
abbrev S4x64x4x64x128 : Shape := ⟨5, ![4, 64, 4, 64, 128]⟩
abbrev S4x64x64x4x256 : Shape := ⟨5, ![4, 64, 64, 4, 256]⟩
abbrev S4x64x4x64x256 : Shape := ⟨5, ![4, 64, 4, 64, 256]⟩
abbrev S_ : Shape := ⟨0, ![]⟩
abbrev S4x64x4x1x128 : Shape := ⟨5, ![4, 64, 4, 1, 128]⟩
abbrev S64x64 : Shape := ⟨2, ![64, 64]⟩
abbrev S4x64x4x64x64 : Shape := ⟨5, ![4, 64, 4, 64, 64]⟩
abbrev S4x4x128x256 : Shape := ⟨4, ![4, 4, 128, 256]⟩
abbrev S64x4x4x64x256 : Shape := ⟨5, ![64, 4, 4, 64, 256]⟩
abbrev S64x4x4x64x128 : Shape := ⟨5, ![64, 4, 4, 64, 128]⟩
abbrev S4x64x4x128 : Shape := ⟨4, ![4, 64, 4, 128]⟩
abbrev S64x4x4x128 : Shape := ⟨4, ![64, 4, 4, 128]⟩
abbrev S1x4x4x64x256 : Shape := ⟨5, ![1, 4, 4, 64, 256]⟩
abbrev S4x4x64x256 : Shape := ⟨4, ![4, 4, 64, 256]⟩
abbrev S1x4x4x64x128 : Shape := ⟨5, ![1, 4, 4, 64, 128]⟩
abbrev S4x4x64x128 : Shape := ⟨4, ![4, 4, 64, 128]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4096x4x256 : Shape := ⟨4, ![4, 4096, 4, 256]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩

abbrev nBuf : Space → Nat
  | .hbm => 142
  | .vmem => 0
  | .smem => 0
  | _ => 0

abbrev hbmTy0_0 (i : Nat) : BufTy := match i % 128 with
  | 0 => ⟨S4x4096x512, .f32⟩
  | 1 => ⟨S4x4096x512, .f32⟩
  | 2 => ⟨S4x4096x1024, .bf16⟩
  | 3 => ⟨S4x4096x512, .f32⟩
  | 4 => ⟨S4x4096x1024, .f32⟩
  | 5 => ⟨S256, .f32⟩
  | 6 => ⟨S4x64x64x4x128, .f32⟩
  | 7 => ⟨S4x64x4x64x128, .f32⟩
  | 8 => ⟨S4x64x64x4x128, .f32⟩
  | 9 => ⟨S4x64x4x64x128, .f32⟩
  | 10 => ⟨S4x4096x1024, .f32⟩
  | 11 => ⟨S4x64x64x4x256, .f32⟩
  | 12 => ⟨S4x64x4x64x256, .f32⟩
  | 13 => ⟨S4x64x64x4x128, .f32⟩
  | 14 => ⟨S4x64x4x64x128, .f32⟩
  | 15 => ⟨S_, .f32⟩
  | 16 => ⟨S_, .f32⟩
  | 17 => ⟨S4x64x4x64x128, .f32⟩
  | 18 => ⟨S4x64x4x1x128, .f32⟩
  | 19 => ⟨S4x64x4x64x128, .f32⟩
  | 20 => ⟨S4x64x4x64x128, .f32⟩
  | 21 => ⟨S4x64x4x64x128, .f32⟩
  | 22 => ⟨S4x64x4x64x128, .f32⟩
  | 23 => ⟨S4x64x4x64x128, .f32⟩
  | 24 => ⟨S4x64x4x64x128, .f32⟩
  | 25 => ⟨S4x64x4x64x128, .f32⟩
  | 26 => ⟨S4x64x4x64x128, .f32⟩
  | 27 => ⟨S4x64x4x64x128, .f32⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i1⟩
  | 37 => ⟨S64x64, .i1⟩
  | 38 => ⟨S64x64, .i1⟩
  | 39 => ⟨S4x64x4x64x64, .f32⟩
  | 40 => ⟨S_, .f32⟩
  | 41 => ⟨S_, .f32⟩
  | 42 => ⟨S4x64x4x64x64, .i1⟩
  | 43 => ⟨S4x64x4x64x64, .f32⟩
  | 44 => ⟨S4x64x4x64x64, .f32⟩
  | 45 => ⟨S4x64x4x64x256, .f32⟩
  | 46 => ⟨S_, .f32⟩
  | 47 => ⟨S4x4x128x256, .f32⟩
  | 48 => ⟨S64x4x4x64x256, .f32⟩
  | 49 => ⟨S64x4x4x64x128, .f32⟩
  | 50 => ⟨S64x4x4x64x128, .f32⟩
  | 51 => ⟨S64x4x4x64x256, .f32⟩
  | 52 => ⟨S4x64x4x128, .f32⟩
  | 53 => ⟨S4x64x4x128, .f32⟩
  | 54 => ⟨S64x4x4x128, .f32⟩
  | 55 => ⟨S_, .f32⟩
  | 56 => ⟨S64x4x4x64x256, .f32⟩
  | 57 => ⟨S_, .i32⟩
  | 58 => ⟨S64x4x4x64x256, .f32⟩
  | 59 => ⟨S64x4x4x64x128, .f32⟩
  | 60 => ⟨S64x4x4x64x128, .f32⟩
  | 61 => ⟨S64x4x4x64x256, .f32⟩
  | 62 => ⟨S64x4x4x128, .f32⟩
  | 63 => ⟨S_, .i32⟩
  | 64 => ⟨S4x4x128x256, .f32⟩
  | 65 => ⟨S64x4x4x64x256, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x4x4x64x256, .f32⟩
  | 73 => ⟨S4x4x64x256, .f32⟩
  | 74 => ⟨S_, .i32⟩
  | 75 => ⟨S_, .i32⟩
  | 76 => ⟨S_, .i32⟩
  | 77 => ⟨S_, .i32⟩
  | 78 => ⟨S1x4x4x64x128, .f32⟩
  | 79 => ⟨S4x4x64x128, .f32⟩
  | 80 => ⟨S_, .i32⟩
  | 81 => ⟨S_, .i32⟩
  | 82 => ⟨S_, .i32⟩
  | 83 => ⟨S_, .i32⟩
  | 84 => ⟨S1x4x4x64x128, .f32⟩
  | 85 => ⟨S4x4x64x128, .f32⟩
  | 86 => ⟨S_, .i32⟩
  | 87 => ⟨S_, .i32⟩
  | 88 => ⟨S_, .i32⟩
  | 89 => ⟨S_, .i32⟩
  | 90 => ⟨S1x4x4x64x256, .f32⟩
  | 91 => ⟨S4x4x64x256, .f32⟩
  | 92 => ⟨S_, .i32⟩
  | 93 => ⟨S_, .i32⟩
  | 94 => ⟨S_, .i32⟩
  | 95 => ⟨S1x4x4x128, .f32⟩
  | 96 => ⟨S4x4x128, .f32⟩
  | 97 => ⟨S4x4x64x256, .f32⟩
  | 98 => ⟨S4x4x64x256, .f32⟩
  | 99 => ⟨S4x4x128x1, .f32⟩
  | 100 => ⟨S4x4x128x256, .f32⟩
  | 101 => ⟨S4x4x128x256, .f32⟩
  | 102 => ⟨S4x4x128x256, .f32⟩
  | 103 => ⟨S4x4x128x256, .f32⟩
  | 104 => ⟨S1x4x4x64x256, .f32⟩
  | 105 => ⟨S_, .i32⟩
  | 106 => ⟨S_, .i32⟩
  | 107 => ⟨S_, .i32⟩
  | 108 => ⟨S_, .i32⟩
  | 109 => ⟨S64x4x4x64x256, .f32⟩
  | 110 => ⟨S_, .i32⟩
  | 111 => ⟨S_, .i32⟩
  | 112 => ⟨S4x64x64x4x256, .f32⟩
  | 113 => ⟨S4x4096x4x256, .f32⟩
  | 114 => ⟨S4x4096x4x256, .f32⟩
  | 115 => ⟨S_, .f32⟩
  | 116 => ⟨S4x4096x4, .f32⟩
  | 117 => ⟨S4x4096x4x1, .f32⟩
  | 118 => ⟨S_, .f32⟩
  | 119 => ⟨S4x4096x4x1, .f32⟩
  | 120 => ⟨S4x4096x4x1, .f32⟩
  | 121 => ⟨S_, .f32⟩
  | 122 => ⟨S4x4096x4x1, .f32⟩
  | 123 => ⟨S4x4096x4x1, .f32⟩
  | 124 => ⟨S4x4096x4x1, .f32⟩
  | 125 => ⟨S4x4096x4x256, .f32⟩
  | 126 => ⟨S4x4096x4x256, .f32⟩
  | 127 => ⟨S1x1x1x256, .f32⟩
  | _ => ⟨S4x4096x512, .f32⟩

abbrev hbmTy0_1 (i : Nat) : BufTy := match i % 128 with
  | 0 => ⟨S4x4096x4x256, .f32⟩
  | 1 => ⟨S4x4096x4x256, .f32⟩
  | 2 => ⟨S4x4096x1024, .f32⟩
  | 3 => ⟨S4x4096x1024, .f32⟩
  | 4 => ⟨S4x4096x1024, .f32⟩
  | 5 => ⟨S_, .f32⟩
  | 6 => ⟨S4x4096x1024, .f32⟩
  | 7 => ⟨S4x4096x1024, .f32⟩
  | 8 => ⟨S_, .f32⟩
  | 9 => ⟨S4x4096x1024, .f32⟩
  | 10 => ⟨S4x4096x1024, .f32⟩
  | 11 => ⟨S4x4096x1024, .f32⟩
  | 12 => ⟨S4x4096x1024, .f32⟩
  | 13 => ⟨S4x4096x1024, .bf16⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v23 : Ref sig .tc := ⟨.hbm, 44, rfl⟩
abbrev main_v24 : Ref sig .tc := ⟨.hbm, 45, rfl⟩
abbrev main_cst_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_c_2 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev main_v34_3 : Ref sig .tc := ⟨.hbm, 61, rfl⟩
abbrev main_v34_4 : Ref sig .tc := ⟨.hbm, 62, rfl⟩
abbrev main_v34_5 : Ref sig .tc := ⟨.hbm, 63, rfl⟩
abbrev main_v34_6 : Ref sig .tc := ⟨.hbm, 64, rfl⟩
abbrev main_v34_7 : Ref sig .tc := ⟨.hbm, 65, rfl⟩
abbrev main_while0c_c_13 : Ref sig .tc := ⟨.hbm, 66, rfl⟩
abbrev main_while0c_v54 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_call3_c_2 : Ref sig .tc := ⟨.hbm, 71, rfl⟩
abbrev main_while0b_call3_v0 : Ref sig .tc := ⟨.hbm, 72, rfl⟩
abbrev main_while0b_v54 : Ref sig .tc := ⟨.hbm, 73, rfl⟩
abbrev main_while0b_call4_c : Ref sig .tc := ⟨.hbm, 74, rfl⟩
abbrev main_while0b_call4_c_0 : Ref sig .tc := ⟨.hbm, 75, rfl⟩
abbrev main_while0b_call4_c_1 : Ref sig .tc := ⟨.hbm, 76, rfl⟩
abbrev main_while0b_call4_c_2 : Ref sig .tc := ⟨.hbm, 77, rfl⟩
abbrev main_while0b_call4_v0 : Ref sig .tc := ⟨.hbm, 78, rfl⟩
abbrev main_while0b_v55 : Ref sig .tc := ⟨.hbm, 79, rfl⟩
abbrev main_while0b_call5_c : Ref sig .tc := ⟨.hbm, 80, rfl⟩
abbrev main_while0b_call5_c_0 : Ref sig .tc := ⟨.hbm, 81, rfl⟩
abbrev main_while0b_call5_c_1 : Ref sig .tc := ⟨.hbm, 82, rfl⟩
abbrev main_while0b_call5_c_2 : Ref sig .tc := ⟨.hbm, 83, rfl⟩
abbrev main_while0b_call5_v0 : Ref sig .tc := ⟨.hbm, 84, rfl⟩
abbrev main_while0b_v56 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_call6_c_2 : Ref sig .tc := ⟨.hbm, 89, rfl⟩
abbrev main_while0b_call6_v0 : Ref sig .tc := ⟨.hbm, 90, rfl⟩
abbrev main_while0b_v57 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_call7_v0 : Ref sig .tc := ⟨.hbm, 95, rfl⟩
abbrev main_while0b_v58 : Ref sig .tc := ⟨.hbm, 96, rfl⟩
abbrev main_while0b_v59 : Ref sig .tc := ⟨.hbm, 97, rfl⟩
abbrev main_while0b_v60 : Ref sig .tc := ⟨.hbm, 98, rfl⟩
abbrev main_while0b_v61 : Ref sig .tc := ⟨.hbm, 99, rfl⟩
abbrev main_while0b_v62 : Ref sig .tc := ⟨.hbm, 100, rfl⟩
abbrev main_while0b_v63 : Ref sig .tc := ⟨.hbm, 101, rfl⟩
abbrev main_while0b_v64 : Ref sig .tc := ⟨.hbm, 102, rfl⟩
abbrev main_while0b_v65 : Ref sig .tc := ⟨.hbm, 103, rfl⟩
abbrev main_while0b_call8_v0 : Ref sig .tc := ⟨.hbm, 104, rfl⟩
abbrev main_while0b_call8_c : Ref sig .tc := ⟨.hbm, 105, rfl⟩
abbrev main_while0b_call8_c_0 : Ref sig .tc := ⟨.hbm, 106, rfl⟩
abbrev main_while0b_call8_c_1 : Ref sig .tc := ⟨.hbm, 107, rfl⟩
abbrev main_while0b_call8_c_2 : Ref sig .tc := ⟨.hbm, 108, rfl⟩
abbrev main_while0b_v66 : Ref sig .tc := ⟨.hbm, 109, rfl⟩
abbrev main_while0b_c_13 : Ref sig .tc := ⟨.hbm, 110, rfl⟩
abbrev main_while0b_v67 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_cst_3 : Ref sig .tc := ⟨.hbm, 115, rfl⟩
abbrev main_v38 : Ref sig .tc := ⟨.hbm, 116, rfl⟩
abbrev main_v39 : Ref sig .tc := ⟨.hbm, 117, rfl⟩
abbrev main_cst_4 : Ref sig .tc := ⟨.hbm, 118, rfl⟩
abbrev main_v40 : Ref sig .tc := ⟨.hbm, 119, rfl⟩
abbrev main_v41 : Ref sig .tc := ⟨.hbm, 120, rfl⟩
abbrev main_cst_5 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_call9_v0 : Ref sig .tc := ⟨.hbm, 131, rfl⟩
abbrev main_call9_v1 : Ref sig .tc := ⟨.hbm, 132, rfl⟩
abbrev main_call9_cst : Ref sig .tc := ⟨.hbm, 133, rfl⟩
abbrev main_call9_v2 : Ref sig .tc := ⟨.hbm, 134, rfl⟩
abbrev main_call9_v3 : Ref sig .tc := ⟨.hbm, 135, rfl⟩
abbrev main_call9_cst_0 : Ref sig .tc := ⟨.hbm, 136, rfl⟩
abbrev main_call9_v4 : Ref sig .tc := ⟨.hbm, 137, rfl⟩
abbrev main_call9_v5 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x5632, .f32⟩
  | .hbm, ⟨22, _⟩ => ⟨S4x4096x2816, .f32⟩
  | .hbm, ⟨23, _⟩ => ⟨S4x4096x2816, .f32⟩
  | .hbm, ⟨24, _⟩ => ⟨S4x4096x2816, .f32⟩
  | .hbm, ⟨25, _⟩ => ⟨S4x4096x2816, .f32⟩
  | .hbm, ⟨26, _⟩ => ⟨S_, .f32⟩
  | .hbm, ⟨27, _⟩ => ⟨S4x4096x2816, .f32⟩
  | .hbm, ⟨28, _⟩ => ⟨S4x4096x2816, .f32⟩
  | .hbm, ⟨29, _⟩ => ⟨S_, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 17
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x256x1024, .bf16⟩
  | .hbm, ⟨3, _⟩ => ⟨S4x256x1024, .bf16⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x4096x1024 : Shape := ⟨3, ![4, 4096, 1024]⟩
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x256x1024, .bf16⟩
  | .hbm, ⟨3, _⟩ => ⟨S4x256x1024, .bf16⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x4x256, .f32⟩
  | .hbm, ⟨47, _⟩ => ⟨S4x256x1024, .f32⟩
  | .hbm, ⟨48, _⟩ => ⟨S4x256x4x256, .f32⟩
  | .hbm, ⟨49, _⟩ => ⟨S4x4x4096x256, .f32⟩
  | .hbm, ⟨50, _⟩ => ⟨S_, .f32⟩
  | .hbm, ⟨51, _⟩ => ⟨S4x4x4096, .f32⟩
  | .hbm, ⟨52, _⟩ => ⟨S_, .f32⟩
  | .hbm, ⟨53, _⟩ => ⟨S4x4x4096, .f32⟩
  | .hbm, ⟨54, _⟩ => ⟨S4x4x4096, .f32⟩
  | .hbm, ⟨55, _⟩ => ⟨S4x4x4096x1, .f32⟩
  | .hbm, ⟨56, _⟩ => ⟨S4x4x4096x256, .f32⟩
  | .hbm, ⟨57, _⟩ => ⟨S4x4x4096x256, .f32⟩
  | .hbm, ⟨58, _⟩ => ⟨S4x4x4096x256, .f32⟩
  | .hbm, ⟨59, _⟩ => ⟨S_, .f32⟩
  | .hbm, ⟨60, _⟩ => ⟨S4x4x4096, .f32⟩
  | .hbm, ⟨61, _⟩ => ⟨S4x4x4096x1, .f32⟩
  | .hbm, ⟨62, _⟩ => ⟨S4x4x4096x256, .f32⟩
  | .hbm, ⟨63, _⟩ => ⟨S4x4x4096x256, .f32⟩
  | .hbm, ⟨64, _⟩ => ⟨S4x256x1024, .f32⟩
  | .hbm, ⟨65, _⟩ => ⟨S4x256x4x256, .f32⟩
  | .hbm, ⟨66, _⟩ => ⟨S4x4x256x4096, .f32⟩
  | .hbm, ⟨67, _⟩ => ⟨S4x4096x4x256, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel4.lean ====
abbrev S4x256x1024 : Shape := ⟨3, ![4, 256, 1024]⟩
abbrev S1024 : Shape := ⟨1, ![1024]⟩
abbrev S2x1024x2048 : Shape := ⟨3, ![2, 1024, 2048]⟩
abbrev S1x1024 : Shape := ⟨2, ![1, 1024]⟩
abbrev S1024x1024 : Shape := ⟨2, ![1024, 1024]⟩
abbrev S1x1024x2048 : Shape := ⟨3, ![1, 1024, 2048]⟩
abbrev S1024x1 : Shape := ⟨2, ![1024, 1]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S2x1024x2048, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .local _ .vmem, ⟨0, _⟩ => ⟨S1024x1024, .f32⟩
  | .local _ .vmem, ⟨1, _⟩ => ⟨S1x1024, .f32⟩
  | .local _ .vmem, ⟨2, _⟩ => ⟨S1x1024x2048, .f32⟩
  | .local _ .vmem, ⟨3, _⟩ => ⟨S1024x1024, .bf16⟩
  | .local _ .vmem, ⟨4, _⟩ => ⟨S1024x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S4x256x1024 : Shape := ⟨3, ![4, 256, 1024]⟩
abbrev S1024 : Shape := ⟨1, ![1024]⟩
abbrev S2x1024x2048 : Shape := ⟨3, ![2, 1024, 2048]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S4x256x2048 : Shape := ⟨3, ![4, 256, 2048]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S2x1024x2048, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S1x1024x2048, .f32⟩
  | .hbm, ⟨20, _⟩ => ⟨S1024x2048, .f32⟩
  | .hbm, ⟨21, _⟩ => ⟨S4x256x2048, .f32⟩
  | .hbm, ⟨22, _⟩ => ⟨S1024x2048, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S112x512 : Shape := ⟨2, ![112, 512]⟩
abbrev S128x512 : Shape := ⟨2, ![128, 512]⟩
abbrev S16384x1024 : Shape := ⟨2, ![16384, 1024]⟩
abbrev S1x1024 : Shape := ⟨2, ![1, 1024]⟩
abbrev S1024x3200 : Shape := ⟨2, ![1024, 3200]⟩
abbrev S1x512 : Shape := ⟨2, ![1, 512]⟩
abbrev S16384x512 : Shape := ⟨2, ![16384, 512]⟩
abbrev S1024x1024 : Shape := ⟨2, ![1024, 1024]⟩
abbrev S1024x512 : Shape := ⟨2, ![1024, 512]⟩
abbrev S1024x1 : Shape := ⟨2, ![1024, 1]⟩
abbrev S1024x1152 : Shape := ⟨2, ![1024, 1152]⟩
abbrev S1024x128 : Shape := ⟨2, ![1024, 128]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S_, .f32⟩
  | .hbm, ⟨6, _⟩ => ⟨S112x512, .f32⟩
  | .hbm, ⟨7, _⟩ => ⟨S128x512, .f32⟩
  | .hbm, ⟨8, _⟩ => ⟨S128x512, .bf16⟩
  | .hbm, ⟨9, _⟩ => ⟨S16384x1024, .f32⟩
  | .hbm, ⟨10, _⟩ => ⟨S1x1024, .f32⟩
  | .hbm, ⟨11, _⟩ => ⟨S1024x3088, .bf16⟩
  | .hbm, ⟨12, _⟩ => ⟨S_, .i32⟩
  | .hbm, ⟨13, _⟩ => ⟨S_, .bf16⟩
  | .hbm, ⟨14, _⟩ => ⟨S1024x3200, .bf16⟩
  | .hbm, ⟨15, _⟩ => ⟨S1x512, .f32⟩
  | .hbm, ⟨16, _⟩ => ⟨S16384x512, .f32⟩
  | .hbm, ⟨17, _⟩ => ⟨S16384x512, .f32⟩
  | .hbm, ⟨18, _⟩ => ⟨S16384x1024, .bf16⟩
  | .hbm, ⟨19, _⟩ => ⟨S16384x1024, .f32⟩
  | .hbm, ⟨20, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S128x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x512, .f32⟩
  | .local _ .vmem, ⟨15, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x4096x1024 : Shape := ⟨3, ![4, 4096, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3088 : Shape := ⟨3, ![4, 4096, 3088]⟩
abbrev S16384x3088 : Shape := ⟨2, ![16384, 3088]⟩
abbrev S16384x512 : Shape := ⟨2, ![16384, 512]⟩
abbrev S16384x1024 : Shape := ⟨2, ![16384, 1024]⟩
abbrev S16384x16 : Shape := ⟨2, ![16384, 16]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x3088, .f32⟩
  | .hbm, ⟨22, _⟩ => ⟨S16384x3088, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x16, .f32⟩
  | .hbm, ⟨27, _⟩ => ⟨S16384x1024, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .i1⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== Kernel6.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S1024x512 : Shape := ⟨2, ![1024, 512]⟩
abbrev S512x1024 : Shape := ⟨2, ![512, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 18
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x256x1024, .bf16⟩
  | .hbm, ⟨4, _⟩ => ⟨S4x256x1024, .bf16⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1024x1024, .bf16⟩
  | .local _ .vmem, ⟨10, _⟩ => ⟨S1024x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1024x1024, .bf16⟩
  | .local _ .vmem, ⟨16, _⟩ => ⟨S1x1024x1024, .f32⟩
  | .local _ .vmem, ⟨17, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x256x1024, .bf16⟩
  | .hbm, ⟨4, _⟩ => ⟨S4x256x1024, .bf16⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x4096x1024, .bf16⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x4x256, .f32⟩
  | .hbm, ⟨49, _⟩ => ⟨S4x256x1024, .f32⟩
  | .hbm, ⟨50, _⟩ => ⟨S4x256x4x256, .f32⟩
  | .hbm, ⟨51, _⟩ => ⟨S4x4x4096x256, .f32⟩
  | .hbm, ⟨52, _⟩ => ⟨S_, .f32⟩
  | .hbm, ⟨53, _⟩ => ⟨S4x4x4096, .f32⟩
  | .hbm, ⟨54, _⟩ => ⟨S_, .f32⟩
  | .hbm, ⟨55, _⟩ => ⟨S4x4x4096, .f32⟩
  | .hbm, ⟨56, _⟩ => ⟨S4x4x4096, .f32⟩
  | .hbm, ⟨57, _⟩ => ⟨S4x4x4096x1, .f32⟩
  | .hbm, ⟨58, _⟩ => ⟨S4x4x4096x256, .f32⟩
  | .hbm, ⟨59, _⟩ => ⟨S4x4x4096x256, .f32⟩
  | .hbm, ⟨60, _⟩ => ⟨S4x4x4096x256, .f32⟩
  | .hbm, ⟨61, _⟩ => ⟨S_, .f32⟩
  | .hbm, ⟨62, _⟩ => ⟨S4x4x4096, .f32⟩
  | .hbm, ⟨63, _⟩ => ⟨S4x4x4096x1, .f32⟩
  | .hbm, ⟨64, _⟩ => ⟨S4x4x4096x256, .f32⟩
  | .hbm, ⟨65, _⟩ => ⟨S4x4x4096x256, .f32⟩
  | .hbm, ⟨66, _⟩ => ⟨S4x256x1024, .f32⟩
  | .hbm, ⟨67, _⟩ => ⟨S4x256x4x256, .f32⟩
  | .hbm, ⟨68, _⟩ => ⟨S4x4x256x4096, .f32⟩
  | .hbm, ⟨69, _⟩ => ⟨S4x4096x4x256, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S4x4096x1, .f32⟩
  | .hbm, ⟨83, _⟩ => ⟨S4x4096x1024, .f32⟩
  | .hbm, ⟨84, _⟩ => ⟨S4x4096x1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel7.lean ====
abbrev S4x4096x1024 : Shape := ⟨3, ![4, 4096, 1024]⟩
abbrev S1024 : Shape := ⟨1, ![1024]⟩
abbrev S1024x2376 : Shape := ⟨2, ![1024, 2376]⟩
abbrev S256 : Shape := ⟨1, ![256]⟩
abbrev S256x512 : Shape := ⟨2, ![256, 512]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S16384x1024 : Shape := ⟨2, ![16384, 1024]⟩
abbrev S1x1024 : Shape := ⟨2, ![1, 1024]⟩
abbrev S1024x64 : Shape := ⟨2, ![1024, 64]⟩
abbrev S1024x120 : Shape := ⟨2, ![1024, 120]⟩
abbrev S1024x1280 : Shape := ⟨2, ![1024, 1280]⟩
abbrev S1024x1024 : Shape := ⟨2, ![1024, 1024]⟩
abbrev S1024x8 : Shape := ⟨2, ![1024, 8]⟩
abbrev S1024x2560 : Shape := ⟨2, ![1024, 2560]⟩
abbrev S1x256 : Shape := ⟨2, ![1, 256]⟩
abbrev S512x16384 : Shape := ⟨2, ![512, 16384]⟩
abbrev S16384x512 : Shape := ⟨2, ![16384, 512]⟩
abbrev S32x512x512 : Shape := ⟨3, ![32, 512, 512]⟩
abbrev S16384x128 : Shape := ⟨2, ![16384, 128]⟩
abbrev S8x16384 : Shape := ⟨2, ![8, 16384]⟩
abbrev S512x1024 : Shape := ⟨2, ![512, 1024]⟩
abbrev S1024x512 : Shape := ⟨2, ![1024, 512]⟩
abbrev S2x512x512 : Shape := ⟨3, ![2, 512, 512]⟩
abbrev S1024x128 : Shape := ⟨2, ![1024, 128]⟩
abbrev S8x1024 : Shape := ⟨2, ![8, 1024]⟩
abbrev S1032x512 : Shape := ⟨2, ![1032, 512]⟩
abbrev S8x512 : Shape := ⟨2, ![8, 512]⟩
abbrev S1024x1 : Shape := ⟨2, ![1024, 1]⟩
abbrev S128x512 : Shape := ⟨2, ![128, 512]⟩
abbrev S1024x256 : Shape := ⟨2, ![1024, 256]⟩
abbrev S1x512x512 : Shape := ⟨3, ![1, 512, 512]⟩
abbrev S128x1024 : Shape := ⟨2, ![128, 1024]⟩

abbrev nBuf : Space → Nat
  | .hbm => 65
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2376, .f32⟩
  | .hbm, ⟨3, _⟩ => ⟨S256, .f32⟩
  | .hbm, ⟨4, _⟩ => ⟨S256x512, .f32⟩
  | .hbm, ⟨5, _⟩ => ⟨S256x512, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S8x64, .f32⟩
  | .hbm, ⟨10, _⟩ => ⟨S8x64x64, .f32⟩
  | .hbm, ⟨11, _⟩ => ⟨S8x64, .f32⟩
  | .hbm, ⟨12, _⟩ => ⟨S512, .f32⟩
  | .hbm, ⟨13, _⟩ => ⟨S1x512, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S8x1x8x1, .f32⟩
  | .hbm, ⟨22, _⟩ => ⟨S8x64x1x64, .f32⟩
  | .hbm, ⟨23, _⟩ => ⟨S8x64x8x64, .f32⟩
  | .hbm, ⟨24, _⟩ => ⟨S8x64x8x64, .f32⟩
  | .hbm, ⟨25, _⟩ => ⟨S8x64x8x64, .f32⟩
  | .hbm, ⟨26, _⟩ => ⟨S512x512, .f32⟩
  | .hbm, ⟨27, _⟩ => ⟨S512x512, .bf16⟩
  | .hbm, ⟨28, _⟩ => ⟨S1x512, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S8x1x8x1, .f32⟩
  | .hbm, ⟨37, _⟩ => ⟨S8x64x1x64, .f32⟩
  | .hbm, ⟨38, _⟩ => ⟨S8x64x8x64, .f32⟩
  | .hbm, ⟨39, _⟩ => ⟨S8x64x8x64, .f32⟩
  | .hbm, ⟨40, _⟩ => ⟨S8x64x8x64, .f32⟩
  | .hbm, ⟨41, _⟩ => ⟨S512x512, .f32⟩
  | .hbm, ⟨42, _⟩ => ⟨S512x512, .bf16⟩
  | .hbm, ⟨43, _⟩ => ⟨S1x512, .f32⟩
  | .hbm, ⟨44, _⟩ => ⟨S1x512, .f32⟩
  | .hbm, ⟨45, _⟩ => ⟨S16384x1024, .f32⟩
  | .hbm, ⟨46, _⟩ => ⟨S1x1024, .f32⟩
  | .hbm, ⟨47, _⟩ => ⟨S1024x64, .f32⟩
  | .hbm, ⟨48, _⟩ => ⟨S_, .f32⟩
  | .hbm, ⟨49, _⟩ => ⟨S1024x120, .f32⟩
  | .hbm, ⟨50, _⟩ => ⟨S1024x1280, .f32⟩
  | .hbm, ⟨51, _⟩ => ⟨S1024x1024, .f32⟩
  | .hbm, ⟨52, _⟩ => ⟨S1024x8, .f32⟩
  | .hbm, ⟨53, _⟩ => ⟨S1024x2560, .f32⟩
  | .hbm, ⟨54, _⟩ => ⟨S1024x2560, .bf16⟩
  | .hbm, ⟨55, _⟩ => ⟨S1x256, .f32⟩
  | .hbm, ⟨56, _⟩ => ⟨S256x512, .bf16⟩
  | .hbm, ⟨57, _⟩ => ⟨S256x512, .bf16⟩
  | .hbm, ⟨58, _⟩ => ⟨S512x16384, .bf16⟩
  | .hbm, ⟨59, _⟩ => ⟨S16384x512, .bf16⟩
  | .hbm, ⟨60, _⟩ => ⟨S32x512x512, .bf16⟩
  | .hbm, ⟨61, _⟩ => ⟨S512x16384, .bf16⟩
  | .hbm, ⟨62, _⟩ => ⟨S16384x128, .bf16⟩
  | .hbm, ⟨63, _⟩ => ⟨S8x16384, .f32⟩
  | .hbm, ⟨64, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1x256, .f32⟩
  | .local _ .vmem, ⟨5, _⟩ => ⟨S256x512, .bf16⟩
  | .local _ .vmem, ⟨6, _⟩ => ⟨S256x512, .bf16⟩
  | .local _ .vmem, ⟨7, _⟩ => ⟨S4x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | .local _ .vmem, ⟨18, _⟩ => ⟨S2x512x512, .bf16⟩
  | .local _ .vmem, ⟨19, _⟩ => ⟨S2x512x512, .bf16⟩
  | .local _ .vmem, ⟨20, _⟩ => ⟨S512x1024, .bf16⟩
  | .local _ .vmem, ⟨21, _⟩ => ⟨S512x1024, .bf16⟩
  | .local _ .vmem, ⟨22, _⟩ => ⟨S1024x128, .bf16⟩
  | .local _ .vmem, ⟨23, _⟩ => ⟨S1024x128, .bf16⟩
  | .local _ .vmem, ⟨24, _⟩ => ⟨S8x1024, .f32⟩
  | .local _ .vmem, ⟨25, _⟩ => ⟨S8x1024, .f32⟩
  | .local _ .vmem, ⟨26, _⟩ => ⟨S1024x512, .bf16⟩
  | .local _ .vmem, ⟨27, _⟩ => ⟨S1024x512, .bf16⟩
  | .local _ .vmem, ⟨28, _⟩ => ⟨S1032x512, .f32⟩
  | .local _ .vmem, ⟨29, _⟩ => ⟨S1024x512, .f32⟩
  | .local _ .vmem, ⟨30, _⟩ => ⟨S1024x512, .f32⟩
  | .local _ .vmem, ⟨31, _⟩ => ⟨S8x512, .f32⟩
  | .local _ .vmem, ⟨32, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev main_v42_3 : Ref sig .tc := ⟨.hbm, 61, rfl⟩
abbrev main_v42_4 : Ref sig .tc := ⟨.hbm, 62, rfl⟩
abbrev main_v42_5 : Ref sig .tc := ⟨.hbm, 63, rfl⟩
abbrev main_v42_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_404 : BitVec 32 := 0#32
  let c128_i32 : BitVec 32 := 128#32
  let v823 : BitVec 32 := Scalar.addi c0_i32_404 c128_i32
  let c1_i32_405 : BitVec 32 := 1#32
  ⟨c0_i32_404, v823, c1_i32_405⟩
def k0_mult1 (k0_t1 : Fin k0_t1_loop.trips) : BitVec 32 :=
  let c0_i32_404 : BitVec 32 := 0#32
  let c1_i32_405 : BitVec 32 := 1#32
  let arg26 : BitVec 32 := Scf.iv c0_i32_404 c1_i32_405 k0_t1
  let c8_i32 : BitVec 32 := 8#32
  let v833 : BitVec 32 := Scalar.muli arg26 c8_i32
  v833
def k0_off1 (k0_t1 : Fin k0_t1_loop.trips) : Fin 2 → Nat :=
  let c0_i32_404 : BitVec 32 := 0#32
  let c1_i32_405 : BitVec 32 := 1#32
  let arg26 : BitVec 32 := Scf.iv c0_i32_404 c1_i32_405 k0_t1
  let c8_i32 : BitVec 32 := 8#32
  let v833 : BitVec 32 := Scalar.muli arg26 c8_i32
  let v834 : BitVec 32 := v833
  let v835 : Index := Scalar.indexCast v834
  let c0_415 : Index := 0#32
  ![v835.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference7Ideal.lean ====
abbrev S4x4096x1024 : Shape := ⟨3, ![4, 4096, 1024]⟩
abbrev S1024 : Shape := ⟨1, ![1024]⟩
abbrev S1024x2376 : Shape := ⟨2, ![1024, 2376]⟩
abbrev S256 : Shape := ⟨1, ![256]⟩
abbrev S256x512 : Shape := ⟨2, ![256, 512]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2376 : Shape := ⟨3, ![4, 4096, 2376]⟩
abbrev S16384x2376 : Shape := ⟨2, ![16384, 2376]⟩
abbrev S16384x512 : Shape := ⟨2, ![16384, 512]⟩
abbrev S16384x256 : Shape := ⟨2, ![16384, 256]⟩
abbrev S16384x64 : Shape := ⟨2, ![16384, 64]⟩
abbrev S16384x8 : Shape := ⟨2, ![16384, 8]⟩
abbrev S16384 : Shape := ⟨1, ![16384]⟩
abbrev S16384x1 : Shape := ⟨2, ![16384, 1]⟩
abbrev S1x256 : Shape := ⟨2, ![1, 256]⟩
abbrev S32x512x512 : Shape := ⟨3, ![32, 512, 512]⟩
abbrev S512x16384 : Shape := ⟨2, ![512, 16384]⟩
abbrev S16384x128 : Shape := ⟨2, ![16384, 128]⟩
abbrev S8x16384 : Shape := ⟨2, ![8, 16384]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2376, .f32⟩
  | .hbm, ⟨3, _⟩ => ⟨S256, .f32⟩
  | .hbm, ⟨4, _⟩ => ⟨S256x512, .f32⟩
  | .hbm, ⟨5, _⟩ => ⟨S256x512, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S8x64, .f32⟩
  | .hbm, ⟨10, _⟩ => ⟨S8x64x64, .f32⟩
  | .hbm, ⟨11, _⟩ => ⟨S8x64, .f32⟩
  | .hbm, ⟨12, _⟩ => ⟨S512, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S4x4096x2376, .f32⟩
  | .hbm, ⟨30, _⟩ => ⟨S16384x2376, .f32⟩
  | .hbm, ⟨31, _⟩ => ⟨S16384x512, .f32⟩
  | .hbm, ⟨32, _⟩ => ⟨S16384x256, .f32⟩
  | .hbm, ⟨33, _⟩ => ⟨S16384x512, .f32⟩
  | .hbm, ⟨34, _⟩ => ⟨S16384x64, .f32⟩
  | .hbm, ⟨35, _⟩ => ⟨S16384x8, .f32⟩
  | .hbm, ⟨36, _⟩ => ⟨S16384x256, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x256, .f32⟩
  | .hbm, ⟨48, _⟩ => ⟨S16384x256, .f32⟩
  | .hbm, ⟨49, _⟩ => ⟨S1x256, .f32⟩
  | .hbm, ⟨50, _⟩ => ⟨S16384x256, .f32⟩
  | .hbm, ⟨51, _⟩ => ⟨S16384x256, .f32⟩
  | .hbm, ⟨52, _⟩ => ⟨S16384x512, .f32⟩
  | .hbm, ⟨53, _⟩ => ⟨S16384x512, .f32⟩
  | .hbm, ⟨54, _⟩ => ⟨S32x512x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S512x16384, .f32⟩
  | .hbm, ⟨59, _⟩ => ⟨S512x16384, .bf16⟩
  | .hbm, ⟨60, _⟩ => ⟨S16384x512, .bf16⟩
  | .hbm, ⟨61, _⟩ => ⟨S32x512x512, .f32⟩
  | .hbm, ⟨62, _⟩ => ⟨S32x512x512, .bf16⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S512x16384, .f32⟩
  | .hbm, ⟨67, _⟩ => ⟨S512x16384, .bf16⟩
  | .hbm, ⟨68, _⟩ => ⟨S16384x128, .f32⟩
  | .hbm, ⟨69, _⟩ => ⟨S16384x128, .bf16⟩
  | .hbm, ⟨70, _⟩ => ⟨S_, .f32⟩
  | .hbm, ⟨71, _⟩ => ⟨S16384x8, .f32⟩
  | .hbm, ⟨72, _⟩ => ⟨S16384x8, .f32⟩
  | .hbm, ⟨73, _⟩ => ⟨S8x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Proof.Gla.Model.lean ====
/-
  The gated linear attention recurrence as plain mathematics over extended reals, which both programs are compared with.

  The arrays of one batch entry are functions of a row number and a column number. Rows come in chunks of 64; head `h`
  owns columns `128 h …` of the queries, keys and gates and columns `256 h …` of the values. Within a chunk the gates
  are summed from its first row on (`cum`), the queries and keys are scaled by exponentials of that sum, and a row
  attends to the rows at or before it (`att`, `inner`); across chunks a state of 128 by 256 per head is carried
  (`state`). `mixed` adds the two parts, `result` normalises a head's 256 columns and multiplies by the gate
  `r / (1 + exp (-r))`.
-/
module

public import Idealize.ShloMosaic.Lib.Pointwise

@[expose] public section

noncomputable section

namespace Cert.Gla

open Idealize.ShloMosaic

/-- One batch entry of an array: rows and columns by number. -/
abbrev Rows : Type := ℕ → ℕ → EReal

/-- The gates of a row's chunk summed from the chunk's first row up to the row. -/
def cum (g : Rows) (a x : ℕ) : EReal := ∑ j : Fin 64, if (j : ℕ) ≤ a % 64 then g (64 * (a / 64) + j) x else 0

/-- The query scaled by the exponential of the gates' sum. -/
def qdec (q g : Rows) (a x : ℕ) : EReal := q a x * Ideal.exp (cum g a x)

/-- The key scaled by the exponential of minus the gates' sum. -/
def kinv (k g : Rows) (a x : ℕ) : EReal := k a x * Ideal.exp (-cum g a x)

/-- The key scaled by the exponential of the gates from the row to the chunk's end. -/
def krem (k g : Rows) (a x : ℕ) : EReal := k a x * Ideal.exp (cum g (64 * (a / 64) + 63) x - cum g a x)

/-- Head `h`'s score of row `a` against row `b` of its chunk: none for a later row. -/
def att (q k g : Rows) (h a b : ℕ) : EReal :=
  if b ≤ a then ∑ d : Fin 128, qdec q g a (128 * h + d) * kinv k g b (128 * h + d) else 0

/-- The part of a row's output that comes from its own chunk. -/
def inner (q k v g : Rows) (h a x : ℕ) : EReal :=
  ∑ j : Fin 64, att q k g h a (64 * (a / 64) + j) * v (64 * (a / 64) + j) (256 * h + x)

/-- What chunk `n` adds to head `h`'s state. -/
def update (k v g : Rows) (h x d n : ℕ) : EReal :=
  ∑ j : Fin 64, v (64 * n + j) (256 * h + x) * krem k g (64 * n + j) (128 * h + d)

/-- Head `h`'s state before chunk `n`, at value column `x` and key column `d`. -/
def state (k v g : Rows) (h x d : ℕ) : ℕ → EReal
  | 0 => 0
  | n + 1 => state k v g h x d n * Ideal.exp (cum g (64 * n + 63) (128 * h + d)) + update k v g h x d n

/-- A row's output before it is normalised: its own chunk's part and the carried state's. -/
def mixed (q k v g : Rows) (h a x : ℕ) : EReal :=
  inner q k v g h a x + ∑ d : Fin 128, qdec q g a (128 * h + d) * state k v g h x d (a / 64)

/-- The layer's result at row `a`, column `x` of head `h`: normalised over the head's columns, then gated. -/
def result (q k v g r : Rows) (hn : ℕ → EReal) (h a x : ℕ) : EReal :=
  (mixed q k v g h a x
      * Ideal.rsqrt (Ideal.div (∑ l : Fin 256, mixed q k v g h a l * mixed q k v g h a l) (Ideal.ofBits .f32 0x43800000#32)
          + Ideal.ofBits .f32 0x358637BD#32)
      * hn x)
    * (r a (256 * h + x) * Ideal.div 1 (1 + Ideal.exp (-r a (256 * h + x))))

end Cert.Gla

end
-- ==== Proof.Gla.Block.lean ====
/-
  The arrays the kernel's body computes from one block of 256 rows (four chunks), read entry by entry: the gates' sums,
  the scaled queries and keys, the mask. Each is the model's function at the block's row.
-/
module

public import proofs.«01_k».proof.Proof.Gen.KernelIdeal.Value
public import proofs.«01_k».proof.Proof.Gla.Model
public import Idealize.ShloMosaic.Lib.Pipeline.ValueKit

@[expose] public section

set_option maxRecDepth 16384

noncomputable section

namespace Cert.Gla.Block

open Idealize.ShloMosaic Idealize.ShloMosaic.TcCoe Idealize.SL.Sem Cert.KernelIdeal Cert.KernelIdeal.Gen

/-- The gates' sums of a block. -/
abbrev sums (g : Vec Ideal S1x256x512 .f32) (tri : Vec Ideal S256x256 .bf16) : FVec Ideal S256x512 .f32 := k0_pay3 g tri

/-- The keys scaled to the end of their chunk. -/
abbrev keysRem (k g : Vec Ideal S1x256x512 .f32) (tri : Vec Ideal S256x256 .bf16) : FVec Ideal S256x512 .bf16 :=
  k0_pay11 (k0_pay3 g tri) (k0_pay4 k) (k0_pay7 g tri) (k0_pay8 g tri) (k0_pay9 g tri)

/-- The mask: same chunk, and not later. -/
abbrev mask : IVec S256x256 1 := k0_pay16 (iota Kind.tc S256x256 32 [1] iota_S256x256_d1_w32) k0_pay12 k0_pay13 k0_pay14 k0_pay15

/-- A sum over a block's rows of terms that vanish off one chunk is the sum over that chunk. -/
theorem sum_chunk (F : Fin 256 → EReal) (n : ℕ) (hn : n < 4) (h : ∀ b : Fin 256, (b : ℕ) / 64 ≠ n → F b = 0) :
    ∑ b, F b = ∑ j : Fin 64, F ⟨64 * n + j, by omega⟩ := by
  symm
  refine Finset.sum_of_injOn (fun j : Fin 64 => (⟨64 * n + j, by omega⟩ : Fin 256)) ?_ (fun _ _ => Finset.mem_coe.2 (Finset.mem_univ _)) ?_
    (fun _ _ => rfl)
  · intro i _ j _ e
    have := Fin.ext_iff.1 e
    exact Fin.ext (by simp only at this; omega)
  · intro b _ hb
    refine h b fun e => hb ⟨⟨b - 64 * n, by omega⟩, Finset.mem_coe.2 (Finset.mem_univ _), Fin.ext ?_⟩
    simp only
    omega

/-- A value below `⊤` less itself is `0`, or `⊥` if the value is `⊥`. -/
theorem add_residue {y : EReal} (hy : y ≠ ⊤) : y = ⊥ ∧ y - y = ⊥ ∨ y - y = 0 := by
  induction y using EReal.rec with
  | bot => exact Or.inl ⟨rfl, by simp⟩
  | top => exact absurd rfl hy
  | coe r => exact Or.inr (by rw [← EReal.coe_sub, sub_self, EReal.coe_zero])

/-- Summing weights 0 or 1 times values below `⊤` and times their first two residues gives the sum of the values alone. -/
theorem sum_residues {n : ℕ} (w y : Fin n → EReal) (hw : ∀ j, w j = 0 ∨ w j = 1) (hy : ∀ j, y j ≠ ⊤) :
    ∑ j, w j * y j + ∑ j, w j * (y j - y j) + ∑ j, w j * (y j - y j - (y j - y j)) = ∑ j, w j * y j := by
  by_cases hb : ∃ j, w j = 1 ∧ y j = ⊥
  · obtain ⟨j, h1, h2⟩ := hb
    have e : ∑ j, w j * y j = ⊥ := by
      rw [← Finset.add_sum_erase _ _ (Finset.mem_univ j), h1, h2, one_mul, EReal.bot_add]
    rw [e, EReal.bot_add, EReal.bot_add]
  · have z : ∀ j, w j * (y j - y j) = 0 := fun j => by
      rcases hw j with h | h
      · rw [h, zero_mul]
      · rcases add_residue (hy j) with h' | h'
        · exact absurd ⟨j, h, h'.1⟩ hb
        · rw [h', mul_zero]
    have z' : ∀ j, w j * (y j - y j - (y j - y j)) = 0 := fun j => by
      rcases hw j with h | h
      · rw [h, zero_mul]
      · rcases add_residue (hy j) with h' | h'
        · exact absurd ⟨j, h, h'.1⟩ hb
        · rw [h', sub_zero, mul_zero]
    rw [Finset.sum_congr rfl fun j _ => z j, Finset.sum_congr rfl fun j _ => z' j, Finset.sum_const_zero, add_zero, add_zero]

/-- What a block's arrays are: rows `256 s …` of the batch entry's arrays, and the same-chunk triangle. -/
structure Holds (s : ℕ) (Q K G V R : Rows) (HN : ℕ → EReal) (q k : Vec Ideal S1x256x512 .f32) (v : Vec Ideal S1x256x1024 .bf16)
    (g : Vec Ideal S1x256x512 .f32) (r : Vec Ideal S1x256x1024 .f32) (hn : Vec Ideal S1x256 .f32) (tri : Vec Ideal S256x256 .bf16) : Prop where
  q : ∀ (a : Fin 256) (x : Fin 512), q (ix3 0 a x) = Q (256 * s + a) x
  k : ∀ (a : Fin 256) (x : Fin 512), k (ix3 0 a x) = K (256 * s + a) x
  v : ∀ (a : Fin 256) (x : Fin 1024), v (ix3 0 a x) = V (256 * s + a) x
  g : ∀ (a : Fin 256) (x : Fin 512), g (ix3 0 a x) = G (256 * s + a) x
  r : ∀ (a : Fin 256) (x : Fin 1024), r (ix3 0 a x) = R (256 * s + a) x
  hn : ∀ x : Fin 256, hn (ix2 0 x) = HN x
  tri : ∀ a b : Fin 256, tri (ix2 a b) = if b ≤ a ∧ (a : ℕ) / 64 = b / 64 then 1 else 0
  top : ∀ a x, G a x ≠ ⊤

section
variable {s : ℕ} {Q K G V R : Rows} {HN : ℕ → EReal} {q k : Vec Ideal S1x256x512 .f32} {v : Vec Ideal S1x256x1024 .bf16}
    {g : Vec Ideal S1x256x512 .f32} {r : Vec Ideal S1x256x1024 .f32} {hn : Vec Ideal S1x256 .f32} {tri : Vec Ideal S256x256 .bf16}
variable (H : Holds s Q K G V R HN q k v g r hn tri)
include H

/-- The three products with the triangle (of the gates and of what two roundings leave) add up to the gates' sums. -/
theorem sums_at (a : Fin 256) (x : Fin 512) : sums g tri (ix2 a x) = cum G (256 * s + a) x := by
  pointwise [k0_pay3]
  rw [sum_residues (fun j => tri (ix2 a j)) (fun j => g (ix3 0 j x))
    (fun j => by rw [H.tri]; split <;> simp) (fun j => by rw [H.g]; exact H.top _ _)]
  rw [sum_chunk _ ((a : ℕ) / 64) (by omega) (fun b hb => by rw [H.tri, if_neg (fun h => hb h.2.symm), zero_mul])]
  refine Finset.sum_congr rfl fun j _ => ?_
  simp only [H.tri, H.g, Fin.le_def]
  by_cases h : (j : ℕ) ≤ a % 64
  · rw [if_pos (by omega), if_pos (by omega), one_mul]
    congr 1
    omega
  · rw [if_neg (by omega), if_neg (by omega), zero_mul]

theorem qdec_at (a : Fin 256) (x : Fin 512) : k0_pay5 g tri q (ix2 a x) = qdec Q G (256 * s + a) x := by
  refine Eq.trans (b := q (ix3 0 a x) * Ideal.exp (sums g tri (ix2 a x))) (by pointwise [k0_pay5]) ?_
  rw [sums_at H, H.q]; rfl

theorem kinv_at (a : Fin 256) (x : Fin 512) : k0_pay6 g tri k (ix2 a x) = kinv K G (256 * s + a) x := by
  refine Eq.trans (b := k (ix3 0 a x) * Ideal.exp (0 - sums g tri (ix2 a x))) (by pointwise [k0_pay6, k0_pay4]) ?_
  rw [sums_at H, H.k, zero_sub]; rfl

theorem krem_at (a : Fin 256) (x : Fin 512) : keysRem k g tri (ix2 a x) = krem K G (256 * s + a) x := by
  have e : keysRem k g tri (ix2 a x)
      = k (ix3 0 a x) * Ideal.exp (sums g tri (ix2 ⟨64 * (a / 64) + 63, by omega⟩ x) - sums g tri (ix2 a x)) := by
    pointwise [k0_pay11, k0_pay4, k0_pay7, k0_pay8, k0_pay9, k0_pay10]
    blk_point []
  rw [e, sums_at H, sums_at H, H.k]
  unfold krem
  congr 4
  simp only
  omega

end

/-- A row's chunk, as the kernel divides words. -/
theorem chunk_word : ∀ a : Fin 256,
    Scalar.select
          (IntOp.andi
            (IntOp.cmpi CmpIPredicate.ne
              (IntOp.subi (BitVec.setWidth 32 (IntOp.cmpi CmpIPredicate.sgt (BitVec.ofNat 32 ↑a) 0#32))
                (BitVec.setWidth 32 (IntOp.cmpi CmpIPredicate.slt (BitVec.ofNat 32 ↑a) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑a) 64#32) 0#32))
          (IntOp.subi (IntOp.divsi ArithUnit.vector (BitVec.ofNat 32 ↑a) 64#32) 1#32)
          (IntOp.divsi ArithUnit.vector (BitVec.ofNat 32 ↑a) 64#32) = BitVec.ofNat 32 (a / 64) := by decide +kernel

theorem mask_words : ∀ a b : Fin 256, IntOp.andi (IntOp.cmpi CmpIPredicate.sge (BitVec.ofNat 32 ↑a) (BitVec.ofNat 32 ↑b))
      (IntOp.cmpi CmpIPredicate.eq (BitVec.ofNat 32 (a / 64)) (BitVec.ofNat 32 (b / 64)))
    = if b ≤ a ∧ (a : ℕ) / 64 = b / 64 then 1#1 else 0#1 := by decide +kernel

theorem mask_at (a b : Fin 256) : mask (ix2 a b) = if b ≤ a ∧ (a : ℕ) / 64 = b / 64 then 1#1 else 0#1 := by
  pointwise [k0_pay16, k0_pay12, k0_pay13, k0_pay14, k0_pay15]
  rw [chunk_word a, chunk_word b]
  exact mask_words a b

end Cert.Gla.Block

end
-- ==== Proof.Gla.Fold.lean ====
/-
  The sums one grid point computes, folded back into the model's functions. Rows are numbered from the block's start, and
  a head by the column offset its keys and values start at.
-/
module

public import proofs.«01_k».proof.Proof.Gla.Block

@[expose] public section

noncomputable section

namespace Cert.Gla.Fold

open Idealize.ShloMosaic Cert.Gla.Block

variable (Q K V G : Rows) (s x d : ℕ)

/-- The first chunk's step of the state. -/
theorem step0 (h H W : ℕ) (hH : H = 128 * h) (hW : W = 256 * h) :
    state K V G h x d (4 * s) * Ideal.exp (cum G (256 * s + 63) (H + d))
      + ∑ j : Fin 64, V (256 * s + j) (W + x) * krem K G (256 * s + j) (H + d) = state K V G h x d (4 * s + 1) := by
  subst hH hW
  simp only [state, update]
  rw [show 64 * (4 * s) = 256 * s by omega]

/-- The second chunk's. -/
theorem step1 (h H W : ℕ) (hH : H = 128 * h) (hW : W = 256 * h) :
    state K V G h x d (4 * s + 1) * Ideal.exp (cum G (256 * s + 127) (H + d))
      + ∑ j : Fin 64, V (256 * s + (64 + j)) (W + x) * krem K G (256 * s + (64 + j)) (H + d) = state K V G h x d (4 * s + 2) := by
  subst hH hW
  show _ = state K V G h x d (4 * s + 1) * Ideal.exp (cum G (64 * (4 * s + 1) + 63) (128 * h + d)) + update K V G h x d (4 * s + 1)
  unfold update
  simp only [show 64 * (4 * s + 1) = 256 * s + 64 by omega, Nat.add_assoc, Nat.reduceAdd]

/-- The third chunk's. -/
theorem step2 (h H W : ℕ) (hH : H = 128 * h) (hW : W = 256 * h) :
    state K V G h x d (4 * s + 2) * Ideal.exp (cum G (256 * s + 191) (H + d))
      + ∑ j : Fin 64, V (256 * s + (128 + j)) (W + x) * krem K G (256 * s + (128 + j)) (H + d) = state K V G h x d (4 * s + 3) := by
  subst hH hW
  show _ = state K V G h x d (4 * s + 2) * Ideal.exp (cum G (64 * (4 * s + 2) + 63) (128 * h + d)) + update K V G h x d (4 * s + 2)
  unfold update
  simp only [show 64 * (4 * s + 2) = 256 * s + 128 by omega, Nat.add_assoc, Nat.reduceAdd]

/-- The masked scores against the whole block leave the row's own chunk. -/
theorem inner_block (H W A : ℕ) (hA : A < 256) (hH : H % 128 = 0) (hW : W = 2 * H) :
    ∑ b : Fin 256, Scalar.select (if b ≤ ⟨A, hA⟩ ∧ A / 64 = (b : ℕ) / 64 then 1#1 else 0#1)
        ((∑ e : Fin 128, qdec Q G (256 * s + A) (H + e) * kinv K G (256 * s + b) (H + e)) * V (256 * s + b) (W + x)) 0
      = inner Q K V G (H / 128) (256 * s + A) x := by
  rw [sum_chunk _ (A / 64) (by omega) (fun b hb => by rw [if_neg (fun e => hb e.2.symm)]; rfl)]
  unfold inner att
  refine Finset.sum_congr rfl fun j _ => ?_
  rw [show 128 * (H / 128) = H by omega, show 256 * (H / 128) = W by omega,
    show 64 * ((256 * s + A) / 64) + (j : ℕ) = 256 * s + (64 * (A / 64) + j) by omega]
  by_cases hc : 64 * (A / 64) + (j : ℕ) ≤ A
  · rw [if_pos ⟨hc, by simp only; omega⟩, if_pos (by omega)]; rfl
  · rw [if_neg (fun e => hc e.1), if_neg (by omega), zero_mul]; rfl

/-- The two parts of a row's output. -/
theorem mixed_eq (h H A i : ℕ) (hH : H = 128 * h) (hi : (256 * s + A) / 64 = i) :
    inner Q K V G h (256 * s + A) x + ∑ e : Fin 128, qdec Q G (256 * s + A) (H + e) * state K V G h x e i
      = mixed Q K V G h (256 * s + A) x := by
  subst hH hi; rfl

/-! The first head's columns start at 0. -/

theorem step0_zero : state K V G 0 x d (4 * s) * Ideal.exp (cum G (256 * s + 63) d)
      + ∑ j : Fin 64, V (256 * s + j) x * krem K G (256 * s + j) d = state K V G 0 x d (4 * s + 1) := by
  simpa only [Nat.zero_add] using step0 K V G s x d 0 0 0 rfl rfl

theorem step1_zero : state K V G 0 x d (4 * s + 1) * Ideal.exp (cum G (256 * s + 127) d)
      + ∑ j : Fin 64, V (256 * s + (64 + j)) x * krem K G (256 * s + (64 + j)) d = state K V G 0 x d (4 * s + 2) := by
  simpa only [Nat.zero_add] using step1 K V G s x d 0 0 0 rfl rfl

theorem step2_zero : state K V G 0 x d (4 * s + 2) * Ideal.exp (cum G (256 * s + 191) d)
      + ∑ j : Fin 64, V (256 * s + (128 + j)) x * krem K G (256 * s + (128 + j)) d = state K V G 0 x d (4 * s + 3) := by
  simpa only [Nat.zero_add] using step2 K V G s x d 0 0 0 rfl rfl

theorem inner_block_zero (A : ℕ) (hA : A < 256) :
    ∑ b : Fin 256, Scalar.select (if b ≤ ⟨A, hA⟩ ∧ A / 64 = (b : ℕ) / 64 then 1#1 else 0#1)
        ((∑ e : Fin 128, qdec Q G (256 * s + A) e * kinv K G (256 * s + b) e) * V (256 * s + b) x) 0
      = inner Q K V G 0 (256 * s + A) x := by
  simpa only [Nat.zero_add, Nat.zero_div] using inner_block Q K V G s x 0 0 A hA rfl rfl

theorem mixed_eq_zero (A i : ℕ) (hi : (256 * s + A) / 64 = i) :
    inner Q K V G 0 (256 * s + A) x + ∑ e : Fin 128, qdec Q G (256 * s + A) e * state K V G 0 x e i
      = mixed Q K V G 0 (256 * s + A) x := by
  simpa only [Nat.zero_add] using mixed_eq Q K V G s x 0 0 A i rfl hi

/-- The result's column, from the head's offset and the column in the head. -/
theorem result_eq (R : Rows) (HN : ℕ → EReal) (h W A : ℕ) (hx : x < 256) (hW : W = 256 * h) :
    (mixed Q K V G h (256 * s + A) x
      * Ideal.rsqrt (Ideal.div (∑ l : Fin 256, mixed Q K V G h (256 * s + A) l * mixed Q K V G h (256 * s + A) l) (Ideal.ofBits .f32 0x43800000#32)
          + Ideal.ofBits .f32 0x358637BD#32)
      * HN x)
    * (R (256 * s + A) (W + x) * Ideal.div 1 (1 + Ideal.exp (-R (256 * s + A) (W + x))))
      = result Q K V G R HN ((W + x) / 256) (256 * s + A) ((W + x) % 256) := by
  subst hW
  rw [show (256 * h + x) / 256 = h by omega, show (256 * h + x) % 256 = x by omega]
  rfl

theorem result_eq_zero (R : Rows) (HN : ℕ → EReal) (A : ℕ) (hx : x < 256) :
    (mixed Q K V G 0 (256 * s + A) x
      * Ideal.rsqrt (Ideal.div (∑ l : Fin 256, mixed Q K V G 0 (256 * s + A) l * mixed Q K V G 0 (256 * s + A) l) (Ideal.ofBits .f32 0x43800000#32)
          + Ideal.ofBits .f32 0x358637BD#32)
      * HN x)
    * (R (256 * s + A) x * Ideal.div 1 (1 + Ideal.exp (-R (256 * s + A) x)))
      = result Q K V G R HN (x / 256) (256 * s + A) (x % 256) := by
  simpa only [Nat.zero_add] using result_eq Q K V G s x R HN 0 0 A hx rfl

end Cert.Gla.Fold

end
-- ==== Proof.Gla.Carry.lean ====
/-
  One grid point of the kernel: four chunks of one batch entry. Starting from the state before its first chunk, the point
  leaves the state after its last.
-/
module

public import proofs.«01_k».proof.Proof.Gla.Block
public import Idealize.ShloMosaic.Lib.Pointwise
public import Idealize.ShloMosaic.Lib.Pipeline.ReadBack

@[expose] public section

set_option maxRecDepth 16384

noncomputable section

namespace Cert.Gla.Step

open Idealize.ShloMosaic Idealize.ShloMosaic.TcCoe Idealize.SL.Sem Cert.KernelIdeal Cert.KernelIdeal.Gen Cert.Gla.Block

variable (m : (ℓ : Loc nD τ sig) → Buf (Elt Ideal) ℓ) (c : Dev nD)

/-- Stores that cover a buffer leave nothing of what was stored before them. -/
theorem canon_cut {Val : EltTy → Type} [∀ e, Nonempty (Val e)] {s : Shape} {e : EltTy} (L' : List (View.Piece Val s e)) :
    ∀ L : List (View.Piece Val s e), ∀ y : s.Idx, (∃ p ∈ L, y ∈ p.1.set) → View.canon (L ++ L') y = View.canon L y
  | [], _, h => by obtain ⟨_, hm, _⟩ := h; exact absurd hm List.not_mem_nil
  | p :: L, y, h => by
    rw [List.cons_append]
    by_cases hy : y ∈ p.1.set
    · obtain ⟨r, w⟩ := p
      obtain ⟨x, rfl⟩ : ∃ x, r.emb x = y := r.exists_idx_of_mem hy
      rw [View.canon_cons_emb, View.canon_cons_emb]
    · rw [View.canon_cons_of_not_mem p _ hy, View.canon_cons_of_not_mem p L hy]
      obtain ⟨p', hm, hy'⟩ := h
      rcases List.mem_cons.mp hm with rfl | hm
      · exact absurd hy' hy
      · exact canon_cut L' L y ⟨p', hm, hy'⟩

/-- … four of them. -/
theorem canon_cut_four {Val : EltTy → Type} [∀ e, Nonempty (Val e)] {s : Shape} {e : EltTy} {u : Val e}
    (p0 p1 p2 p3 p4 : View.Piece Val s e) (y : s.Idx) (h : ∃ p ∈ [p0, p1, p2, p3], y ∈ p.1.set) (hv : View.canon [p0, p1, p2, p3] y = u) :
    View.canon [p0, p1, p2, p3, p4] y = u :=
  (canon_cut [p4] [p0, p1, p2, p3] y h).trans hv

/-- Four chunks' steps of the state, with the rows numbered from the block's start. -/
theorem state_four (K V G : Rows) (h x d s : ℕ) : state K V G h x d (4 * s + 4)
    = (((state K V G h x d (4 * s) * Ideal.exp (cum G (256 * s + 63) (128 * h + d))
          + ∑ j : Fin 64, V (256 * s + j) (256 * h + x) * krem K G (256 * s + j) (128 * h + d))
        * Ideal.exp (cum G (256 * s + 127) (128 * h + d))
          + ∑ j : Fin 64, V (256 * s + (64 + j)) (256 * h + x) * krem K G (256 * s + (64 + j)) (128 * h + d))
        * Ideal.exp (cum G (256 * s + 191) (128 * h + d))
          + ∑ j : Fin 64, V (256 * s + (128 + j)) (256 * h + x) * krem K G (256 * s + (128 + j)) (128 * h + d))
        * Ideal.exp (cum G (256 * s + 255) (128 * h + d))
          + ∑ j : Fin 64, V (256 * s + (192 + j)) (256 * h + x) * krem K G (256 * s + (192 + j)) (128 * h + d) := by
  simp only [state, update]
  have e0 : 64 * (4 * s) = 256 * s := by omega
  have e1 : 64 * (4 * s + 1) = 256 * s + 64 := by omega
  have e2 : 64 * (4 * s + 2) = 256 * s + 128 := by omega
  have e3 : 64 * (4 * s + 3) = 256 * s + 192 := by omega
  rw [e0, e1, e2, e3]
  simp only [Nat.add_assoc, Nat.reduceAdd]

section
variable {s : ℕ} {Q K G V R : Rows} {HN : ℕ → EReal}

set_option maxHeartbeats 1000000 in
/-- A point that is not its batch entry's first takes the state the point before left through four chunks. -/
theorem state_B (t : Fin cfg0.N) (ht : ¬ t.val % 16 = 0)
    (H : Holds s Q K G V R HN (iblk m c 0 t) (iblk m c 1 t) (iblk m c 2 t) (iblk m c 3 t) (iblk m c 4 t) (iblk m c 5 t) (iblk m c 6 t))
    (hX : ∀ y : S4x256x128.Idx, (outsAt0 m c (t.val - 1) (Nat.lt_of_le_of_lt (Nat.sub_le _ _) t.isLt)).2 y
      = state K V G (y 0) (y 1) (y 2) (4 * s)) :
    (outsAt0 m c t.val t.isLt).2 = fun y => state K V G (y 0) (y 1) (y 2) (4 * s + 4) := by
  rw [outsAt0_B m c t ht]
  frame_open
  simp (disch := decide) only [↓ View.readCov_skip, ↓ View.readCov_cons_toLoadRect, ↓ View.readCov_fill, read_unread_whole]
  frame_out
  simp only [read_unread_whole]
  have hS : ∀ (a : Fin 256) (x : Fin 512), k0_pay3 (iblk m c 3 t) (iblk m c 6 t) (ix2 a x) = _ := sums_at H
  have hK : ∀ (a : Fin 256) (x : Fin 512), k0_pay11 (k0_pay3 (iblk m c 3 t) (iblk m c 6 t)) (k0_pay4 (iblk m c 1 t))
    (k0_pay7 (iblk m c 3 t) (iblk m c 6 t)) (k0_pay8 (iblk m c 3 t) (iblk m c 6 t)) (k0_pay9 (iblk m c 3 t) (iblk m c 6 t)) (ix2 a x) = _ := krem_at H
  have hV := H.v
  generalize (outsAt0 m c (t.val - 1) _).2 = X at *
  generalize k0_pay11 (k0_pay3 (iblk m c 3 t) (iblk m c 6 t)) (k0_pay4 (iblk m c 1 t)) (k0_pay7 (iblk m c 3 t) (iblk m c 6 t)) (k0_pay8 (iblk m c 3 t) (iblk m c 6 t)) (k0_pay9 (iblk m c 3 t) (iblk m c 6 t)) = kr at *
  unfold k0_pay7 k0_pay8 k0_pay9
  generalize k0_pay3 (iblk m c 3 t) (iblk m c 6 t) = sm at *
  generalize iblk m c 2 t = v at *
  funext y
  canon_tiles x h
  all_goals
    pointwise [k0_pay7, k0_pay8, k0_pay9, k0_pay10, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
    rw [h0, h1, h2, show (x 0 : ℕ) = 0 by omega]
    simp only [hS, hK, hV, hX]
    rw [state_four]
    simp only [Nat.reduceMul, Nat.reduceAdd, Nat.zero_add, Nat.mul_zero]
    rfl

set_option maxHeartbeats 1000000 in
/-- A batch entry's first point starts from the zero state. -/
theorem state_A (t : Fin cfg0.N) (ht : t.val % 16 = 0) (hs : s = 0)
    (H : Holds s Q K G V R HN (iblk m c 0 t) (iblk m c 1 t) (iblk m c 2 t) (iblk m c 3 t) (iblk m c 4 t) (iblk m c 5 t) (iblk m c 6 t)) :
    (outsAt0 m c t.val t.isLt).2 = fun y => state K V G (y 0) (y 1) (y 2) (4 * s + 4) := by
  rw [outsAt0_A m c t ht]
  frame_open
  simp (disch := decide) only [↓ View.readCov_skip, ↓ View.readCov_cons_toLoadRect, ↓ View.readCov_fill, read_unread_whole]
  frame_out
  have hS : ∀ (a : Fin 256) (x : Fin 512), k0_pay3 (iblk m c 3 t) (iblk m c 6 t) (ix2 a x) = _ := sums_at H
  have hK : ∀ (a : Fin 256) (x : Fin 512), k0_pay11 (k0_pay3 (iblk m c 3 t) (iblk m c 6 t)) (k0_pay4 (iblk m c 1 t))
    (k0_pay7 (iblk m c 3 t) (iblk m c 6 t)) (k0_pay8 (iblk m c 3 t) (iblk m c 6 t)) (k0_pay9 (iblk m c 3 t) (iblk m c 6 t)) (ix2 a x) = _ := krem_at H
  have hV := H.v
  have hX : ∀ y : S4x256x128.Idx, k0_pay2 (F := Ideal) y = state K V G (y 0) (y 1) (y 2) (4 * s) := fun y => by
    refine Eq.trans (b := 0) ?_ (by rw [hs]; rfl)
    idx_vars y
    pointwise [k0_pay2]
  generalize k0_pay2 (F := Ideal) = X at *
  generalize k0_pay11 (k0_pay3 (iblk m c 3 t) (iblk m c 6 t)) (k0_pay4 (iblk m c 1 t)) (k0_pay7 (iblk m c 3 t) (iblk m c 6 t)) (k0_pay8 (iblk m c 3 t) (iblk m c 6 t)) (k0_pay9 (iblk m c 3 t) (iblk m c 6 t)) = kr at *
  unfold k0_pay7 k0_pay8 k0_pay9
  generalize k0_pay3 (iblk m c 3 t) (iblk m c 6 t) = sm at *
  generalize iblk m c 2 t = v at *
  funext y
  refine canon_cut_four _ _ _ _ _ y ?_ ?_
  · exact View.cover_of_tiled_head _ _ _ (by rfl) y
  canon_tiles x h
  all_goals
    pointwise [k0_pay7, k0_pay8, k0_pay9, k0_pay10, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
    rw [h0, h1, h2, show (x 0 : ℕ) = 0 by omega]
    simp only [hS, hK, hV, hX]
    rw [state_four]
    simp only [Nat.reduceMul, Nat.reduceAdd, Nat.zero_add, Nat.mul_zero]
    rfl

end

end Cert.Gla.Step

end
-- ==== Proof.Gla.Output.lean ====
/-
  One grid point of the kernel: the rows it writes. Each of the sixteen stores (a head's columns of a chunk's rows) is that
  part of the layer's result, given the state before the point's first chunk.
-/
module

public import proofs.«01_k».proof.Proof.Gla.Fold
public import proofs.«01_k».proof.Proof.Gla.Carry
public import Idealize.ShloMosaic.Lib.Pointwise
public import Idealize.ShloMosaic.Lib.Pipeline.ReadBack

@[expose] public section

set_option maxRecDepth 16384

noncomputable section

namespace Cert.Gla.Step

open Idealize.ShloMosaic Idealize.ShloMosaic.TcCoe Idealize.SL.Sem Cert.KernelIdeal Cert.KernelIdeal.Gen Cert.Gla.Block Cert.Gla.Fold

variable (m : (ℓ : Loc nD τ sig) → Buf (Elt Ideal) ℓ) (c : Dev nD)

/-- 64 rows of a 256 by 256 array lie in it. -/
theorem rows_inb (a : ℕ) (ha : a + 64 ≤ 256) : ∀ i, (![a, 0] : Fin 2 → ℕ) i + (![64, 256] : Fin 2 → ℕ) i ≤ S256x256.size i := fun i => by
  fin_cases i
  · exact ha
  · exact le_refl 256

/-- A load inside the head piece of the store of the chunks' inner parts reads that piece there. -/
theorem inner_read (v : View sig Kind.tc Space.vmem S256x1024 .f32) (p a : ℕ) (inb inb')
    (w : S256x256.Idx → Elt Ideal .f32) (L : List (View.Piece (Elt Ideal) S256x1024 .f32)) (ha : a + 64 ≤ 256) :
    v.readCov ((⟨Rect.unit ![0, p] ![256, 256] inb, w⟩ : View.Piece (Elt Ideal) S256x1024 .f32) :: L)
        (Rect.unit (s := S256x1024) ![a, p] ![64, 256] inb').toLoadRect
      = View.ld w (Rect.unit (s := S256x256) ![a, 0] ![64, 256] (rows_inb a ha)) := by
  rw [View.readCov_eq_canon']
  funext j
  refine Eq.trans (congrArg _ ?_) (View.canon_cons_emb (Rect.unit (s := S256x1024) ![0, p] ![256, 256] inb) w L _)
  funext i
  fin_cases i
  · exact Fin.ext (by simp [LoadRect.idx, Rect.emb, Rect.unit])
  · exact Fin.ext (by simp [LoadRect.idx, Rect.emb, Rect.unit])

section
variable {s : ℕ} {Q K G V R : Rows} {HN : ℕ → EReal}
set_option maxHeartbeats 4000000 in
/-- What a point that is not its batch entry's first writes. -/
theorem out_B (t : Fin cfg0.N) (ht : ¬ t.val % 16 = 0)
    (H : Holds s Q K G V R HN (iblk m c 0 t) (iblk m c 1 t) (iblk m c 2 t) (iblk m c 3 t) (iblk m c 4 t) (iblk m c 5 t) (iblk m c 6 t))
    (hX : ∀ y : S4x256x128.Idx, (outsAt0 m c (t.val - 1) (Nat.lt_of_le_of_lt (Nat.sub_le _ _) t.isLt)).2 y
      = state K V G (y 0) (y 1) (y 2) (4 * s)) :
    (outsAt0 m c t.val t.isLt).1 = fun y => result Q K V G R HN ((y 2 : ℕ) / 256) (256 * s + y 1) ((y 2 : ℕ) % 256) := by
  rw [outsAt0_B m c t ht]
  frame_open
  simp (disch := decide) only [↓ View.readCov_skip, ↓ View.readCov_cons_toLoadRect, ↓ View.readCov_fill, read_unread_whole]
  frame_out
  simp only [read_unread_whole]
  replace hX : ∀ a b d, (outsAt0 m c (t.val - 1) (Nat.lt_of_le_of_lt (Nat.sub_le _ _) t.isLt)).2 (ix3 a b d)
      = state K V G a b d (4 * s) := fun a b d => hX (ix3 a b d)
  have hS : ∀ (a : Fin 256) (x : Fin 512), k0_pay3 (iblk m c 3 t) (iblk m c 6 t) (ix2 a x) = _ := sums_at H
  have hK : ∀ (a : Fin 256) (x : Fin 512), k0_pay11 (k0_pay3 (iblk m c 3 t) (iblk m c 6 t)) (k0_pay4 (iblk m c 1 t))
    (k0_pay7 (iblk m c 3 t) (iblk m c 6 t)) (k0_pay8 (iblk m c 3 t) (iblk m c 6 t)) (k0_pay9 (iblk m c 3 t) (iblk m c 6 t)) (ix2 a x) = _ := krem_at H
  have hV := H.v
  have hR := H.r
  have hN := H.hn
  have hQd := qdec_at H
  have hKi := kinv_at H
  have hM : ∀ a b : Fin 256, k0_pay16 (iota Kind.tc S256x256 32 [1] iota_S256x256_d1_w32) k0_pay12 k0_pay13 k0_pay14 k0_pay15 (ix2 a b) = _ := mask_at
  generalize (outsAt0 m c (t.val - 1) _).2 = X at *
  generalize k0_pay11 (k0_pay3 (iblk m c 3 t) (iblk m c 6 t)) (k0_pay4 (iblk m c 1 t)) (k0_pay7 (iblk m c 3 t) (iblk m c 6 t)) (k0_pay8 (iblk m c 3 t) (iblk m c 6 t)) (k0_pay9 (iblk m c 3 t) (iblk m c 6 t)) = kr at *
  generalize k0_pay5 (iblk m c 3 t) (iblk m c 6 t) (iblk m c 0 t) = qd at *
  generalize k0_pay6 (iblk m c 3 t) (iblk m c 6 t) (iblk m c 1 t) = ki at *
  unfold k0_pay7 k0_pay8 k0_pay9
  generalize k0_pay3 (iblk m c 3 t) (iblk m c 6 t) = sm at *
  generalize iblk m c 2 t = v at *
  generalize iblk m c 4 t = r at *
  generalize iblk m c 5 t = hn at *
  funext y
  canon_tiles x h
  all_goals
    rw [inner_read] <;> [skip; omega]
    rw [h1, h2]
    clear h0 h1 h2 x0_lt x1_lt x2_lt
    idx_vars x
    pointwise [k0_pay1, k0_pay7, k0_pay8, k0_pay9, k0_pay10, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
    simp only [hS, hK, hV, hX, hR, hN, hQd, hKi, hM, show ((63 : Fin 256) : ℕ) = 63 from rfl, show ((127 : Fin 256) : ℕ) = 127 from rfl,
        show ((191 : Fin 256) : ℕ) = 191 from rfl, show ((3 : Fin 4) : ℕ) = 3 from rfl, show ((2 : Fin 4) : ℕ) = 2 from rfl,
        show ((1 : Fin 4) : ℕ) = 1 from rfl, show ((0 : Fin 4) : ℕ) = 0 from rfl, zero_sub]
    simp (disch := omega) only [inner_block, inner_block_zero, step0, step1, step2, step0_zero, step1_zero, step2_zero, Nat.reduceDiv]
    simp (disch := omega) only [mixed_eq, mixed_eq_zero]
    first
      | exact result_eq _ _ _ _ _ _ _ _ _ _ _ (Fin.isLt _) rfl
      | exact result_eq_zero _ _ _ _ _ _ _ _ _ (Fin.isLt _)

set_option maxHeartbeats 4000000 in
/-- What a batch entry's first point writes: the state before it is zero. -/
theorem out_A (t : Fin cfg0.N) (ht : t.val % 16 = 0) (hs : s = 0)
    (H : Holds s Q K G V R HN (iblk m c 0 t) (iblk m c 1 t) (iblk m c 2 t) (iblk m c 3 t) (iblk m c 4 t) (iblk m c 5 t) (iblk m c 6 t)) :
    (outsAt0 m c t.val t.isLt).1 = fun y => result Q K V G R HN ((y 2 : ℕ) / 256) (256 * s + y 1) ((y 2 : ℕ) % 256) := by
  rw [outsAt0_A m c t ht]
  frame_open
  simp (disch := decide) only [↓ View.readCov_skip, ↓ View.readCov_cons_toLoadRect, ↓ View.readCov_fill, read_unread_whole]
  frame_out
  have hX : ∀ p q w, k0_pay2 (F := Ideal) (ix3 p q w) = state K V G p q w (4 * s) := fun p q w => by
    refine Eq.trans (b := 0) ?_ (by rw [hs]; rfl)
    pointwise [k0_pay2]
  have hS : ∀ (a : Fin 256) (x : Fin 512), k0_pay3 (iblk m c 3 t) (iblk m c 6 t) (ix2 a x) = _ := sums_at H
  have hK : ∀ (a : Fin 256) (x : Fin 512), k0_pay11 (k0_pay3 (iblk m c 3 t) (iblk m c 6 t)) (k0_pay4 (iblk m c 1 t))
    (k0_pay7 (iblk m c 3 t) (iblk m c 6 t)) (k0_pay8 (iblk m c 3 t) (iblk m c 6 t)) (k0_pay9 (iblk m c 3 t) (iblk m c 6 t)) (ix2 a x) = _ := krem_at H
  have hV := H.v
  have hR := H.r
  have hN := H.hn
  have hQd := qdec_at H
  have hKi := kinv_at H
  have hM : ∀ a b : Fin 256, k0_pay16 (iota Kind.tc S256x256 32 [1] iota_S256x256_d1_w32) k0_pay12 k0_pay13 k0_pay14 k0_pay15 (ix2 a b) = _ := mask_at
  generalize k0_pay2 (F := Ideal) = X at *
  generalize k0_pay11 (k0_pay3 (iblk m c 3 t) (iblk m c 6 t)) (k0_pay4 (iblk m c 1 t)) (k0_pay7 (iblk m c 3 t) (iblk m c 6 t)) (k0_pay8 (iblk m c 3 t) (iblk m c 6 t)) (k0_pay9 (iblk m c 3 t) (iblk m c 6 t)) = kr at *
  generalize k0_pay5 (iblk m c 3 t) (iblk m c 6 t) (iblk m c 0 t) = qd at *
  generalize k0_pay6 (iblk m c 3 t) (iblk m c 6 t) (iblk m c 1 t) = ki at *
  unfold k0_pay7 k0_pay8 k0_pay9
  generalize k0_pay3 (iblk m c 3 t) (iblk m c 6 t) = sm at *
  generalize iblk m c 2 t = v at *
  generalize iblk m c 4 t = r at *
  generalize iblk m c 5 t = hn at *
  funext y
  canon_tiles x h
  all_goals
    rw [inner_read] <;> [skip; omega]
    rw [h1, h2]
    clear h0 h1 h2 x0_lt x1_lt x2_lt
    idx_vars x
    pointwise [k0_pay1, k0_pay7, k0_pay8, k0_pay9, k0_pay10, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
    simp only [hS, hK, hV, hX, hR, hN, hQd, hKi, hM, show ((63 : Fin 256) : ℕ) = 63 from rfl, show ((127 : Fin 256) : ℕ) = 127 from rfl,
        show ((191 : Fin 256) : ℕ) = 191 from rfl, show ((3 : Fin 4) : ℕ) = 3 from rfl, show ((2 : Fin 4) : ℕ) = 2 from rfl,
        show ((1 : Fin 4) : ℕ) = 1 from rfl, show ((0 : Fin 4) : ℕ) = 0 from rfl, zero_sub]
    simp (disch := omega) only [inner_block, inner_block_zero, step0, step1, step2, step0_zero, step1_zero, step2_zero, Nat.reduceDiv]
    simp (disch := omega) only [mixed_eq, mixed_eq_zero]
    first
      | exact result_eq _ _ _ _ _ _ _ _ _ _ _ (Fin.isLt _) rfl
      | exact result_eq_zero _ _ _ _ _ _ _ _ _ (Fin.isLt _)

end

end Cert.Gla.Step

end
-- ==== Proof.Gla.Arrays.lean ====
/-
  The layer's result over whole arrays, each batch entry read by row and column number.
-/
module

public import proofs.«01_k».proof.Proof.Gla.Model
public import Idealize.ShloMosaic.Lib.ValueIdxCoords

@[expose] public section

noncomputable section

namespace Cert.Gla

open Idealize.ShloMosaic

/-- One batch entry of an array, by row and column number. -/
def rows {w : ℕ} (A : (⟨3, ![4, 4096, w]⟩ : Shape).Idx → EReal) (b : ℕ) : Rows := fun a x =>
  if h : b < 4 ∧ a < 4096 ∧ x < w then A (ix3 ⟨b, h.1⟩ ⟨a, h.2.1⟩ ⟨x, h.2.2⟩) else 0

theorem rows_at {w : ℕ} (A : (⟨3, ![4, 4096, w]⟩ : Shape).Idx → EReal) (b a x : ℕ) (hb : b < 4) (ha : a < 4096) (hx : x < w) :
    rows A b a x = A (ix3 ⟨b, hb⟩ ⟨a, ha⟩ ⟨x, hx⟩) := dif_pos ⟨hb, ha, hx⟩

/-- A row of numbers, by number. -/
def row (A : (⟨1, ![256]⟩ : Shape).Idx → EReal) : ℕ → EReal := fun x => if h : x < 256 then A (ix1 ⟨x, h⟩) else 0

theorem row_at (A : (⟨1, ![256]⟩ : Shape).Idx → EReal) (x : ℕ) (hx : x < 256) : row A x = A (ix1 ⟨x, hx⟩) := dif_pos hx

/-- An array with a head's 128 columns four times to a row. -/
abbrev Narrow : Type := (⟨3, ![4, 4096, 512]⟩ : Shape).Idx → EReal

/-- An array with a head's 256 columns four times to a row. -/
abbrev Wide : Type := (⟨3, ![4, 4096, 1024]⟩ : Shape).Idx → EReal

/-- The layer's result, over whole arrays. -/
def mixer (q k : Narrow) (v : Wide) (g : Narrow)
    (r : Wide) (hn : (⟨1, ![256]⟩ : Shape).Idx → EReal) : Wide := fun y =>
  result (rows q (y 0)) (rows k (y 0)) (rows v (y 0)) (rows g (y 0)) (rows r (y 0)) (row hn) ((y 2 : ℕ) / 256) (y 1) ((y 2 : ℕ) % 256)

end Cert.Gla

end
-- ==== Proof.Gla.Kernel.lean ====
/-
  The kernel's result array: at every batch entry, row and column it is the layer's result of the arguments' arrays.
-/
module

public import proofs.«01_k».proof.Proof.Gla.Output
public import proofs.«01_k».proof.Proof.Gla.Carry
public import proofs.«01_k».proof.Proof.Gla.Arrays
public import Idealize.ShloMosaic.Lib.Pipeline.ValueKit
public import Idealize.ShloMosaic.Lib.Claim

@[expose] public section

set_option maxRecDepth 16384

noncomputable section

namespace Cert.Gla.Kernel

open Idealize.ShloMosaic Idealize.ShloMosaic.TcCoe Idealize.SL.Sem Cert.KernelIdeal Cert.KernelIdeal.Gen Cert.Gla.Block

variable (m : (ℓ : Loc nD τ sig) → Buf (Elt Ideal) ℓ) (c : Dev nD)

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16, 0] ∧ win0_5.index t = ![0, 0] ∧ win0_6.index t = ![0, 0]
    ∧ win0_7.index t = ![t.val / 16, t.val % 16, 0] :=
  (by decide +kernel : ∀ t : Fin grid0.N, _)

/-- The host's floor division by 64, at a row or column number. -/
def hostChunk (a : Fin 256) : BitVec 32 :=
  Scalar.select
    (IntOp.andi
      (IntOp.cmpi CmpIPredicate.ne
        (if BitVec.ofNat 32 ↑a = 0 then (0 : BitVec 32) else if (BitVec.ofNat 32 ↑a).msb = true then -1 else 1)
        (if 64#32 = 0 then (0 : BitVec 32) else if (64#32).msb = true then -1 else 1))
      (IntOp.cmpi CmpIPredicate.ne (IntOp.remsi ArithUnit.host (BitVec.ofNat 32 ↑a) 64#32) 0#32))
    (IntOp.subi (IntOp.divsi ArithUnit.host (BitVec.ofNat 32 ↑a) 64#32) 1#32)
    (IntOp.divsi ArithUnit.host (BitVec.ofNat 32 ↑a) 64#32)

theorem hostChunk_eq : ∀ a : Fin 256, hostChunk a = BitVec.ofNat 32 (a / 64) := by decide +kernel

/-- The triangle the host computes. -/
theorem tri_array : V m c main_v15 = fun y : S256x256.Idx => if (y 1 : ℕ) ≤ y 0 ∧ (y 0 : ℕ) / 64 = y 1 / 64 then (1 : EReal) else 0 := by
  show StableHlo.after (hostOps0 ++ (hostOps0_1 ++ (hostOps0_2 ++ (hostOps0_3 ++ hostOps0_4)))) (fun b => m (c, b)) (Proc.devRef .tc main_v15) = _
  simp only [StableHlo.after_append]
  entry_read
  funext y
  rw [eq_ix2 y]
  generalize y 0 = a
  generalize y 1 = b
  change Fin 256 at a b
  simp only [StableHlo.TRef.ofBuf, StableHlo.TRef.toBuf, cast_cast, cast_eq, ix2_0, ix2_1, id]
  pointwise
  show FloatOps.uitofp FTy.bf16 (IntOp.andi (IntOp.cmpi CmpIPredicate.sge (BitVec.ofNat 32 ↑a) (BitVec.ofNat 32 ↑b))
    (IntOp.cmpi CmpIPredicate.eq (hostChunk a) (hostChunk b))) = _
  rw [hostChunk_eq a, hostChunk_eq b, mask_words a b]
  by_cases hm : (b : ℕ) ≤ a ∧ (a : ℕ) / 64 = b / 64
  · refine Eq.trans ?_ (if_pos hm).symm
    rw [if_pos (show b ≤ a ∧ (a : ℕ) / 64 = b / 64 from hm)]
    simp [FloatOps.uitofp]
  · refine Eq.trans ?_ (if_neg hm).symm
    rw [if_neg (show ¬ (b ≤ a ∧ (a : ℕ) / 64 = b / 64) from hm)]
    simp [FloatOps.uitofp]

theorem tri_at (t : Fin cfg0.N) (a b : Fin 256) :
    (iblk m c 6 t : S256x256.Idx → EReal) (ix2 a b) = if b ≤ a ∧ (a : ℕ) / 64 = b / 64 then (1 : EReal) else 0 := by
  have h : (iblk m c 6 t : S256x256.Idx → EReal) (ix2 a b) = (V m c main_v15 : S256x256.Idx → EReal) (ix2 a b) := by
    blk_ext [iblk, idx t]
  rw [h, tri_array]
  rfl

/-- The row of weights the host lays out. -/
theorem hn_array : V m c main_v0 = fun y : S1x256.Idx => (m ((c : Thread nD τ).loc main_arg5) : S256.Idx → EReal) (ix1 (y 1)) := by
  show StableHlo.after (hostOps0 ++ (hostOps0_1 ++ (hostOps0_2 ++ (hostOps0_3 ++ hostOps0_4)))) (fun b => m (c, b)) (Proc.devRef .tc main_v0) = _
  simp only [StableHlo.after_append]
  entry_read
  funext y
  rw [eq_ix2 y]
  pointwise

theorem hn_at (t : Fin cfg0.N) (x : Fin 256) :
    (iblk m c 5 t : S1x256.Idx → EReal) (ix2 0 x) = row (m ((c : Thread nD τ).loc main_arg5)) x := by
  have h : (iblk m c 5 t : S1x256.Idx → EReal) (ix2 0 x) = (V m c main_v0 : S1x256.Idx → EReal) (ix2 0 x) := by
    blk_ext [iblk, idx t]
  rw [h, hn_array, row_at _ _ x.isLt]
  rfl

theorem q_at (t : Fin cfg0.N) (a : Fin 256) (x : Fin 512) :
    iblk m c 0 t (ix3 0 a x) = rows (m ((c : Thread nD τ).loc main_arg0)) (t.val / 16) (256 * (t.val % 16) + a) x := by
  have ht : t.val < 64 := lt_of_lt_of_eq t.isLt N_0
  rw [rows_at _ _ _ _ (by omega) (by omega) x.isLt]
  blk_ext [iblk, V, idx t]

theorem k_at (t : Fin cfg0.N) (a : Fin 256) (x : Fin 512) :
    iblk m c 1 t (ix3 0 a x) = rows (m ((c : Thread nD τ).loc main_arg1)) (t.val / 16) (256 * (t.val % 16) + a) x := by
  have ht : t.val < 64 := lt_of_lt_of_eq t.isLt N_0
  rw [rows_at _ _ _ _ (by omega) (by omega) x.isLt]
  blk_ext [iblk, V, idx t]

theorem v_at (t : Fin cfg0.N) (a : Fin 256) (x : Fin 1024) :
    iblk m c 2 t (ix3 0 a x) = rows (m ((c : Thread nD τ).loc main_arg2)) (t.val / 16) (256 * (t.val % 16) + a) x := by
  have ht : t.val < 64 := lt_of_lt_of_eq t.isLt N_0
  rw [rows_at _ _ _ _ (by omega) (by omega) x.isLt]
  blk_ext [iblk, V, idx t]

theorem g_at (t : Fin cfg0.N) (a : Fin 256) (x : Fin 512) :
    iblk m c 3 t (ix3 0 a x) = rows (m ((c : Thread nD τ).loc main_arg3)) (t.val / 16) (256 * (t.val % 16) + a) x := by
  have ht : t.val < 64 := lt_of_lt_of_eq t.isLt N_0
  rw [rows_at _ _ _ _ (by omega) (by omega) x.isLt]
  blk_ext [iblk, V, idx t]

theorem r_at (t : Fin cfg0.N) (a : Fin 256) (x : Fin 1024) :
    iblk m c 4 t (ix3 0 a x) = rows (m ((c : Thread nD τ).loc main_arg4)) (t.val / 16) (256 * (t.val % 16) + a) x := by
  have ht : t.val < 64 := lt_of_lt_of_eq t.isLt N_0
  rw [rows_at _ _ _ _ (by omega) (by omega) x.isLt]
  blk_ext [iblk, V, idx t]

/-- What a point reads, in rows and columns of its batch entry. -/
theorem holds (hg : ∀ i, (m ((c : Thread nD τ).loc main_arg3) : S4x4096x512.Idx → EReal) i ≠ (⊤ : EReal)) (t : Fin cfg0.N) :
    Holds (t.val % 16) (rows (m ((c : Thread nD τ).loc main_arg0)) (t.val / 16)) (rows (m ((c : Thread nD τ).loc main_arg1)) (t.val / 16))
      (rows (m ((c : Thread nD τ).loc main_arg3)) (t.val / 16)) (rows (m ((c : Thread nD τ).loc main_arg2)) (t.val / 16))
      (rows (m ((c : Thread nD τ).loc main_arg4)) (t.val / 16)) (row (m ((c : Thread nD τ).loc main_arg5)))
      (iblk m c 0 t) (iblk m c 1 t) (iblk m c 2 t) (iblk m c 3 t) (iblk m c 4 t) (iblk m c 5 t) (iblk m c 6 t) where
  q := q_at m c t
  k := k_at m c t
  v := v_at m c t
  g := g_at m c t
  r := r_at m c t
  hn := hn_at m c t
  tri := tri_at m c t
  top a x := by
    unfold rows
    split
    · exact hg _
    · exact EReal.zero_ne_top

/-- The states carried past a point are those after its four chunks. -/
theorem carried (hg : ∀ i, (m ((c : Thread nD τ).loc main_arg3) : S4x4096x512.Idx → EReal) i ≠ (⊤ : EReal)) : ∀ n (h : n < cfg0.N),
    (outsAt0 m c n h).2 = fun y => state (rows (m ((c : Thread nD τ).loc main_arg1)) (n / 16)) (rows (m ((c : Thread nD τ).loc main_arg2)) (n / 16))
      (rows (m ((c : Thread nD τ).loc main_arg3)) (n / 16)) (y 0) (y 1) (y 2) (4 * (n % 16) + 4) := by
  intro n
  induction n with
  | zero => exact fun h => Step.state_A m c ⟨0, h⟩ rfl rfl (holds m c hg ⟨0, h⟩)
  | succ n ih =>
    intro h
    by_cases h0 : (n + 1) % 16 = 0
    · exact Step.state_A m c ⟨n + 1, h⟩ h0 h0 (holds m c hg ⟨n + 1, h⟩)
    · refine Step.state_B m c ⟨n + 1, h⟩ h0 (holds m c hg ⟨n + 1, h⟩) fun y => ?_
      have e := congrFun (ih (Nat.lt_of_succ_lt h)) y
      have e1 : (n + 1) / 16 = n / 16 := by omega
      have e2 : 4 * ((n + 1) % 16) = 4 * (n % 16) + 4 := by omega
      show (outsAt0 m c n _).2 y = state _ _ _ _ _ _ (4 * ((n + 1) % 16))
      rw [show (⟨n + 1, h⟩ : Fin cfg0.N).val / 16 = n / 16 from e1, e2]
      exact e

/-- What a point leaves in its output block. -/
theorem block (hg : ∀ i, (m ((c : Thread nD τ).loc main_arg3) : S4x4096x512.Idx → EReal) i ≠ (⊤ : EReal)) (t : Fin cfg0.N) :
    (outsAt0 m c t.val t.isLt).1 = fun y => result (rows (m ((c : Thread nD τ).loc main_arg0)) (t.val / 16))
      (rows (m ((c : Thread nD τ).loc main_arg1)) (t.val / 16)) (rows (m ((c : Thread nD τ).loc main_arg2)) (t.val / 16))
      (rows (m ((c : Thread nD τ).loc main_arg3)) (t.val / 16)) (rows (m ((c : Thread nD τ).loc main_arg4)) (t.val / 16))
      (row (m ((c : Thread nD τ).loc main_arg5))) ((y 2 : ℕ) / 256) (256 * (t.val % 16) + y 1) ((y 2 : ℕ) % 256) := by
  by_cases h0 : t.val % 16 = 0
  · exact Step.out_A m c t h0 h0 (holds m c hg t)
  · refine Step.out_B m c t h0 (holds m c hg t) fun y => ?_
    have e := congrFun (carried m c hg (t.val - 1) (Nat.lt_of_le_of_lt (Nat.sub_le _ _) t.isLt)) y
    have e1 : (t.val - 1) / 16 = t.val / 16 := by omega
    have e2 : 4 * ((t.val - 1) % 16) + 4 = 4 * (t.val % 16) := by omega
    rw [e1, e2] at e
    exact e

theorem array (hg : ∀ i, (m ((c : Thread nD τ).loc main_arg3) : S4x4096x512.Idx → EReal) i ≠ (⊤ : EReal)) :
    (dats m 0 c).arrAt 7 cfg0.N = mixer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 7 _ (by decide +kernel) fun t hf y => ?_
  have ht : t.val < 64 := lt_of_lt_of_eq t.isLt N_0
  blk_simp
  rw [after0_7, block m c hg t]
  have e0 : (((win0_7.blk t).view.emb y) 0 : ℕ) = t.val / 16 := by
    blk_simp [idx t]
  have e1 : (((win0_7.blk t).view.emb y) 1 : ℕ) = 256 * (t.val % 16) + y 1 := by
    blk_simp [idx t]
    omega
  have e2 : (((win0_7.blk t).view.emb y) 2 : ℕ) = y 2 := by
    blk_simp [idx t]
  simp only [mixer]
  rw [e0, e1, e2]

end Cert.Gla.Kernel

end
-- ==== Proof.Gla.Before.lean ====
/-
  What the reference computes before its loop, by batch entry, chunk, head, row of the chunk and column.
-/
module

public import proofs.«01_k».proof.Proof.Gla.Arrays
public import proofs.«01_k».proof.Proof.Gen.ReferenceIdeal.Step
public import Idealize.ShloMosaic.Lib.Pipeline.ValueKit

@[expose] public section

set_option maxRecDepth 16384

noncomputable section

namespace Cert.Gla.Before

open Idealize.ShloMosaic Cert.ReferenceIdeal Cert.ReferenceIdeal.Gen Cert.ReferenceIdeal.Step

variable (q k : Narrow) (v : Wide) (g : Narrow)
variable (b h : Fin 4) (n r : Fin 64)

theorem narrow_at (A : Narrow) (d : Fin 128) : rows A b (64 * n + r) (128 * h + d) = A (ix3 b ⟨n * 64 + r, by omega⟩ ⟨h * 128 + d, by omega⟩) := by
  rw [show 64 * (n : ℕ) + r = n * 64 + r by omega, show 128 * (h : ℕ) + d = h * 128 + d by omega]
  exact rows_at A b _ _ b.isLt (by omega) (by omega)

theorem wide_at (A : Wide) (d : Fin 256) : rows A b (64 * n + r) (256 * h + d) = A (ix3 b ⟨n * 64 + r, by omega⟩ ⟨h * 256 + d, by omega⟩) := by
  rw [show 64 * (n : ℕ) + r = n * 64 + r by omega, show 256 * (h : ℕ) + d = h * 256 + d by omega]
  exact rows_at A b _ _ b.isLt (by omega) (by omega)

theorem q_at (d : Fin 128) : A_main_v1 (F := Ideal) q k v g (ix5 b n h r d) = rows q b (64 * n + r) (128 * h + d) := by
  rw [narrow_at]
  pointwise [A_main_v1, A_main_v0]

theorem k_at (d : Fin 128) : A_main_v3 (F := Ideal) q k v g (ix5 b n h r d) = rows k b (64 * n + r) (128 * h + d) := by
  rw [narrow_at]
  pointwise [A_main_v3, A_main_v2]

theorem v_at (d : Fin 256) : A_main_v6 (F := Ideal) q k v g (ix5 b n h r d) = rows v b (64 * n + r) (256 * h + d) := by
  rw [wide_at]
  pointwise [A_main_v6, A_main_v5, A_main_v4]

theorem g_at (d : Fin 128) : A_main_v8 (F := Ideal) q k v g (ix5 b n h r d) = rows g b (64 * n + r) (128 * h + d) := by
  rw [narrow_at]
  pointwise [A_main_v8, A_main_v7]

/-- A window of 64 that ends at row `r`, what lies before the first row counted as zero, sums the rows up to `r`. -/
theorem window_sum (f : ℕ → EReal) :
    (∑ w : Fin 64, if 63 ≤ (r : ℕ) + w then f (r + w - 63) else 0) = ∑ j : Fin 64, if (j : ℕ) ≤ r then f j else 0 := by
  rw [← Finset.sum_filter, ← Finset.sum_filter]
  refine Finset.sum_bij' (fun w hw => ⟨r + w - 63, by omega⟩) (fun j hj => ⟨j + 63 - r, ?_⟩) ?_ ?_ ?_ ?_ ?_
  · have := (Finset.mem_filter.1 hj).2; omega
  · intro w hw
    exact Finset.mem_filter.2 ⟨Finset.mem_univ _, by show (r : ℕ) + w - 63 ≤ r; omega⟩
  · intro j hj
    have := (Finset.mem_filter.1 hj).2
    exact Finset.mem_filter.2 ⟨Finset.mem_univ _, by show 63 ≤ (r : ℕ) + (j + 63 - r); omega⟩
  · intro w hw
    have := (Finset.mem_filter.1 hw).2
    exact Fin.ext (by show (r : ℕ) + w - 63 + 63 - r = w; omega)
  · intro j hj
    have := (Finset.mem_filter.1 hj).2
    exact Fin.ext (by show (r : ℕ) + (j + 63 - r) - 63 = j; omega)
  · intro w hw
    rfl

/-- The axes of one window of the running sum. -/
abbrev Window : Shape := ⟨5, ![1, 1, 1, 64, 1]⟩

theorem window_pos : ∀ w : Fin 64, (Window.rowMajor.symm w 0 : ℕ) = 0 ∧ (Window.rowMajor.symm w 1 : ℕ) = 0 ∧ (Window.rowMajor.symm w 2 : ℕ) = 0
    ∧ (Window.rowMajor.symm w 3 : ℕ) = w ∧ (Window.rowMajor.symm w 4 : ℕ) = 0 := by decide +kernel

/-- Adding up a list's terms one after another from zero. -/
theorem foldl_sum (f : Fin 64 → EReal) : (List.finRange 64).foldl (fun r w => r + f w) 0 = ∑ w, f w := by
  rw [Fin.sum_univ_def, List.sum_eq_foldl, List.foldl_map]

theorem zero_at (y : S_.Idx) : K_main_call0_call0_v0 (F := Ideal) y = (0 : EReal) := by
  pointwise [K_main_call0_call0_v0, K_main_call0_call0_cst]

theorem cum_at (d : Fin 128) : A_main_v9 (F := Ideal) q k v g (ix5 b n h r d) = cum (rows g b) (64 * n + r) (128 * h + d) := by
  have e1 : (64 * (n : ℕ) + r) % 64 = r := by omega
  have e2 : (64 * (n : ℕ) + r) / 64 = n := by omega
  unfold cum
  rw [e1, e2, ← window_sum r (fun j => rows g b (64 * n + j) (128 * h + d)), ← foldl_sum]
  unfold A_main_v9 Host.reduceWindowAdd
  rw [Ideal.hostReduceWindowAdd_def, zero_at]
  unfold Ideal.hostReduceWindowAdd Host.reduceWindow
  refine congrArg (fun f => List.foldl f 0 (List.finRange 64)) (funext fun acc => funext fun w => congrArg (acc + ·) ?_)
  obtain ⟨w0, w1, w2, w3, w4⟩ := window_pos w
  have hw : (w : ℕ) < 64 := w.isLt
  have hr := r.isLt
  by_cases hle : 63 ≤ (r : ℕ) + w
  · rw [if_pos hle]
    refine (dif_pos fun a => ?_).trans ((congrArg (A_main_v8 (F := Ideal) q k v g) (funext fun a => Fin.ext ?_)).trans
      (g_at q k v g b h n ⟨r + w - 63, by omega⟩ d))
    · match a with
      | ⟨0, _⟩ => show 0 ≤ (b : ℕ) * 1 + (Window.rowMajor.symm w 0 : ℕ) ∧ (b : ℕ) * 1 + (Window.rowMajor.symm w 0 : ℕ) - 0 < 4; omega
      | ⟨1, _⟩ => show 0 ≤ (n : ℕ) * 1 + (Window.rowMajor.symm w 1 : ℕ) ∧ (n : ℕ) * 1 + (Window.rowMajor.symm w 1 : ℕ) - 0 < 64; omega
      | ⟨2, _⟩ => show 0 ≤ (h : ℕ) * 1 + (Window.rowMajor.symm w 2 : ℕ) ∧ (h : ℕ) * 1 + (Window.rowMajor.symm w 2 : ℕ) - 0 < 4; omega
      | ⟨3, _⟩ => show 63 ≤ (r : ℕ) * 1 + (Window.rowMajor.symm w 3 : ℕ) ∧ (r : ℕ) * 1 + (Window.rowMajor.symm w 3 : ℕ) - 63 < 64; omega
      | ⟨4, _⟩ => show 0 ≤ (d : ℕ) * 1 + (Window.rowMajor.symm w 4 : ℕ) ∧ (d : ℕ) * 1 + (Window.rowMajor.symm w 4 : ℕ) - 0 < 128; omega
    · match a with
      | ⟨0, _⟩ => show (b : ℕ) * 1 + (Window.rowMajor.symm w 0 : ℕ) - 0 = b; omega
      | ⟨1, _⟩ => show (n : ℕ) * 1 + (Window.rowMajor.symm w 1 : ℕ) - 0 = n; omega
      | ⟨2, _⟩ => show (h : ℕ) * 1 + (Window.rowMajor.symm w 2 : ℕ) - 0 = h; omega
      | ⟨3, _⟩ => show (r : ℕ) * 1 + (Window.rowMajor.symm w 3 : ℕ) - 63 = r + w - 63; omega
      | ⟨4, _⟩ => show (d : ℕ) * 1 + (Window.rowMajor.symm w 4 : ℕ) - 0 = d; omega
  · rw [if_neg hle]
    refine dif_neg fun hin => hle ?_
    have h3 : 63 ≤ (r : ℕ) * 1 + (Window.rowMajor.symm w 3 : ℕ) := (hin 3).1
    omega

theorem qdec_at (d : Fin 128) : A_main_v12 (F := Ideal) q k v g (ix5 b n h r d) = qdec (rows q b) (rows g b) (64 * n + r) (128 * h + d) := by
  pointwise [A_main_v12, A_main_v11, q_at, cum_at]
  rfl

theorem kinv_at (d : Fin 128) : A_main_v15 (F := Ideal) q k v g (ix5 b n h r d) = kinv (rows k b) (rows g b) (64 * n + r) (128 * h + d) := by
  pointwise [A_main_v15, A_main_v14, A_main_v13, k_at, cum_at]
  rfl

theorem last_at (d : Fin 128) : A_main_v10 (F := Ideal) q k v g (ix5 b n h 0 d) = cum (rows g b) (64 * n + 63) (128 * h + d) := by
  refine Eq.trans ?_ (cum_at q k v g b h n 63 d)
  pointwise [A_main_v10]

theorem krem_at (d : Fin 128) : A_main_v19 (F := Ideal) q k v g (ix5 b n h r d) = krem (rows k b) (rows g b) (64 * n + r) (128 * h + d) := by
  have e2 : (64 * (n : ℕ) + r) / 64 = n := by omega
  unfold krem
  rw [e2]
  pointwise [A_main_v19, A_main_v18, A_main_v17, A_main_v16, last_at, k_at, cum_at]

theorem decay_at (d : Fin 128) : A_main_v32 (F := Ideal) q k v g (ix4 n b h d) = Ideal.exp (cum (rows g b) (64 * n + 63) (128 * h + d)) := by
  pointwise [A_main_v32, A_main_v31, A_main_v30, last_at]

theorem mask_word : ∀ r j : Fin 64, IntOp.cmpi CmpIPredicate.sge (IntOp.addi (BitVec.ofNat 32 r) 0#32) (BitVec.ofNat 32 j)
    = if (j : ℕ) ≤ r then 1#1 else 0#1 := by decide +kernel

theorem att_at (j : Fin 64) : A_main_v23 (F := Ideal) q k v g (ix5 b n h r j) = att (rows q b) (rows k b) (rows g b) h (64 * n + r) (64 * n + j) := by
  have e : (64 * (n : ℕ) + j ≤ 64 * n + r) ↔ ((j : ℕ) ≤ r) := by omega
  unfold att
  simp only [e]
  pointwise [A_main_v23, A_main_v22, qdec_at, kinv_at, K_main_call2_v1, K_main_call2_v2, K_main_call2_v0, K_main_cst, K_main_v21, K_main_call1_v4,
    K_main_call1_v5, K_main_call1_c_0, K_main_call1_v2, K_main_call1_v0, K_main_call1_v1, K_main_call1_c, K_main_call1_v3, K_main_v20, K_main_c]
  have z : (id (constant (F := Ideal) S_ FTy.f32 0#32) : S_.Idx → EReal) ix0 = 0 := by
    show (constant (F := Ideal) S_ FTy.f32 0#32 : S_.Idx → EReal) ix0 = 0
    pointwise
  rw [mask_word r j, z]
  by_cases hj : (j : ℕ) ≤ r
  · rw [if_pos hj, if_pos hj]
    rfl
  · rw [if_neg hj, if_neg hj]
    rfl

theorem inner_at (x : Fin 256) : A_main_v24 (F := Ideal) q k v g (ix5 b n h r x) = inner (rows q b) (rows k b) (rows v b) (rows g b) h (64 * n + r) x := by
  have e2 : (64 * (n : ℕ) + r) / 64 = n := by omega
  unfold inner
  rw [e2]
  pointwise [A_main_v24, att_at, v_at]

end Cert.Gla.Before

end
-- ==== Proof.Gla.Reference.lean ====
/-
  The reference's loop over the chunks and what it makes of the loop's outputs: the layer's result of the arguments' arrays.
-/
module

public import proofs.«01_k».proof.Proof.Gla.Before
public import Idealize.ShloMosaic.Lib.DynamicIndex
public import Idealize.ShloMosaic.Lib.WordCmp

@[expose] public section

set_option maxRecDepth 16384

noncomputable section

namespace Cert.Gla.Reference

open Idealize.ShloMosaic Cert.ReferenceIdeal Cert.ReferenceIdeal.Gen Cert.ReferenceIdeal.Step

variable (q k : Narrow) (v : Wide) (g : Narrow)

/-- The loop's state before trip `n`. -/
def states : ℕ → State Ideal
  | 0 => init (F := Ideal) q k v g
  | n + 1 => step n (states n)

/-- What no trip changes. -/
theorem constants (n : ℕ) : (states q k v g n).main_v34_0 = A_main_v26 q k v g ∧ (states q k v g n).main_v34_1 = A_main_v27 q k v g
    ∧ (states q k v g n).main_v34_2 = A_main_v28 q k v g ∧ (states q k v g n).main_v34_3 = A_main_v29 q k v g
    ∧ (states q k v g n).main_v34_4 = A_main_v32 q k v g := by
  induction n with
  | zero => exact ⟨rfl, rfl, rfl, rfl, rfl⟩
  | succ n ih => exact ih

theorem word : ∀ n : Fin 64, (BitVec.ofNat 32 (n : ℕ)).toInt = (n : ℤ) := by decide +kernel

theorem wide_slice : ∀ n : Fin 64, S64x4x4x64x256.Slices ![(n : ℕ), 0, 0, 0, 0] S1x4x4x64x256 := by decide +kernel
theorem narrow_slice : ∀ n : Fin 64, S64x4x4x64x128.Slices ![(n : ℕ), 0, 0, 0, 0] S1x4x4x64x128 := by decide +kernel
theorem decay_slice : ∀ n : Fin 64, S64x4x4x128.Slices ![(n : ℕ), 0, 0, 0] S1x4x4x128 := by decide +kernel

variable (n : Fin 64) (s : State Ideal)

theorem slice_inner : b4 n s = extractStridedSlice S1x4x4x64x256 ![(n : ℕ), 0, 0, 0, 0] s.main_v34_0 (wide_slice n) := by
  unfold b4
  refine Host.dynamicSlice_eq_extractStridedSlice _ _ _ _ _ (wide_slice n) fun a => ?_
  match a with
  | ⟨0, _⟩ => exact word n
  | ⟨1, _⟩ | ⟨2, _⟩ | ⟨3, _⟩ | ⟨4, _⟩ => rfl

theorem slice_qdec : b10 n s = extractStridedSlice S1x4x4x64x128 ![(n : ℕ), 0, 0, 0, 0] s.main_v34_1 (narrow_slice n) := by
  unfold b10
  refine Host.dynamicSlice_eq_extractStridedSlice _ _ _ _ _ (narrow_slice n) fun a => ?_
  match a with
  | ⟨0, _⟩ => exact word n
  | ⟨1, _⟩ | ⟨2, _⟩ | ⟨3, _⟩ | ⟨4, _⟩ => rfl

theorem slice_krem : b16 n s = extractStridedSlice S1x4x4x64x128 ![(n : ℕ), 0, 0, 0, 0] s.main_v34_2 (narrow_slice n) := by
  unfold b16
  refine Host.dynamicSlice_eq_extractStridedSlice _ _ _ _ _ (narrow_slice n) fun a => ?_
  match a with
  | ⟨0, _⟩ => exact word n
  | ⟨1, _⟩ | ⟨2, _⟩ | ⟨3, _⟩ | ⟨4, _⟩ => rfl

theorem slice_v : b22 n s = extractStridedSlice S1x4x4x64x256 ![(n : ℕ), 0, 0, 0, 0] s.main_v34_3 (wide_slice n) := by
  unfold b22
  refine Host.dynamicSlice_eq_extractStridedSlice _ _ _ _ _ (wide_slice n) fun a => ?_
  match a with
  | ⟨0, _⟩ => exact word n
  | ⟨1, _⟩ | ⟨2, _⟩ | ⟨3, _⟩ | ⟨4, _⟩ => rfl

theorem slice_decay : b27 n s = extractStridedSlice S1x4x4x128 ![(n : ℕ), 0, 0, 0] s.main_v34_4 (decay_slice n) := by
  unfold b27
  refine Host.dynamicSlice_eq_extractStridedSlice _ _ _ _ _ (decay_slice n) fun a => ?_
  match a with
  | ⟨0, _⟩ => exact word n
  | ⟨1, _⟩ | ⟨2, _⟩ | ⟨3, _⟩ => rfl

theorem slice_out : b41 n s = updateSlice s.main_v34_7 (b36 n s) ![(n : ℕ), 0, 0, 0, 0] (wide_slice n) := by
  unfold b41
  refine WordCmp.dynamicUpdateSlice_eq_update _ _ _ _ _ (wide_slice n) fun a => ?_
  match a with
  | ⟨0, _⟩ => exact word n
  | ⟨1, _⟩ | ⟨2, _⟩ | ⟨3, _⟩ | ⟨4, _⟩ => rfl

variable (b h : Fin 4) (r : Fin 64)

theorem inner_at (x : Fin 256) : b5 n (states q k v g n) (ix4 b h r x) = inner (rows q b) (rows k b) (rows v b) (rows g b) h (64 * n + r) x := by
  pointwise [b5, slice_inner, (constants q k v g n).1, A_main_v26, Before.inner_at]

theorem qdec_at (d : Fin 128) : b11 n (states q k v g n) (ix4 b h r d) = qdec (rows q b) (rows g b) (64 * n + r) (128 * h + d) := by
  pointwise [b11, slice_qdec, (constants q k v g n).2.1, A_main_v27, Before.qdec_at]

theorem krem_at (d : Fin 128) : b17 n (states q k v g n) (ix4 b h r d) = krem (rows k b) (rows g b) (64 * n + r) (128 * h + d) := by
  pointwise [b17, slice_krem, (constants q k v g n).2.2.1, A_main_v28, Before.krem_at]

theorem v_at (x : Fin 256) : b23 n (states q k v g n) (ix4 b h r x) = rows v b (64 * n + r) (256 * h + x) := by
  pointwise [b23, slice_v, (constants q k v g n).2.2.2.1, A_main_v29, Before.v_at]

theorem decay_at (d : Fin 128) : b28 n (states q k v g n) (ix3 b h d) = Ideal.exp (cum (rows g b) (64 * n + 63) (128 * h + d)) := by
  pointwise [b28, slice_decay, (constants q k v g n).2.2.2.2, Before.decay_at]

/-- The carried state before trip `n`. -/
theorem state_at : ∀ (n : ℕ), n ≤ 64 → ∀ (d : Fin 128) (x : Fin 256),
    (states q k v g n).main_v34_6 (ix4 b h d x) = state (rows k b) (rows v b) (rows g b) h x d n := by
  intro n
  induction n with
  | zero =>
    intro _ d x
    show (K_main_v25 (F := Ideal)) (ix4 b h d x) = (0 : EReal)
    pointwise [K_main_v25, K_main_cst_0]
  | succ n ih =>
    intro hn d x
    have key : b35 n (states q k v g n) (ix4 b h d x) = state (rows k b) (rows v b) (rows g b) h x d (n + 1) := by
      have ih' := ih (by omega) d x
      have hd := decay_at q k v g ⟨n, by omega⟩ b h d
      have hk := fun r => krem_at q k v g ⟨n, by omega⟩ b h r d
      have hv := fun r => v_at q k v g ⟨n, by omega⟩ b h r x
      dsimp only at hd hk hv
      unfold state update
      pointwise [b35, b34, b33, b32, b31, hd, hk, hv, ih']
      rw [mul_comm]
      exact congrArg _ (Finset.sum_congr rfl fun _ _ => mul_comm _ _)
    exact key

/-- A row of a chunk as the loop stacks it. -/
theorem out_at (x : Fin 256) : b30 n (states q k v g n) (ix4 b h r x)
    = mixed (rows q b) (rows k b) (rows v b) (rows g b) h (64 * n + r) x := by
  have e2 : (64 * (n : ℕ) + r) / 64 = n := by omega
  have hs := fun d => state_at q k v g b h n (by omega) d x
  unfold mixed
  rw [e2]
  pointwise [b30, b29, inner_at, qdec_at, hs]

/-- What the loop has stacked before trip `N`. -/
theorem stacked_at (x : Fin 256) : ∀ N : ℕ, N ≤ 64 → (n : ℕ) < N → (states q k v g N).main_v34_7 (ix5 n b h r x)
    = mixed (rows q b) (rows k b) (rows v b) (rows g b) h (64 * n + r) x := by
  intro N
  induction N with
  | zero => exact fun _ hn => absurd hn (Nat.not_lt_zero _)
  | succ N ih =>
    intro hN hn
    have key : b41 N (states q k v g N) (ix5 n b h r x) = mixed (rows q b) (rows k b) (rows v b) (rows g b) h (64 * n + r) x := by
      have e := slice_out ⟨N, by omega⟩ (states q k v g N)
      dsimp only at e
      rw [e]
      by_cases hlt : (n : ℕ) < N
      · rw [← ih (by omega) hlt]
        pointwise [b36]
        exact dif_neg fun hin => by omega
      · have hnN : N = n := by omega
        subst hnN
        pointwise [b36, out_at]
        exact dif_pos ⟨le_rfl, Nat.lt_succ_self _⟩
    exact key

/-- What the reference makes of the rows the loop has stacked. -/
theorem after_at (s : State Ideal) (rr : Wide) (hn : (⟨1, ![256]⟩ : Shape).Idx → EReal)
    (hs : ∀ (n : Fin 64) (b h : Fin 4) (r : Fin 64) (x : Fin 256), s.main_v34_7 (ix5 n b h r x)
      = mixed (rows q b) (rows k b) (rows v b) (rows g b) h (64 * n + r) x) (b : Fin 4) (a : Fin 4096) (x : Fin 1024) :
    R_main_v53 (F := Ideal) s rr hn (ix3 b a x) = mixer q k v g rr hn (ix3 b a x) := by
  have ea : 64 * ((a : ℕ) / 64) + a % 64 = a := by omega
  have ex : 256 * ((x : ℕ) / 256) + x % 256 = x := by omega
  show _ = result (rows q b) (rows k b) (rows v b) (rows g b) (rows rr b) (row hn) ((x : ℕ) / 256) a ((x : ℕ) % 256)
  unfold result
  rw [ex, rows_at rr b a x b.isLt a.isLt x.isLt, row_at hn (x % 256) (by omega)]
  pointwise [R_main_v53, hs]
  rw [ea]

/-- The layer's result is what the reference returns. -/
theorem result_eq (rr : Wide) (hn : (⟨1, ![256]⟩ : Shape).Idx → EReal) :
    R_main_v53 (F := Ideal) (states q k v g 64) rr hn = mixer q k v g rr hn := by
  funext y
  rw [eq_ix3 y]
  exact after_at q k v g _ rr hn (fun n b h r x => stacked_at q k v g n b h r x 64 le_rfl n.isLt) _ _ _

end Cert.Gla.Reference

end
-- ==== Proof.Gla.Loop.lean ====
/-
  The reference's run: its loop carries the named states, so its result is what it makes of the last of them.
-/
module

public import proofs.«01_k».proof.Proof.Gen.ReferenceIdeal.Run
public import proofs.«01_k».proof.Proof.Gla.Reference

@[expose] public section

set_option maxRecDepth 16384

noncomputable section

namespace Cert.Gla.Loop

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- A valuation carries a state of the loop and the number of the next trip. -/
structure Carries (W : Valuation τ sig (Elt Ideal)) (s : State Ideal) (j : ℕ) : Prop where
  total : W (Proc.devRef .tc main_v34_6) = s.main_v34_6
  stacked : W (Proc.devRef .tc main_v34_7) = s.main_v34_7
  inner : W (Proc.devRef .tc main_v34_0) = s.main_v34_0
  qdec : W (Proc.devRef .tc main_v34_1) = s.main_v34_1
  krem : W (Proc.devRef .tc main_v34_2) = s.main_v34_2
  value : W (Proc.devRef .tc main_v34_3) = s.main_v34_3
  decay : W (Proc.devRef .tc main_v34_4) = s.main_v34_4
  trip : W (Proc.devRef .tc main_v34_5) = constantI S_ 32 (BitVec.ofNat 32 j)

variable {W : Valuation τ sig (Elt Ideal)} {s : State Ideal} {j : ℕ}

theorem total_next (H : Carries W s j) : Value.step_main_v34_6 W = b35 j s := by
  unfold Value.step_main_v34_6
  rw [H.total, H.krem, H.value, H.decay, H.trip]
  rfl

theorem stacked_next (H : Carries W s j) : Value.step_main_v34_7 W = b41 j s := by
  unfold Value.step_main_v34_7
  rw [H.total, H.stacked, H.inner, H.qdec, H.trip]
  rfl

theorem trip_next (H : Carries W s j) : Value.step_main_v34_5 W = constantI S_ 32 (BitVec.ofNat 32 (j + 1)) := by
  unfold Value.step_main_v34_5
  rw [H.trip]
  funext y
  show BitVec.ofNat 32 j + 1#32 = BitVec.ofNat 32 (j + 1)
  rw [BitVec.ofNat_add]

theorem Carries.next (H : Carries W s j) : Carries (STEP W) (step j s) (j + 1) where
  total := (STEP_main_v34_6 W).trans (total_next H)
  stacked := (STEP_main_v34_7 W).trans (stacked_next H)
  inner := (STEP_main_v34_0 W).trans H.inner
  qdec := (STEP_main_v34_1 W).trans H.qdec
  krem := (STEP_main_v34_2 W).trans H.krem
  value := (STEP_main_v34_3 W).trans H.value
  decay := (STEP_main_v34_4 W).trans H.decay
  trip := (STEP_main_v34_5 W).trans (trip_next H)

variable (m : (ℓ : Loc nD τ sig) → Buf (Elt Ideal) ℓ) (c : Dev nD)

/-- The states the loop runs through on a memory. -/
abbrev run (n : ℕ) : State Ideal :=
  Reference.states (m ((c.tc : Thread nD τ).loc main_arg0)) (m ((c.tc : Thread nD τ).loc main_arg1))
    (m ((c.tc : Thread nD τ).loc main_arg2)) (m ((c.tc : Thread nD τ).loc main_arg3)) n

set_option maxRecDepth 65536 in
set_option maxHeartbeats 500000 in
theorem entry : Carries (entryContents preI m c) (run m c 0) 0 := by
  refine ⟨?_, ?_, ?_, ?_, ?_, ?_, ?_, ?_⟩ <;>
    · simp only [entryContents, afterL_cons, afterL_nil]
      after_reads_simp
      rfl

theorem carries : ∀ n, Carries (STEP^[n] (entryContents preI m c)) (run m c n) n
  | 0 => entry m c
  | n + 1 => by
    rw [Function.iterate_succ_apply']
    exact (carries n).next

theorem out_eq (H : Carries W s j) : out_main_v53 W = R_main_v53 s (W (Proc.devRef .tc main_arg4)) (W (Proc.devRef .tc main_arg5)) := by
  unfold out_main_v53 R_main_v53
  rw [H.stacked]
  rfl

/-- The reference's result of a memory's arguments. -/
theorem result : out_main_v53 (STEP^[64] (entryContents preI m c))
    = mixer (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [out_eq (carries m c 64), iter_main_arg4 m c 64, iter_main_arg5 m c 64]
  exact Reference.result_eq _ _ _ _ _ _

end Cert.Gla.Loop

end
-- ==== Proof.Gla.Claims.lean ====
/-
  The claims about the layer's mixer: each program ends with its arguments unchanged, and the kernel's result equals the reference's
  wherever every gate is below infinity.
-/
module

public import proofs.«01_k».proof.Defs
public import proofs.«01_k».proof.Proof.Gen.Kernel.Frame
public import proofs.«01_k».proof.Proof.Gen.KernelIdeal.Value
public import proofs.«01_k».proof.Proof.Gla.Kernel
public import proofs.«01_k».proof.Proof.Gla.Loop

@[expose] public section

set_option maxRecDepth 16384

noncomputable section

namespace Cert.Gla.Claims

open Idealize.ShloMosaic Idealize.ShloMosaic.TcCoe Idealize.SL.Sem

theorem gates_facts : Cert.Pre_gates_below_infinity.Facts where
  bcast_S_S4x4096x512 := by decide +kernel

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition, element by element. -/
theorem gates (m : (ℓ : Loc Cert.KernelIdeal.nD Cert.KernelIdeal.τ Cert.KernelIdeal.sig) → Buf (Elt Ideal) ℓ)
    (hm : Cert.Pre_KernelIdeal_gates_below_infinity (hPre_gates_below_infinity := gates_facts) m) (c : Dev Cert.KernelIdeal.nD)
    (i : Cert.KernelIdeal.S4x4096x512.Idx) :
    (m ((c.tc : Thread Cert.KernelIdeal.nD Cert.KernelIdeal.τ).loc Cert.KernelIdeal.main_arg3) : Cert.KernelIdeal.S4x4096x512.Idx → EReal) i ≠ (⊤ : EReal) := by
  have h := congrFun (hm c) i
  unfold Cert.Pre_gates_below_infinity.fn at h
  pointwise at h
  intro htop
  rw [htop, decide_eq_false (not_top_lt)] at h
  exact absurd h (by decide)

theorem algebraic : Cert.algebraic_KernelIdeal_ReferenceIdeal_pre_gates_below_infinity (hKernelIdeal := Cert.KernelIdeal.Gen.facts)
    (hReferenceIdeal := Cert.ReferenceIdeal.Gen.facts) (hPre_gates_below_infinity := gates_facts) := by
  intro m ρ m' ρ' hm hagree
  refine ⟨fun c => (Cert.KernelIdeal.Gen.dats m 0 c).arrAt 7 Cert.KernelIdeal.cfg0.N, Cert.KernelIdeal.Value.run_blocks m ρ, ?_⟩
  refine (θ_run _ _ _).mono (fun _ h c => ⟨(h c).1.trans ?_, (h c).2⟩) (Cert.ReferenceIdeal.Value.run (F := Ideal) m' ρ')
  obtain ⟨h0, h1, h2, h3, h4, h5⟩ := hagree c
  refine (Loop.result m' c).trans ?_
  refine Eq.trans ?_ (Kernel.array m c (gates m hm c)).symm
  rw [h0, h1, h2, h3, h4, h5]

end Cert.Gla.Claims

end
-- ==== Proof.Ffn.Model.lean ====
/-
  The feed-forward part as plain mathematics over extended reals, for one row of 1024 numbers: normalise the row (`norm`), take the
  gated hidden row of 2816 numbers (`hidden`), multiply it down (`down`), normalise again and add half of it to the row (`result`).
-/
module

public import Idealize.ShloMosaic.Lib.Pointwise

@[expose] public section

noncomputable section

namespace Cert.Ffn

open Idealize.ShloMosaic

/-- A row of 1024 numbers. -/
abbrev Row : Type := Fin 1024 → EReal

/-- The row over the root of its mean square, times a weight per column. -/
def norm (x g : Row) : Row := fun j =>
  x j * Ideal.rsqrt (Ideal.div (∑ l : Fin 1024, x l * x l) (Ideal.ofBits .f32 0x44800000#32) + Ideal.ofBits .f32 0x358637BD#32) * g j

/-- Column `f` of the row's product with a matrix of 5632 columns. -/
def up (x : Row) (w : Fin 1024 → Fin 5632 → EReal) (f : Fin 5632) : EReal := ∑ l : Fin 1024, x l * w l f

/-- The gated hidden row: column `f` passed through `a / (1 + exp (-a))`, times column `2816 + f`. -/
def hidden (x : Row) (w : Fin 1024 → Fin 5632 → EReal) (f : Fin 2816) : EReal :=
  up x w ⟨f, by omega⟩ * Ideal.div 1 (1 + Ideal.exp (-up x w ⟨f, by omega⟩)) * up x w ⟨2816 + f, by omega⟩

/-- The hidden row multiplied down to 1024 columns. -/
def down (h : Fin 2816 → EReal) (d : Fin 2816 → Fin 1024 → EReal) : Row := fun j => ∑ f : Fin 2816, h f * d f j

/-- The feed-forward part of one row. -/
def result (x gpre gpost : Row) (w : Fin 1024 → Fin 5632 → EReal) (d : Fin 2816 → Fin 1024 → EReal) : Row := fun j =>
  x j + Ideal.ofBits .f32 0x3F000000#32 * norm (down (hidden (norm x gpre) w) d) gpost j

end Cert.Ffn

end
-- ==== Proof.Ffn.Block.lean ====
/-
  One grid point of the feed-forward kernel: the 1024 rows it writes are the model's result of the 1024 rows it reads.
-/
module

public import proofs.«01_k».proof.Proof.Gen.Kernel2Ideal.Value
public import proofs.«01_k».proof.Proof.Ffn.Model
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ffn.Block

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The first slab's normalised rows. -/
theorem norm_first (x : Vec Ideal S512x1024 .f32) (g : Vec Ideal S1x1024 .f32) (a : Fin 512) (l : Fin 1024) :
    k0_pay3 x g (ix2 a l) = norm (fun l => x (ix2 a l)) (fun l => g (ix2 0 l)) l := by
  pointwise [k0_pay3, k0_pay2]
  rfl

/-- The second slab's. -/
theorem norm_second (x : Vec Ideal S512x1024 .f32) (g : Vec Ideal S1x1024 .f32) (a : Fin 512) (l : Fin 1024) :
    k0_pay23 (k0_pay20 x) (k0_pay21 g) (k0_pay22 x) (ix2 a l) = norm (fun l => x (ix2 a l)) (fun l => g (ix2 0 l)) l := by
  pointwise [k0_pay23, k0_pay20, k0_pay21, k0_pay22]
  rfl

/-- What the first slab's store holds, of its hidden rows. -/
theorem store_first (x : Vec Ideal S512x1024 .f32) (h : Vec Ideal S512x2816 .bf16) (d : Vec Ideal S2816x1024 .bf16) (g : Vec Ideal S1x1024 .f32)
    (a : Fin 512) (j : Fin 1024) : k0_pay19 (k0_pay2 x) h d g (ix2 a j)
      = x (ix2 a j) + Ideal.ofBits .f32 0x3F000000#32 * norm (down (fun f => h (ix2 a f)) fun f l => d (ix2 f l)) (fun l => g (ix2 0 l)) j := by
  pointwise [k0_pay19, k0_pay2]
  rfl

/-- What the second slab's store holds. -/
theorem store_second (x : Vec Ideal S512x1024 .f32) (v : FVec Ideal S512x1024 .f32) (g : FVec Ideal S1x1024 .f32)
    (a : Fin 512) (j : Fin 1024) : k0_pay1 (k0_pay20 x) v g (ix2 a j)
      = x (ix2 a j) + Ideal.ofBits .f32 0x3F000000#32 * norm (fun l => v (ix2 a l)) (fun l => g (ix2 0 l)) j := by
  pointwise [k0_pay1, k0_pay20]
  rfl

/-- The second slab's product with the narrower matrix. -/
theorem product (h : Vec Ideal S512x2816 .bf16) (d : Vec Ideal S2816x1024 .bf16) (a : Fin 512) (j : Fin 1024) :
    k0_pay50 h d (ix2 a j) = down (fun f => h (ix2 a f)) (fun f l => d (ix2 f l)) j := by
  pointwise [k0_pay50]
  rfl

/-- A row of weights passed through unchanged. -/
theorem weight_row (g : Vec Ideal S1x1024 .f32) (l : Fin 1024) : k0_pay51 g (ix2 0 l) = g (ix2 0 l) := by
  pointwise [k0_pay51]

/-- A gated column from its two products. -/
theorem hidden_of (x : Row) (w : Fin 1024 → Fin 5632 → EReal) (f : Fin 2816) (u v : Fin 5632) (hu : (u : ℕ) = f) (hv : (v : ℕ) = 2816 + f) :
    (∑ l : Fin 1024, x l * w l u) * Ideal.div 1 (1 + Ideal.exp (0 - ∑ l : Fin 1024, x l * w l u)) * (∑ l : Fin 1024, x l * w l v) = hidden x w f := by
  have eu : u = ⟨f, by clear hu hv; omega⟩ := Fin.ext hu
  have ev : v = ⟨2816 + f, by clear hu hv eu; omega⟩ := Fin.ext hv
  rw [zero_sub, eu, ev]
  rfl

/-- Reading back rows from `o` of the hidden rows. -/
theorem read_back {κ : Kind} {sp : Space} (v : View sig κ sp S1024x2816 .bf16) (L : List (View.Piece (Elt Ideal) S1024x2816 .bf16)) (o : ℕ)
    (inb : ∀ a, (![o, 0] : Fin 2 → ℕ) a + (![512, 2816] : Fin 2 → ℕ) a ≤ S1024x2816.size a) (p : Fin 512) (f : Fin 2816) (ho : o + 512 ≤ 1024) :
    v.readCov L (Rect.unit (s := S1024x2816) ![o, 0] ![512, 2816] inb).toLoadRect (ix2 p f) = View.canon L (ix2 ⟨o + p, by omega⟩ f) := by
  rw [View.readCov_eq_canon']
  refine congrArg (View.canon L) (funext fun a => Fin.ext ?_)
  fin_cases a <;> simp [LoadRect.idx, Rect.unit]

set_option maxHeartbeats 4000000 in
/-- The rows a point writes. -/
theorem out (t : Fin cfg0.N) (a : Fin 1024) (j : Fin 1024) :
    outsAt0 m c t (ix2 a j) = result (fun l => iblk m c 0 t (ix2 a l)) (fun l => iblk m c 1 t (ix2 0 l)) (fun l => iblk m c 2 t (ix2 0 l))
      (fun l f => iblk m c 3 t (ix2 l f)) (fun f l => iblk m c 4 t (ix2 f l)) j := by
  unfold outsAt0
  frame_open
  frame_out
  generalize iblk m c 0 t = x
  generalize iblk m c 1 t = g
  generalize iblk m c 2 t = g'
  generalize iblk m c 3 t = w
  generalize iblk m c 4 t = d
  generalize hy : ix2 a j = y
  canon_tiles y h
  case piece1 =>
    obtain ⟨p, q, rfl⟩ : ∃ p q, y = ix2 p q := ⟨y 0, y 1, eq_ix2 y⟩
    have ha : a = ⟨p, by omega⟩ := Fin.ext (by rw [← hy] at h0; exact h0)
    have hj : j = q := Fin.ext (by rw [← hy] at h1; exact h1)
    subst ha hj
    clear h0 h1 hy y0_lt y1_lt
    rw [store_first]
    unfold result
    refine congrArg₂ (· + ·) ?_ (congrArg (_ * ·) (congrFun (congrArg₂ norm (congrFun (congrArg down (funext fun f => ?_)) _) rfl) _))
    · pointwise
    · refine (read_back _ _ 0 _ p f (by omega)).trans ?_
      generalize hz : (ix2 ⟨0 + p, by omega⟩ f : S1024x2816.Idx) = z
      have e0 : (z 0 : ℕ) = p := by rw [← hz]; exact Nat.zero_add _
      have e1 : (z 1 : ℕ) = f := by rw [← hz]; rfl
      clear hz
      have hp : (z 0 : ℕ) < 512 := by omega
      have hf : (z 1 : ℕ) < 2816 := by omega
      canon_tiles z k using by
        simp only [List.mem_cons, List.not_mem_nil, exists_eq_or_imp, or_false, exists_eq_left, Rect.mem_set_unit, Fin.forall_fin_two]
        simp [hp]
        omega
      all_goals
        obtain ⟨p', q', rfl⟩ : ∃ p q, z = ix2 p q := ⟨z 0, z 1, eq_ix2 z⟩
        obtain rfl : p' = p := Fin.ext (k0.symm.trans e0)
        replace e1 := e1.symm.trans k1
        clear e0 k0 k1 hp hf z0_lt z1_lt
        simp only [ix2_1] at e1
        pointwise [norm_first, k0_pay4, k0_pay5, k0_pay6, k0_pay7, k0_pay8, k0_pay9, k0_pay10, k0_pay11, k0_pay12, k0_pay13, k0_pay14, k0_pay15,
          k0_pay16, k0_pay17, k0_pay18]
        exact hidden_of _ (fun l f => w (ix2 l f)) f _ _ (by dsimp only; omega) (by dsimp only; omega)
  case piece0 =>
    obtain ⟨p, q, rfl⟩ : ∃ p q, y = ix2 p q := ⟨y 0, y 1, eq_ix2 y⟩
    have ha : a = ⟨512 + p, by omega⟩ := Fin.ext (by rw [← hy] at h0; exact h0)
    have hj : j = q := Fin.ext (by rw [← hy] at h1; exact h1)
    subst ha hj
    clear h0 h1 hy y0_lt y1_lt
    rw [store_second]
    unfold result
    refine congrArg₂ (· + ·) ?_ (congrArg (_ * ·) (congrFun (congrArg₂ norm (funext fun l => (product _ _ p l).trans
      (congrFun (congrArg (down · fun f l => d (ix2 f l)) (funext fun f => ?_)) _)) (funext fun l => weight_row _ l)) _))
    · pointwise
    · refine (read_back _ _ 512 _ p f (by omega)).trans ?_
      generalize hz : (ix2 ⟨512 + p, by omega⟩ f : S1024x2816.Idx) = z
      have e0 : (z 0 : ℕ) = 512 + p := by rw [← hz]; rfl
      have e1 : (z 1 : ℕ) = f := by rw [← hz]; rfl
      clear hz
      canon_tiles z k
      all_goals
        obtain ⟨p', q', rfl⟩ : ∃ p q, z = ix2 p q := ⟨z 0, z 1, eq_ix2 z⟩
        replace e1 := e1.symm.trans k1
        simp only [ix2_0, ix2_1] at e0 e1 k0
        first
        | exact absurd p'.isLt (by omega)
        | obtain rfl : p' = p := Fin.ext (by omega)
          clear e0 k0 k1 z0_lt z1_lt
          pointwise [norm_second, k0_pay24, k0_pay25, k0_pay26, k0_pay27, k0_pay28, k0_pay29, k0_pay30, k0_pay31, k0_pay32, k0_pay33, k0_pay34,
            k0_pay35, k0_pay36, k0_pay37, k0_pay38, k0_pay39, k0_pay40, k0_pay41, k0_pay42, k0_pay43, k0_pay44, k0_pay45, k0_pay46, k0_pay47,
            k0_pay48, k0_pay49]
          exact hidden_of _ (fun l f => w (ix2 l f)) f _ _ (by dsimp only; omega) (by dsimp only; omega)

end Cert.Ffn.Block

end
-- ==== Proof.Ffn.Kernel.lean ====
/-
  The feed-forward kernel's result array: row `r` is the model's result of row `r` of the argument laid out as 16384 rows.
-/
module

public import proofs.«01_k».proof.Proof.Ffn.Block
public import Idealize.ShloMosaic.Lib.Pipeline.ValueKit
public import Idealize.ShloMosaic.Lib.Claim

@[expose] public section

set_option maxRecDepth 16384

noncomputable section

namespace Cert.Ffn

open Idealize.ShloMosaic

/-- The model on the five argument arrays. -/
def rows (h : (⟨3, ![4, 4096, 1024]⟩ : Shape).Idx → EReal) (gpre gpost : (⟨1, ![1024]⟩ : Shape).Idx → EReal)
    (w : (⟨2, ![1024, 5632]⟩ : Shape).Idx → EReal) (d : (⟨2, ![2816, 1024]⟩ : Shape).Idx → EReal) (r : Fin 16384) : Row :=
  result (fun l => h (ix3 ⟨r / 4096, by omega⟩ ⟨r % 4096, by omega⟩ l)) (fun l => gpre (ix1 l)) (fun l => gpost (ix1 l))
    (fun l f => w (ix2 l f)) (fun f l => d (ix2 f l))

/-- The same as an array. -/
def array (h : (⟨3, ![4, 4096, 1024]⟩ : Shape).Idx → EReal) (gpre gpost : (⟨1, ![1024]⟩ : Shape).Idx → EReal)
    (w : (⟨2, ![1024, 5632]⟩ : Shape).Idx → EReal) (d : (⟨2, ![2816, 1024]⟩ : Shape).Idx → EReal) :
    (⟨2, ![16384, 1024]⟩ : Shape).Idx → EReal := fun y => rows h gpre gpost w d (y 0) (y 1)

end Cert.Ffn

namespace Cert.Ffn.Kernel

open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

theorem h_array (r : Fin 16384) (l : Fin 1024) : (V m c main_v0 : S16384x1024.Idx → EReal) (ix2 r l)
    = (m ((c : Thread nD τ).loc main_arg0) : S4x4096x1024.Idx → EReal) (ix3 ⟨r / 4096, by omega⟩ ⟨r % 4096, by omega⟩ l) := by
  have h : V m c main_v0 = fun y : S16384x1024.Idx => (m ((c : Thread nD τ).loc main_arg0) : S4x4096x1024.Idx → EReal)
      (ix3 ⟨(y 0 : ℕ) / 4096, by have := (y 0).isLt; simp at this; omega⟩ ⟨(y 0 : ℕ) % 4096, by omega⟩ (y 1)) := by
    show StableHlo.after hostOps0 (fun b => m (c, b)) (Proc.devRef .tc main_v0) = _
    entry_read
    funext y
    rw [eq_ix2 y]
    pointwise
  exact congrFun h (ix2 r l)

theorem gpre_array : V m c main_v1 = fun y : S1x1024.Idx => (m ((c : Thread nD τ).loc main_arg1) : S1024.Idx → EReal) (ix1 (y 1)) := by
  show StableHlo.after hostOps0 (fun b => m (c, b)) (Proc.devRef .tc main_v1) = _
  entry_read
  funext y
  rw [eq_ix2 y]
  pointwise

theorem gpost_array : V m c main_v2 = fun y : S1x1024.Idx => (m ((c : Thread nD τ).loc main_arg2) : S1024.Idx → EReal) (ix1 (y 1)) := by
  show StableHlo.after hostOps0 (fun b => m (c, b)) (Proc.devRef .tc main_v2) = _
  entry_read
  funext y
  rw [eq_ix2 y]
  pointwise

theorem w_array : V m c main_v3 = fun y : S1024x5632.Idx => (m ((c : Thread nD τ).loc main_arg3) : S1024x5632.Idx → EReal) y := by
  show StableHlo.after hostOps0 (fun b => m (c, b)) (Proc.devRef .tc main_v3) = _
  entry_read
  funext y
  rw [eq_ix2 y]
  pointwise

theorem d_array : V m c main_v4 = fun y : S2816x1024.Idx => (m ((c : Thread nD τ).loc main_arg4) : S2816x1024.Idx → EReal) y := by
  show StableHlo.after hostOps0 (fun b => m (c, b)) (Proc.devRef .tc main_v4) = _
  entry_read
  funext y
  rw [eq_ix2 y]
  pointwise

theorem h_at (t : Fin cfg0.N) (a : Fin 1024) (l : Fin 1024) (r : Fin 16384) (hr : (r : ℕ) = 1024 * t.val + a) :
    (iblk m c 0 t : S1024x1024.Idx → EReal) (ix2 a l)
      = (m ((c : Thread nD τ).loc main_arg0) : S4x4096x1024.Idx → EReal) (ix3 ⟨r / 4096, by omega⟩ ⟨r % 4096, by omega⟩ l) := by
  have h : (iblk m c 0 t : S1024x1024.Idx → EReal) (ix2 a l) = (V m c main_v0 : S16384x1024.Idx → EReal) (ix2 r l) := by
    blk_ext [iblk, idx t]
  rw [h, h_array]

theorem gpre_at (t : Fin cfg0.N) (l : Fin 1024) :
    (iblk m c 1 t : S1x1024.Idx → EReal) (ix2 0 l) = (m ((c : Thread nD τ).loc main_arg1) : S1024.Idx → EReal) (ix1 l) := by
  have h : (iblk m c 1 t : S1x1024.Idx → EReal) (ix2 0 l) = (V m c main_v1 : S1x1024.Idx → EReal) (ix2 0 l) := by
    blk_ext [iblk, idx t]
  rw [h, gpre_array]
  rfl

theorem gpost_at (t : Fin cfg0.N) (l : Fin 1024) :
    (iblk m c 2 t : S1x1024.Idx → EReal) (ix2 0 l) = (m ((c : Thread nD τ).loc main_arg2) : S1024.Idx → EReal) (ix1 l) := by
  have h : (iblk m c 2 t : S1x1024.Idx → EReal) (ix2 0 l) = (V m c main_v2 : S1x1024.Idx → EReal) (ix2 0 l) := by
    blk_ext [iblk, idx t]
  rw [h, gpost_array]
  rfl

theorem w_at (t : Fin cfg0.N) (l : Fin 1024) (f : Fin 5632) :
    (iblk m c 3 t : S1024x5632.Idx → EReal) (ix2 l f) = (m ((c : Thread nD τ).loc main_arg3) : S1024x5632.Idx → EReal) (ix2 l f) := by
  have h : (iblk m c 3 t : S1024x5632.Idx → EReal) (ix2 l f) = (V m c main_v3 : S1024x5632.Idx → EReal) (ix2 l f) := by
    blk_ext [iblk, idx t]
  rw [h, w_array]

theorem d_at (t : Fin cfg0.N) (f : Fin 2816) (l : Fin 1024) :
    (iblk m c 4 t : S2816x1024.Idx → EReal) (ix2 f l) = (m ((c : Thread nD τ).loc main_arg4) : S2816x1024.Idx → EReal) (ix2 f l) := by
  have h : (iblk m c 4 t : S2816x1024.Idx → EReal) (ix2 f l) = (V m c main_v4 : S2816x1024.Idx → EReal) (ix2 f l) := by
    blk_ext [iblk, idx t]
  rw [h, d_array]

theorem array : (dats m 0 c).arrAt 5 cfg0.N = Ffn.array (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 16 := lt_of_lt_of_eq t.isLt N_0
  have e0 : (((win0_5.blk t).view.emb y) 0 : ℕ) = 1024 * t.val + y 0 := by
    blk_simp [idx t]
    omega
  have e1 : (((win0_5.blk t).view.emb y) 1 : ℕ) = y 1 := by
    blk_simp [idx t]
  generalize (win0_5.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [after0_5, Block.out]
  rw [show (fun l => iblk m c 0 t (ix2 a l)) = _ from funext fun l => h_at m c t a l r e0,
    show (fun l => iblk m c 1 t (ix2 0 l)) = _ from funext fun l => gpre_at m c t l,
    show (fun l => iblk m c 2 t (ix2 0 l)) = _ from funext fun l => gpost_at m c t l,
    show (fun l f => iblk m c 3 t (ix2 l f)) = _ from funext fun l => funext fun f => w_at m c t l f,
    show (fun f l => iblk m c 4 t (ix2 f l)) = _ from funext fun f => funext fun l => d_at m c t f l]
  rfl

end Cert.Ffn.Kernel

end
-- ==== Proof.Ffn.Reference.lean ====
/-
  The feed-forward reference's result array: the model's result, row by row. The reference's composed term is cut at its rows after the
  first norm, its gate and up products, its hidden rows and its rows after the second product, and each part is read at an index.
-/
module

public import proofs.«01_k».proof.Proof.Gen.Reference2Ideal.Run
public import proofs.«01_k».proof.Proof.Ffn.Kernel

@[expose] public section

set_option maxRecDepth 16384

noncomputable section

namespace Cert.Ffn.Reference

open Idealize.ShloMosaic Idealize.ShloMosaic.TcCoe Idealize.SL.Sem Idealize.ShloMosaic.StableHlo Cert.Reference2Ideal Cert.Reference2Ideal.Gen
  Cert.Reference2Ideal.Value

/-- The reference's norm. -/
def normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- Its first product. -/
def product (x : FVec Ideal S4x4096x1024 .f32) (w : FVec Ideal S1024x5632 .f32) : FVec Ideal S4x4096x5632 .f32 :=
  Host.dotGeneral dot_S4x4096x1024_S1024x5632_S4x4096x5632_2_0_01_1_n_n none x w

/-- Its gate. -/
def gated (u : FVec Ideal S4x4096x5632 .f32) : FVec Ideal S4x4096x2816 .f32 :=
  mulf (mulf (extractStridedSlice S4x4096x2816 ![0, 0, 0] u slices_S4x4096x5632_S4x4096x2816_0_0_0)
    (Host.divf (broadcastInDim S4x4096x2816 ![] bcast_S_S4x4096x2816 (constant S_ .f32 0x3F800000#32))
      (addf (broadcastInDim S4x4096x2816 ![] bcast_S_S4x4096x2816 (constant S_ .f32 0x3F800000#32))
        (Host.exp (Host.negf (extractStridedSlice S4x4096x2816 ![0, 0, 0] u slices_S4x4096x5632_S4x4096x2816_0_0_0))))))
    (extractStridedSlice S4x4096x2816 ![0, 0, 2816] u slices_S4x4096x5632_S4x4096x2816_0_0_2816)

/-- Its second product. -/
def lowered (h : FVec Ideal S4x4096x2816 .f32) (d : FVec Ideal S2816x1024 .f32) : FVec Ideal S4x4096x1024 .f32 :=
  Host.dotGeneral dot_S4x4096x2816_S2816x1024_S4x4096x1024_2_0_01_1_n_n none h d

/-- Its last sum, laid out as 16384 rows. -/
def summed (x y : FVec Ideal S4x4096x1024 .f32) : FVec Ideal S16384x1024 .f32 :=
  shapeCast _ (addf x (mulf (broadcastInDim S4x4096x1024 ![] bcast_S_S4x4096x1024 (constant S_ .f32 0x3F000000#32)) y))
    shapeCasts_S4x4096x1024_S16384x1024

theorem normed_at (x : FVec Ideal S4x4096x1024 .f32) (g : FVec Ideal S1024 .f32) (b : Fin 4) (a : Fin 4096) (l : Fin 1024) :
    normed x g (ix3 b a l) = norm (fun l => x (ix3 b a l)) (fun l => g (ix1 l)) l := by
  pointwise [normed]
  rfl

theorem product_at (x : FVec Ideal S4x4096x1024 .f32) (w : FVec Ideal S1024x5632 .f32) (b : Fin 4) (a : Fin 4096) (f : Fin 5632) :
    product x w (ix3 b a f) = up (fun l => x (ix3 b a l)) (fun l f => w (ix2 l f)) f := by
  pointwise [product]
  rfl

theorem gated_at (u : FVec Ideal S4x4096x5632 .f32) (b : Fin 4) (a : Fin 4096) (f : Fin 2816) (x : Row) (w : Fin 1024 → Fin 5632 → EReal)
    (hu : ∀ f, u (ix3 b a f) = up x w f) : gated u (ix3 b a f) = hidden x w f := by
  pointwise [gated, hu]
  rfl

theorem lowered_at (h : FVec Ideal S4x4096x2816 .f32) (d : FVec Ideal S2816x1024 .f32) (b : Fin 4) (a : Fin 4096) (l : Fin 1024) :
    lowered h d (ix3 b a l) = down (fun f => h (ix3 b a f)) (fun f l => d (ix2 f l)) l := by
  pointwise [lowered]
  rfl

theorem summed_at (x y : FVec Ideal S4x4096x1024 .f32) (r : Fin 16384) (l : Fin 1024) :
    summed x y (ix2 r l) = x (ix3 ⟨r / 4096, by omega⟩ ⟨r % 4096, by omega⟩ l)
      + Ideal.ofBits .f32 0x3F000000#32 * y (ix3 ⟨r / 4096, by omega⟩ ⟨r % 4096, by omega⟩ l) := by
  pointwise [summed]

/-- The parts together. -/
theorem parts (x : FVec Ideal S4x4096x1024 .f32) (gpre gpost : FVec Ideal S1024 .f32) (w : FVec Ideal S1024x5632 .f32) (d : FVec Ideal S2816x1024 .f32) :
    summed x (normed (lowered (gated (product (normed x gpre) w)) d) gpost) = Ffn.array x gpre gpost w d := by
  funext y
  obtain ⟨r, j, rfl⟩ : ∃ r j, y = ix2 r j := ⟨y 0, y 1, eq_ix2 y⟩
  rw [summed_at, normed_at]
  refine congrArg (_ + _ * ·) (congrFun (congrArg (norm · _) (funext fun l => (lowered_at _ _ _ _ l).trans ?_)) j)
  refine congrFun (congrArg (down · _) (funext fun f => gated_at _ _ _ f _ _ fun k => (product_at _ _ _ _ k).trans ?_)) l
  exact congrFun (congrArg (up · _) (funext fun i => normed_at _ _ _ _ i)) k

variable (m : (ℓ : Loc nD τ sig) → Buf (Elt Ideal) ℓ) (c : Dev nD)

theorem array : res_out0 m c = Ffn.array (m ((c : Thread nD τ).loc main_arg0)) (m ((c : Thread nD τ).loc main_arg1))
      (m ((c : Thread nD τ).loc main_arg2)) (m ((c : Thread nD τ).loc main_arg3)) (m ((c : Thread nD τ).loc main_arg4)) :=
  parts _ _ _ _ _

end Cert.Ffn.Reference

end
-- ==== Proof.Ffn.Claims.lean ====
/-
  The claims about the feed-forward part: each program ends with its arguments unchanged, and the kernel's result equals the reference's.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Ffn.Kernel
public import proofs.«01_k».proof.Proof.Ffn.Reference

@[expose] public section

set_option maxRecDepth 16384

noncomputable section

namespace Cert.Ffn.Claims

open Idealize.ShloMosaic Idealize.ShloMosaic.TcCoe Idealize.SL.Sem

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := by
  intro m ρ m' ρ' hm hagree
  refine ⟨fun c => (Cert.Kernel2Ideal.Gen.dats m 0 c).arrAt 5 Cert.Kernel2Ideal.cfg0.N, Cert.Kernel2Ideal.Value.run_blocks m ρ, ?_⟩
  refine (θ_run _ _ _).mono (fun _ h c => ⟨(h c).1.trans ?_, (h c).2⟩) (Cert.Reference2Ideal.Value.run (F := Ideal) m' ρ')
  obtain ⟨h0, h1, h2, h3, h4⟩ := hagree c
  refine (Reference.array m' c).trans ?_
  refine Eq.trans ?_ (Kernel.array m c).symm
  rw [h0, h1, h2, h3, h4]

end Cert.Ffn.Claims

end
-- ==== Proof.Xa.Model.lean ====
/-
  The mixer's output product and the cross-attention as plain mathematics over extended reals, for one row of 1024 numbers: add the normed
  output product to the row (`mixed`), take the query (`query`), attend over 256 places in 4 heads of 256 columns (`attended`), and add the
  normed product of what that gives (`result`). The kernel divides the weighted sum of a head's values by the sum of the weights, where the
  reference divides each weight (`divided`); the two agree where the row's largest score is finite (`divided_eq`).
-/
module

public import proofs.«01_k».proof.Proof.Ffn.Model

@[expose] public section

noncomputable section

namespace Cert.Xa

open Idealize.ShloMosaic Cert.Ffn

/-- A square matrix. -/
abbrev Square : Type := Fin 1024 → Fin 1024 → EReal

/-- A row times a square matrix. -/
def mul (x : Row) (w : Square) : Row := fun j => ∑ l : Fin 1024, x l * w l j

/-- The row with the mixer's output product added. -/
def mixed (h o g : Row) (w : Square) : Row := fun j => h j + norm (mul o w) g j

/-- The query of a row. -/
def query (x g : Row) (w : Square) : Row := mul (norm x g) w

/-- Column `d` of head `n`. -/
def col (n : Fin 4) (d : Fin 256) : Fin 1024 := ⟨n * 256 + d, by omega⟩

/-- The score of head `n` at place `p`. -/
def score (q : Row) (k : Fin 256 → Row) (n : Fin 4) (p : Fin 256) : EReal := ∑ d : Fin 256, q (col n d) * k p (col n d)

/-- The largest of 256 scores. -/
def top (s : Fin 256 → EReal) : EReal := Finset.univ.fold max (Ideal.ofBits .f32 0xFF800000#32) s

/-- The sum of the weights. -/
def total (s : Fin 256 → EReal) : EReal := ∑ p : Fin 256, Ideal.exp (s p - top s)

/-- The weighted sum of values over the sum of the weights. -/
def weighed (s v : Fin 256 → EReal) : EReal := Ideal.div (∑ p : Fin 256, Ideal.exp (s p - top s) * v p) (total s)

/-- The sum of values, each times its weight over the sum of the weights. -/
def divided (s v : Fin 256 → EReal) : EReal := ∑ p : Fin 256, Ideal.div (Ideal.exp (s p - top s)) (total s) * v p

/-- The attention of a query, its heads side by side, with the kernel's division. -/
def attended (q : Row) (k v : Fin 256 → Row) : Row := fun j => weighed (score q k ⟨j / 256, by omega⟩) fun p => v p j

/-- The cross-attention of a row, added to it. -/
def result (x gpre gpost : Row) (wq wo : Square) (k v : Fin 256 → Row) : Row := fun j =>
  x j + norm (mul (attended (query x gpre wq) k v) wo) gpost j

theorem least : Ideal.ofBits .f32 0xFF800000#32 = (⊥ : EReal) := by
  simp [Ideal.ofBits, Ideal.ieee]

theorem max_least (x : EReal) : max (Ideal.ofBits .f32 0xFF800000#32) x = x := by
  rw [least]
  exact max_eq_right bot_le

theorem score_le_top (s : Fin 256 → EReal) (p : Fin 256) : s p ≤ top s :=
  (Finset.le_fold_max _).mpr (.inr ⟨p, Finset.mem_univ p, le_rfl⟩)

theorem exists_top (s : Fin 256 → EReal) (hb : top s ≠ ⊥) : ∃ p, s p = top s := by
  rcases (Finset.le_fold_max _).mp (le_refl (top s)) with h | ⟨p, -, h⟩
  · exact absurd (le_bot_iff.mp (h.trans_eq least)) hb
  · exact ⟨p, le_antisymm (score_le_top s p) h⟩

/-- A weight is a real number, not negative. -/
theorem weight (s : Fin 256 → EReal) (hb : top s ≠ ⊥) (ht : top s ≠ ⊤) (p : Fin 256) :
    ∃ r : ℝ, 0 ≤ r ∧ Ideal.exp (s p - top s) = (r : EReal) := by
  have hle := score_le_top s p
  generalize top s = M at hb ht hle
  induction M with
  | bot => exact absurd rfl hb
  | top => exact absurd rfl ht
  | coe M =>
    generalize s p = x at hle
    induction x with
    | bot => exact ⟨0, le_rfl, by rw [EReal.bot_sub]; rfl⟩
    | top => exact absurd (top_le_iff.mp hle) (EReal.coe_ne_top M)
    | coe x => exact ⟨Real.exp (x - M), (Real.exp_pos _).le, by rw [← EReal.coe_sub]; rfl⟩

/-- The sum of the weights is a positive real number. -/
theorem total_real (s : Fin 256 → EReal) (hb : top s ≠ ⊥) (ht : top s ≠ ⊤) : ∃ r : ℝ, 0 < r ∧ total s = (r : EReal) := by
  choose r hr he using weight s hb ht
  refine ⟨∑ p, r p, ?_, by rw [total, Finset.sum_congr rfl fun p _ => he p]; exact (map_sum (⟨⟨Real.toEReal, rfl⟩, EReal.coe_add⟩ : ℝ →+ EReal) r _).symm⟩
  obtain ⟨p, hp⟩ := exists_top s hb
  refine Finset.sum_pos' (fun p _ => hr p) ⟨p, Finset.mem_univ p, ?_⟩
  have h := he p
  rw [hp, EReal.sub_self ht hb] at h
  refine lt_of_le_of_ne (hr p) fun h0 => ?_
  rw [← h0, ← EReal.coe_zero] at h
  exact Real.exp_ne_zero 0 (EReal.coe_eq_coe_iff.mp h)

/-- A sum times a real number that is not negative. -/
theorem sum_mul (r : ℝ) (hr : 0 ≤ r) (f : Fin 256 → EReal) : (∑ p, f p) * (r : EReal) = ∑ p, f p * (r : EReal) := by
  induction (Finset.univ : Finset (Fin 256)) using Finset.induction_on with
  | empty => simp
  | insert p t hp ih =>
    rw [Finset.sum_insert hp, Finset.sum_insert hp, EReal.right_distrib_of_nonneg_of_ne_top (EReal.coe_nonneg.mpr hr) (EReal.coe_ne_top r), ih]

/-- The two divisions agree where the largest score is finite. -/
theorem divided_eq (s v : Fin 256 → EReal) (hb : top s ≠ ⊥) (ht : top s ≠ ⊤) : divided s v = weighed s v := by
  obtain ⟨r, hr, h⟩ := total_real s hb ht
  have hd : ∀ x : EReal, Ideal.div x (total s) = x * ((r⁻¹ : ℝ) : EReal) := fun x => by
    rw [h, Ideal.div, if_neg (by exact_mod_cast hr.ne'), EReal.coe_inv]
  rw [divided, weighed, hd, sum_mul _ (inv_nonneg.mpr hr.le)]
  refine Finset.sum_congr rfl fun p _ => ?_
  rw [hd, mul_right_comm]

end Cert.Xa

end
-- ==== Proof.Xa.Block.lean ====
/-
  One grid point of the mixer-output and cross-attention kernel: the 1024 rows it writes are the model's result of the 1024 rows it reads.
-/
module

public import proofs.«01_k».proof.Proof.Gen.Kernel3Ideal.Value
public import proofs.«01_k».proof.Proof.Xa.Model
public import Idealize.ShloMosaic.Lib.Pipeline.ValueKit
public import Idealize.ShloMosaic.Lib.Pointwise

@[expose] public section

set_option maxRecDepth 16384

noncomputable section

namespace Cert.Xa.Block

open Idealize.ShloMosaic Idealize.ShloMosaic.TcCoe Idealize.SL.Sem Cert.Kernel3Ideal Cert.Kernel3Ideal.Gen Cert.Ffn

variable (m : (ℓ : Loc nD τ sig) → Buf (Elt Ideal) ℓ) (c : Dev nD)

theorem mixed_at (o : Vec Ideal S1x1024x1024 .bf16) (w : Vec Ideal S1024x1024 .bf16) (h : Vec Ideal S1x1024x1024 .f32) (g : Vec Ideal S1x1024 .f32)
    (a j : Fin 1024) : k0_pay2 o w h g (ix2 a j)
      = mixed (fun l => h (ix3 0 a l)) (fun l => o (ix3 0 a l)) (fun l => g (ix2 0 l)) (fun l j => w (ix2 l j)) j := by
  pointwise [k0_pay2]
  rfl

theorem normed_at (o : Vec Ideal S1x1024x1024 .bf16) (w : Vec Ideal S1024x1024 .bf16) (h : Vec Ideal S1x1024x1024 .f32) (g g' : Vec Ideal S1x1024 .f32)
    (a j : Fin 1024) : k0_pay3 o w h g g' (ix2 a j)
      = norm (mixed (fun l => h (ix3 0 a l)) (fun l => o (ix3 0 a l)) (fun l => g (ix2 0 l)) (fun l j => w (ix2 l j))) (fun l => g' (ix2 0 l)) j := by
  pointwise [k0_pay3, mixed_at]
  rfl

theorem query_at (x : FVec Ideal S1024x1024 .bf16) (w : Vec Ideal S1024x1024 .bf16) (a j : Fin 1024) :
    k0_pay4 x w (ix2 a j) = mul (fun l => x (ix2 a l)) (fun l j => w (ix2 l j)) j := by
  pointwise [k0_pay4]
  rfl

theorem output_at (x : FVec Ideal S1024x1024 .f32) (y : FVec Ideal S1024x1024 .bf16) (w : Vec Ideal S1024x1024 .bf16) (g : Vec Ideal S1x1024 .f32)
    (a j : Fin 1024) : k0_pay1 x y w g (ix3 0 a j)
      = x (ix2 a j) + norm (mul (fun l => y (ix2 a l)) fun l j => w (ix2 l j)) (fun l => g (ix2 0 l)) j := by
  pointwise [k0_pay1]
  rfl

/-- A head's scores from its columns of the query and of the keys. -/
def part (q : Fin 256 → EReal) (k : Vec Ideal S1x256x256 .bf16) (p : Fin 256) : EReal := ∑ d : Fin 256, q d * k (ix3 0 p d)

theorem head0_at (x : FVec Ideal S1024x1024 .bf16) (w : Vec Ideal S1024x1024 .bf16) (k v : Vec Ideal S1x256x256 .bf16) (a : Fin 1024) (d : Fin 256) :
    k0_pay5 x w k v (ix2 a d)
      = weighed (part (fun d => mul (fun l => x (ix2 a l)) (fun l j => w (ix2 l j)) ⟨d, by omega⟩) k) fun p => v (ix3 0 p d) := by
  pointwise [k0_pay5, query_at]
  rfl

theorem head1_at (x : FVec Ideal S1024x1024 .bf16) (w : Vec Ideal S1024x1024 .bf16) (k v : Vec Ideal S1x256x256 .bf16) (a : Fin 1024) (d : Fin 256) :
    k0_pay6 x w k v (ix2 a d)
      = weighed (part (fun d => mul (fun l => x (ix2 a l)) (fun l j => w (ix2 l j)) ⟨256 + d, by omega⟩) k) fun p => v (ix3 0 p d) := by
  pointwise [k0_pay6, query_at]
  rfl

/-- The four heads side by side, the first two as given. -/
theorem heads_at (q : FVec Ideal S1024x1024 .bf16) (y0 : FVec Ideal S1024x256 .bf16) (y1 : FVec Ideal S1024x256 .f32)
    (k2 v2 k3 v3 : Vec Ideal S1x256x256 .bf16) (a j : Fin 1024) : k0_pay7 q y0 y1 k2 v2 k3 v3 (ix2 a j)
      = if h0 : (j : ℕ) < 256 then y0 (ix2 a ⟨j, h0⟩)
        else if h1 : (j : ℕ) - 256 < 256 then y1 (ix2 a ⟨j - 256, h1⟩)
        else if h2 : (j : ℕ) - 256 - 256 < 256 then
          weighed (part (fun d => q (ix2 a ⟨512 + d, by clear h0 h1 h2; omega⟩)) k2) fun p => v2 (ix3 0 p ⟨j - 256 - 256, h2⟩)
        else weighed (part (fun d => q (ix2 a ⟨768 + d, by clear h0 h1 h2; omega⟩)) k3) fun p => v3 (ix3 0 p ⟨j - 256 - 256 - 256, by omega⟩) := by
  pointwise [k0_pay7]
  rfl

/-- A head of the model, by its number. -/
theorem head_eq (q : Row) (k v : Fin 256 → Row) (j : Fin 1024) (n : Fin 4) (d : Fin 256) (hj : j = col n d) (qs : Fin 256 → EReal)
    (ks vs : Vec Ideal S1x256x256 .bf16) (hq : ∀ d, qs d = q (col n d)) (hk : ∀ p d, ks (ix3 0 p d) = k p (col n d))
    (hv : ∀ p d, vs (ix3 0 p d) = v p (col n d)) (e : Fin 256) (he : e = d) :
    weighed (part qs ks) (fun p => vs (ix3 0 p e)) = attended q k v j := by
  subst hj he
  have hn : (⟨(col n e : ℕ) / 256, by omega⟩ : Fin 4) = n := Fin.ext (by show (n.val * 256 + e.val) / 256 = n.val; omega)
  unfold attended
  rw [hn]
  exact congrArg₂ weighed (funext fun p => Finset.sum_congr rfl fun d _ => by rw [hq, hk]) (funext fun p => hv p e)

/-- The four heads are the model's. -/
theorem heads (x : FVec Ideal S1024x1024 .bf16) (w : Vec Ideal S1024x1024 .bf16) (k v : Fin 256 → Row) (k0 v0 k1 v1 k2 v2 k3 v3 : Vec Ideal S1x256x256 .bf16)
    (hk0 : ∀ p d, k0 (ix3 0 p d) = k p (col 0 d)) (hv0 : ∀ p d, v0 (ix3 0 p d) = v p (col 0 d))
    (hk1 : ∀ p d, k1 (ix3 0 p d) = k p (col 1 d)) (hv1 : ∀ p d, v1 (ix3 0 p d) = v p (col 1 d))
    (hk2 : ∀ p d, k2 (ix3 0 p d) = k p (col 2 d)) (hv2 : ∀ p d, v2 (ix3 0 p d) = v p (col 2 d))
    (hk3 : ∀ p d, k3 (ix3 0 p d) = k p (col 3 d)) (hv3 : ∀ p d, v3 (ix3 0 p d) = v p (col 3 d)) (a j : Fin 1024) :
    k0_pay7 (k0_pay4 x w) (k0_pay5 x w k0 v0) (k0_pay6 x w k1 v1) k2 v2 k3 v3 (ix2 a j)
      = attended (mul (fun l => x (ix2 a l)) fun l j => w (ix2 l j)) k v j := by
  rw [heads_at]
  split_ifs with h0 h1 h2
  · rw [head0_at]
    exact head_eq _ k v j 0 ⟨j, h0⟩ (Fin.ext (by simp [col])) _ _ _
      (fun d => congrArg (mul _ _) (Fin.ext (by simp [col]))) hk0 hv0 _ rfl
  · rw [head1_at]
    exact head_eq _ k v j 1 ⟨j - 256, h1⟩ (Fin.ext (by simp [col]; omega)) _ _ _
      (fun d => congrArg (mul _ _) (Fin.ext (by simp [col]))) hk1 hv1 _ rfl
  · exact head_eq _ k v j 2 ⟨j - 256 - 256, h2⟩ (Fin.ext (by simp [col]; omega)) _ _ _
      (fun d => (query_at _ _ _ _).trans (congrArg (mul _ _) (Fin.ext (by simp [col])))) hk2 hv2 _ rfl
  · exact head_eq _ k v j 3 ⟨j - 256 - 256 - 256, by omega⟩ (Fin.ext (by simp [col]; omega)) _ _ _
      (fun d => (query_at _ _ _ _).trans (congrArg (mul _ _) (Fin.ext (by simp [col])))) hk3 hv3 _ rfl

/-- The rows stored, of the ten blocks read. -/
theorem stored (x0 : Vec Ideal S1x1024x1024 .f32) (x1 x2 x3 : Vec Ideal S1x1024 .f32) (x4 : Vec Ideal S1x1024x1024 .bf16)
    (x5 x6 : Vec Ideal S1024x1024 .bf16) (x7 x8 : Vec Ideal S1x256x1024 .bf16) (x9 : Vec Ideal S1024x1024 .bf16) (a j : Fin 1024) :
    k0_pay1 (k0_pay2 (View.ld x4 r0_0) (View.ld x5 r0_1) (View.ld x0 r0_0) (View.ld x1 r0_2))
      (k0_pay7
        (k0_pay4 (k0_pay3 (View.ld x4 r0_0) (View.ld x5 r0_1) (View.ld x0 r0_0) (View.ld x1 r0_2) (View.ld x2 r0_2)) (View.ld x6 r0_1))
        (k0_pay5 (k0_pay3 (View.ld x4 r0_0) (View.ld x5 r0_1) (View.ld x0 r0_0) (View.ld x1 r0_2) (View.ld x2 r0_2)) (View.ld x6 r0_1)
          (View.ld x7 r0_3) (View.ld x8 r0_3))
        (k0_pay6 (k0_pay3 (View.ld x4 r0_0) (View.ld x5 r0_1) (View.ld x0 r0_0) (View.ld x1 r0_2) (View.ld x2 r0_2)) (View.ld x6 r0_1)
          (View.ld x7 r0_4) (View.ld x8 r0_4))
        (View.ld x7 r0_5) (View.ld x8 r0_5) (View.ld x7 r0_6) (View.ld x8 r0_6))
      (View.ld x9 r0_1) (View.ld x3 r0_2) (ix3 0 a j)
    = result (mixed (fun l => x0 (ix3 0 a l)) (fun l => x4 (ix3 0 a l)) (fun l => x1 (ix2 0 l)) fun l j => x5 (ix2 l j))
        (fun l => x2 (ix2 0 l)) (fun l => x3 (ix2 0 l)) (fun l j => x6 (ix2 l j)) (fun l j => x9 (ix2 l j))
        (fun p l => x7 (ix3 0 p l)) (fun p l => x8 (ix3 0 p l)) j := by
  have e0 : View.ld x0 r0_0 = x0 := funext fun y => by
    rw [eq_ix3 y]
    pointwise
    exact congrArg x0 (funext fun i => by fin_cases i <;> first | rfl | exact Subsingleton.elim (α := Fin 1) _ _)
  have e4 : View.ld x4 r0_0 = x4 := funext fun y => by
    rw [eq_ix3 y]
    pointwise
    exact congrArg x4 (funext fun i => by fin_cases i <;> first | rfl | exact Subsingleton.elim (α := Fin 1) _ _)
  have e5 : View.ld x5 r0_1 = x5 := by funext y; rw [eq_ix2 y]; pointwise
  have e6 : View.ld x6 r0_1 = x6 := by funext y; rw [eq_ix2 y]; pointwise
  have e9 : View.ld x9 r0_1 = x9 := by funext y; rw [eq_ix2 y]; pointwise
  have e1 : View.ld x1 r0_2 = x1 := funext fun y => by
    rw [eq_ix2 y]
    pointwise
    exact congrArg x1 (funext fun i => by fin_cases i <;> first | rfl | exact Subsingleton.elim (α := Fin 1) _ _)
  have e2 : View.ld x2 r0_2 = x2 := funext fun y => by
    rw [eq_ix2 y]
    pointwise
    exact congrArg x2 (funext fun i => by fin_cases i <;> first | rfl | exact Subsingleton.elim (α := Fin 1) _ _)
  have e3 : View.ld x3 r0_2 = x3 := funext fun y => by
    rw [eq_ix2 y]
    pointwise
    exact congrArg x3 (funext fun i => by fin_cases i <;> first | rfl | exact Subsingleton.elim (α := Fin 1) _ _)
  rw [e0, e1, e2, e3, e4, e5, e6, e9, output_at, mixed_at]
  unfold result
  refine congrArg₂ (· + ·) rfl (congrFun (congrArg₂ norm (congrArg₂ mul (funext fun l => ?_) rfl) rfl) j)
  refine (heads _ _ (fun p l => x7 (ix3 0 p l)) (fun p l => x8 (ix3 0 p l)) _ _ _ _ _ _ _ _ ?_ ?_ ?_ ?_ ?_ ?_ ?_ ?_ a l).trans ?_
  iterate 8
    · intro p d
      pointwise [col]
  exact congrFun (congrArg (fun q => attended q (fun p l => x7 (ix3 0 p l)) fun p l => x8 (ix3 0 p l))
    (congrArg₂ mul (funext fun i => normed_at _ _ _ _ _ a i) rfl)) l

/-- The rows a point writes. -/
theorem out (t : Fin cfg0.N) (a j : Fin 1024) : (dats m 0 c).after 10 t (ix3 0 a j)
    = result (mixed (fun l => iblk m c 0 t (ix3 0 a l)) (fun l => iblk m c 4 t (ix3 0 a l)) (fun l => iblk m c 1 t (ix2 0 l))
        (fun l j => iblk m c 5 t (ix2 l j)))
      (fun l => iblk m c 2 t (ix2 0 l)) (fun l => iblk m c 3 t (ix2 0 l)) (fun l j => iblk m c 6 t (ix2 l j)) (fun l j => iblk m c 9 t (ix2 l j))
      (fun p l => iblk m c 7 t (ix3 0 p l)) (fun p l => iblk m c 8 t (ix3 0 p l)) j := by
  rw [after0_10]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  unfold_out out0_10
  generalize hy : (ix3 0 a j : S1x1024x1024.Idx) = y
  canon_tiles y h
  case piece0 =>
    subst hy
    obtain ⟨z, p, q, rfl⟩ : ∃ z p q, y = ix3 z p q := ⟨y 0, y 1, y 2, eq_ix3 y⟩
    obtain rfl : a = p := Fin.ext h1
    obtain rfl : j = q := Fin.ext h2
    obtain rfl : 0 = z := Fin.ext h0
    exact stored x0 x1 x2 x3 x4 x5 x6 x7 x8 x9 a j

end Cert.Xa.Block

end
-- ==== Proof.Xa.Kernel.lean ====
/-
  The mixer-output and cross-attention kernel's result array: each row is the model's result of the same row of the arguments, with the keys
  and the values of its batch.
-/
module

public import proofs.«01_k».proof.Proof.Xa.Block
public import Idealize.ShloMosaic.Lib.Pipeline.ValueKit
public import Idealize.ShloMosaic.Lib.Claim

@[expose] public section

set_option maxRecDepth 16384

noncomputable section

namespace Cert.Xa

open Idealize.ShloMosaic Cert.Ffn

/-- An array of rows, four batches of 4096. -/
abbrev Rows : Type := (⟨3, ![4, 4096, 1024]⟩ : Shape).Idx → EReal

/-- An array of keys or values, four batches of 256 rows. -/
abbrev Places : Type := (⟨3, ![4, 256, 1024]⟩ : Shape).Idx → EReal

/-- A weight per column. -/
abbrev Weights : Type := (⟨1, ![1024]⟩ : Shape).Idx → EReal

/-- A square matrix as an array. -/
abbrev Matrix : Type := (⟨2, ![1024, 1024]⟩ : Shape).Idx → EReal

/-- The rows with the mixer's output added. -/
def mixedRow (h o : Rows) (g : Weights) (w : Matrix) (b : Fin 4) (a : Fin 4096) : Row :=
  mixed (fun l => h (ix3 b a l)) (fun l => o (ix3 b a l)) (fun l => g (ix1 l)) (fun l j => w (ix2 l j))

/-- The model on the ten argument arrays. -/
def array (h o : Rows) (k v : Places) (gmix gpre gpost : Weights) (wout wq wo : Matrix) : Rows := fun y =>
  result (mixedRow h o gmix wout (y 0) (y 1)) (fun l => gpre (ix1 l)) (fun l => gpost (ix1 l)) (fun l j => wq (ix2 l j)) (fun l j => wo (ix2 l j))
    (fun p l => k (ix3 (y 0) p l)) (fun p l => v (ix3 (y 0) p l)) (y 2)

end Cert.Xa

namespace Cert.Xa.Kernel

open Idealize.ShloMosaic Idealize.ShloMosaic.TcCoe Idealize.SL.Sem Cert.Kernel3Ideal Cert.Kernel3Ideal.Gen

variable (m : (ℓ : Loc nD τ sig) → Buf (Elt Ideal) ℓ) (c : Dev nD)

theorem idx : ∀ t : Fin cfg0.N, win0_0.index t = ![t.val / 4, t.val % 4, 0] ∧ win0_1.index t = ![0, 0] ∧ win0_2.index t = ![0, 0]
    ∧ win0_3.index t = ![0, 0] ∧ win0_4.index t = ![t.val / 4, t.val % 4, 0] ∧ win0_5.index t = ![0, 0] ∧ win0_6.index t = ![0, 0]
    ∧ win0_7.index t = ![t.val / 4, 0, 0] ∧ win0_8.index t = ![t.val / 4, 0, 0] ∧ win0_9.index t = ![0, 0]
    ∧ win0_10.index t = ![t.val / 4, t.val % 4, 0] :=
  (by decide +kernel : ∀ t : Fin grid0.N, _)

theorem gmix_array : V m c main_v0 = fun y : S1x1024.Idx => (m ((c : Thread nD τ).loc main_arg4) : S1024.Idx → EReal) (ix1 (y 1)) := by
  show StableHlo.after hostOps0 (fun b => m (c, b)) (Proc.devRef .tc main_v0) = _
  entry_read
  funext y
  rw [eq_ix2 y]
  pointwise

theorem gpre_array : V m c main_v1 = fun y : S1x1024.Idx => (m ((c : Thread nD τ).loc main_arg5) : S1024.Idx → EReal) (ix1 (y 1)) := by
  show StableHlo.after hostOps0 (fun b => m (c, b)) (Proc.devRef .tc main_v1) = _
  entry_read
  funext y
  rw [eq_ix2 y]
  pointwise

theorem gpost_array : V m c main_v2 = fun y : S1x1024.Idx => (m ((c : Thread nD τ).loc main_arg6) : S1024.Idx → EReal) (ix1 (y 1)) := by
  show StableHlo.after hostOps0 (fun b => m (c, b)) (Proc.devRef .tc main_v2) = _
  entry_read
  funext y
  rw [eq_ix2 y]
  pointwise

theorem wout_array : V m c main_v3 = fun y : S1024x1024.Idx => (m ((c : Thread nD τ).loc main_arg7) : S1024x1024.Idx → EReal) y := by
  show StableHlo.after hostOps0 (fun b => m (c, b)) (Proc.devRef .tc main_v3) = _
  entry_read
  funext y
  rw [eq_ix2 y]
  pointwise

theorem wq_array : V m c main_v4 = fun y : S1024x1024.Idx => (m ((c : Thread nD τ).loc main_arg8) : S1024x1024.Idx → EReal) y := by
  show StableHlo.after hostOps0 (fun b => m (c, b)) (Proc.devRef .tc main_v4) = _
  entry_read
  funext y
  rw [eq_ix2 y]
  pointwise

theorem wo_array : V m c main_v5 = fun y : S1024x1024.Idx => (m ((c : Thread nD τ).loc main_arg9) : S1024x1024.Idx → EReal) y := by
  show StableHlo.after hostOps0 (fun b => m (c, b)) (Proc.devRef .tc main_v5) = _
  entry_read
  funext y
  rw [eq_ix2 y]
  pointwise

theorem h_at (t : Fin cfg0.N) (a : Fin 1024) (l : Fin 1024) (b : Fin 4) (r : Fin 4096) (hb : (b : ℕ) = t.val / 4)
    (hr : (r : ℕ) = 1024 * (t.val % 4) + a) : (iblk m c 0 t : S1x1024x1024.Idx → EReal) (ix3 0 a l)
      = (m ((c : Thread nD τ).loc main_arg0) : S4x4096x1024.Idx → EReal) (ix3 b r l) := by
  blk_ext [iblk, V, idx t]

theorem o_at (t : Fin cfg0.N) (a : Fin 1024) (l : Fin 1024) (b : Fin 4) (r : Fin 4096) (hb : (b : ℕ) = t.val / 4)
    (hr : (r : ℕ) = 1024 * (t.val % 4) + a) : (iblk m c 4 t : S1x1024x1024.Idx → EReal) (ix3 0 a l)
      = (m ((c : Thread nD τ).loc main_arg1) : S4x4096x1024.Idx → EReal) (ix3 b r l) := by
  blk_ext [iblk, V, idx t]

theorem k_at (t : Fin cfg0.N) (p : Fin 256) (l : Fin 1024) (b : Fin 4) (hb : (b : ℕ) = t.val / 4) :
    (iblk m c 7 t : S1x256x1024.Idx → EReal) (ix3 0 p l)
      = (m ((c : Thread nD τ).loc main_arg2) : S4x256x1024.Idx → EReal) (ix3 b p l) := by
  blk_ext [iblk, V, idx t]

theorem v_at (t : Fin cfg0.N) (p : Fin 256) (l : Fin 1024) (b : Fin 4) (hb : (b : ℕ) = t.val / 4) :
    (iblk m c 8 t : S1x256x1024.Idx → EReal) (ix3 0 p l)
      = (m ((c : Thread nD τ).loc main_arg3) : S4x256x1024.Idx → EReal) (ix3 b p l) := by
  blk_ext [iblk, V, idx t]

theorem gmix_at (t : Fin cfg0.N) (l : Fin 1024) :
    (iblk m c 1 t : S1x1024.Idx → EReal) (ix2 0 l) = (m ((c : Thread nD τ).loc main_arg4) : S1024.Idx → EReal) (ix1 l) := by
  have h : (iblk m c 1 t : S1x1024.Idx → EReal) (ix2 0 l) = (V m c main_v0 : S1x1024.Idx → EReal) (ix2 0 l) := by
    blk_ext [iblk, idx t]
  rw [h, gmix_array]
  rfl

theorem gpre_at (t : Fin cfg0.N) (l : Fin 1024) :
    (iblk m c 2 t : S1x1024.Idx → EReal) (ix2 0 l) = (m ((c : Thread nD τ).loc main_arg5) : S1024.Idx → EReal) (ix1 l) := by
  have h : (iblk m c 2 t : S1x1024.Idx → EReal) (ix2 0 l) = (V m c main_v1 : S1x1024.Idx → EReal) (ix2 0 l) := by
    blk_ext [iblk, idx t]
  rw [h, gpre_array]
  rfl

theorem gpost_at (t : Fin cfg0.N) (l : Fin 1024) :
    (iblk m c 3 t : S1x1024.Idx → EReal) (ix2 0 l) = (m ((c : Thread nD τ).loc main_arg6) : S1024.Idx → EReal) (ix1 l) := by
  have h : (iblk m c 3 t : S1x1024.Idx → EReal) (ix2 0 l) = (V m c main_v2 : S1x1024.Idx → EReal) (ix2 0 l) := by
    blk_ext [iblk, idx t]
  rw [h, gpost_array]
  rfl

theorem wout_at (t : Fin cfg0.N) (l j : Fin 1024) :
    (iblk m c 5 t : S1024x1024.Idx → EReal) (ix2 l j) = (m ((c : Thread nD τ).loc main_arg7) : S1024x1024.Idx → EReal) (ix2 l j) := by
  have h : (iblk m c 5 t : S1024x1024.Idx → EReal) (ix2 l j) = (V m c main_v3 : S1024x1024.Idx → EReal) (ix2 l j) := by
    blk_ext [iblk, idx t]
  rw [h, wout_array]

theorem wq_at (t : Fin cfg0.N) (l j : Fin 1024) :
    (iblk m c 6 t : S1024x1024.Idx → EReal) (ix2 l j) = (m ((c : Thread nD τ).loc main_arg8) : S1024x1024.Idx → EReal) (ix2 l j) := by
  have h : (iblk m c 6 t : S1024x1024.Idx → EReal) (ix2 l j) = (V m c main_v4 : S1024x1024.Idx → EReal) (ix2 l j) := by
    blk_ext [iblk, idx t]
  rw [h, wq_array]

theorem wo_at (t : Fin cfg0.N) (l j : Fin 1024) :
    (iblk m c 9 t : S1024x1024.Idx → EReal) (ix2 l j) = (m ((c : Thread nD τ).loc main_arg9) : S1024x1024.Idx → EReal) (ix2 l j) := by
  have h : (iblk m c 9 t : S1024x1024.Idx → EReal) (ix2 l j) = (V m c main_v5 : S1024x1024.Idx → EReal) (ix2 l j) := by
    blk_ext [iblk, idx t]
  rw [h, wo_array]

theorem array : (dats m 0 c).arrAt 10 cfg0.N = Xa.array (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := by
  refine (dats m 0 c).arrAt_eq_of_covers 10 _ (by decide +kernel) fun t hf y => ?_
  have ht : t.val < 16 := lt_of_lt_of_eq t.isLt N_0
  have hy : (y 0 : ℕ) < 1 := (y 0).isLt
  have e0 : (((win0_10.blk t).view.emb y) 0 : ℕ) = t.val / 4 := by
    blk_simp [idx t]
  have e1 : (((win0_10.blk t).view.emb y) 1 : ℕ) = 1024 * (t.val % 4) + y 1 := by
    blk_simp [idx t]
    omega
  have e2 : (((win0_10.blk t).view.emb y) 2 : ℕ) = y 2 := by
    blk_simp [idx t]
  generalize (win0_10.blk t).view.emb y = z at e0 e1 e2
  obtain ⟨u, a, j, rfl⟩ : ∃ u a j, y = ix3 u a j := ⟨y 0, y 1, y 2, eq_ix3 y⟩
  obtain ⟨b, r, k, rfl⟩ : ∃ b r k, z = ix3 b r k := ⟨z 0, z 1, z 2, eq_ix3 z⟩
  obtain rfl : k = j := Fin.ext e2
  obtain rfl : u = 0 := Subsingleton.elim (α := Fin 1) _ _
  blk_simp
  rw [Block.out]
  rw [show (fun l => iblk m c 0 t (ix3 0 a l)) = _ from funext fun l => h_at m c t a l b r e0 e1,
    show (fun l => iblk m c 4 t (ix3 0 a l)) = _ from funext fun l => o_at m c t a l b r e0 e1,
    show (fun l => iblk m c 1 t (ix2 0 l)) = _ from funext fun l => gmix_at m c t l,
    show (fun l => iblk m c 2 t (ix2 0 l)) = _ from funext fun l => gpre_at m c t l,
    show (fun l => iblk m c 3 t (ix2 0 l)) = _ from funext fun l => gpost_at m c t l,
    show (fun l j => iblk m c 5 t (ix2 l j)) = _ from funext fun l => funext fun j => wout_at m c t l j,
    show (fun l j => iblk m c 6 t (ix2 l j)) = _ from funext fun l => funext fun j => wq_at m c t l j,
    show (fun l j => iblk m c 9 t (ix2 l j)) = _ from funext fun l => funext fun j => wo_at m c t l j,
    show (fun p l => iblk m c 7 t (ix3 0 p l)) = _ from funext fun p => funext fun l => k_at m c t p l b e0,
    show (fun p l => iblk m c 8 t (ix3 0 p l)) = _ from funext fun p => funext fun l => v_at m c t p l b e0]
  rfl

end Cert.Xa.Kernel

end
-- ==== Proof.Xa.Reference.lean ====
/-
  The mixer-output and cross-attention reference's result array: the model's result, row by row, wherever the largest score of each head of
  each row is finite. The reference's composed term is cut at its products, its norms, its scores, its largest scores and its heads, and each
  part is read at an index.
-/
module

public import proofs.«01_k».proof.Proof.Gen.Reference3Ideal.Run
public import proofs.«01_k».proof.Proof.Xa.Kernel

@[expose] public section

set_option maxRecDepth 16384

noncomputable section

namespace Cert.Xa.Reference

open Idealize.ShloMosaic Idealize.ShloMosaic.TcCoe Idealize.SL.Sem Idealize.ShloMosaic.StableHlo Cert.Reference3Ideal Cert.Reference3Ideal.Gen
  Cert.Reference3Ideal.Value Cert.Ffn

/-- The reference's norm. -/
def normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- Its product with a square matrix. -/
def product (x : FVec Ideal S4x4096x1024 .f32) (w : FVec Ideal S1024x1024 .f32) : FVec Ideal S4x4096x1024 .f32 :=
  Host.dotGeneral dot_S4x4096x1024_S1024x1024_S4x4096x1024_2_0_01_1_n_n none x w

/-- A sum of the rows and normed rows. -/
def summed (x y : FVec Ideal S4x4096x1024 .f32) (g : FVec Ideal S1024 .f32) : FVec Ideal S4x4096x1024 .f32 := addf x (normed y g)

/-- Its scores. -/
def scores (q : FVec Ideal S4x4096x1024 .f32) (k : FVec Ideal S4x256x1024 .bf16) : FVec Ideal S4x4x4096x256 .f32 :=
  Host.dotGeneral dot_S4x4096x4x256_S4x256x4x256_S4x4x4096x256_3_3_1_1_02_02 none
    (shapeCast _ q shapeCasts_S4x4096x1024_S4x4096x4x256) (shapeCast _ (extf .f32 k bitsLt_bf16_f32) shapeCasts_S4x256x1024_S4x256x4x256)

/-- The largest score of each head of each row. -/
def largest (s : FVec Ideal S4x4x4096x256 .f32) : FVec Ideal S4x4x4096 .f32 :=
  Host.reduce FloatOps.maximumf s (constant S_ .f32 0xFF800000#32) reducesTo_S4x4x4096x256_S4x4x4096_d3 h_S_

/-- Its weights, not yet divided. -/
def weights (s : FVec Ideal S4x4x4096x256 .f32) (t : FVec Ideal S4x4x4096 .f32) : FVec Ideal S4x4x4096x256 .f32 :=
  Host.exp (subf s (broadcastInDim S4x4x4096x256 ![0, 1, 2, 3] bcast_S4x4x4096x1_S4x4x4096x256_0_1_2_3
    (broadcastInDim S4x4x4096x1 ![0, 1, 2] bcast_S4x4x4096_S4x4x4096x1_0_1_2 (maximumf
      (broadcastInDim S4x4x4096 ![] bcast_S_S4x4x4096 (constant S_ .f32 0xFF800000#32)) t))))

/-- Its weights over their sum. -/
def shares (e : FVec Ideal S4x4x4096x256 .f32) : FVec Ideal S4x4x4096x256 .f32 :=
  Host.divf e (broadcastInDim S4x4x4096x256 ![0, 1, 2, 3] bcast_S4x4x4096x1_S4x4x4096x256_0_1_2_3
    (broadcastInDim S4x4x4096x1 ![0, 1, 2] bcast_S4x4x4096_S4x4x4096x1_0_1_2
      (Host.reduceAdd e (constant S_ .f32 0x00000000#32) reducesTo_S4x4x4096x256_S4x4x4096_d3 h_S_)))

/-- Its heads side by side. -/
def heads (s : FVec Ideal S4x4x4096x256 .f32) (v : FVec Ideal S4x256x1024 .bf16) : FVec Ideal S4x4096x1024 .f32 :=
  shapeCast _ (transpose S4x4096x4x256 [0, 3, 1, 2] (Host.dotGeneral dot_S4x256x4x256_S4x4x4096x256_S4x4x256x4096_1_3_3_2_02_01 none
    (shapeCast _ (extf .f32 v bitsLt_bf16_f32) shapeCasts_S4x256x1024_S4x256x4x256) s) transposes_S4x4x256x4096_S4x4096x4x256_0_3_1_2)
    shapeCasts_S4x4096x4x256_S4x4096x1024

theorem normed_at (x : FVec Ideal S4x4096x1024 .f32) (g : FVec Ideal S1024 .f32) (b : Fin 4) (a : Fin 4096) (l : Fin 1024) :
    normed x g (ix3 b a l) = norm (fun l => x (ix3 b a l)) (fun l => g (ix1 l)) l := by
  pointwise [normed]
  rfl

theorem product_at (x : FVec Ideal S4x4096x1024 .f32) (w : FVec Ideal S1024x1024 .f32) (b : Fin 4) (a : Fin 4096) (j : Fin 1024) :
    product x w (ix3 b a j) = mul (fun l => x (ix3 b a l)) (fun l j => w (ix2 l j)) j := by
  pointwise [product]
  rfl

theorem summed_at (x y : FVec Ideal S4x4096x1024 .f32) (g : FVec Ideal S1024 .f32) (b : Fin 4) (a : Fin 4096) (j : Fin 1024) :
    summed x y g (ix3 b a j) = x (ix3 b a j) + norm (fun l => y (ix3 b a l)) (fun l => g (ix1 l)) j := by
  pointwise [summed, normed_at]

theorem scores_at (q : FVec Ideal S4x4096x1024 .f32) (k : FVec Ideal S4x256x1024 .bf16) (b n : Fin 4) (a : Fin 4096) (p : Fin 256) :
    scores q k (ix4 b n a p) = score (fun l => q (ix3 b a l)) (fun p l => k (ix3 b p l)) n p := by
  pointwise [scores]
  rfl

theorem largest_at (s : FVec Ideal S4x4x4096x256 .f32) (b n : Fin 4) (a : Fin 4096) :
    largest s (ix3 b n a) = top fun p => s (ix4 b n a p) := by
  pointwise [largest]
  rfl

theorem weights_at (s : FVec Ideal S4x4x4096x256 .f32) (t : FVec Ideal S4x4x4096 .f32) (b n : Fin 4) (a : Fin 4096) (p : Fin 256) :
    weights s t (ix4 b n a p) = Ideal.exp (s (ix4 b n a p) - t (ix3 b n a)) := by
  pointwise [weights, max_least]

theorem shares_at (e : FVec Ideal S4x4x4096x256 .f32) (b n : Fin 4) (a : Fin 4096) (p : Fin 256) :
    shares e (ix4 b n a p) = Ideal.div (e (ix4 b n a p)) (∑ p : Fin 256, e (ix4 b n a p)) := by
  pointwise [shares]

theorem heads_at (s : FVec Ideal S4x4x4096x256 .f32) (v : FVec Ideal S4x256x1024 .bf16) (b : Fin 4) (a : Fin 4096) (j : Fin 1024) :
    heads s v (ix3 b a j) = ∑ p : Fin 256, s (ix4 b ⟨j / 256, by omega⟩ a p) * v (ix3 b p j) := by
  pointwise [heads]
  exact Finset.sum_congr rfl fun p _ => mul_comm _ _

/-- The parts together. -/
def composed (h : FVec Ideal S4x4096x1024 .f32) (o : FVec Ideal S4x4096x1024 .bf16) (k v : FVec Ideal S4x256x1024 .bf16)
    (gmix gpre gpost : FVec Ideal S1024 .f32) (wout wq wo : FVec Ideal S1024x1024 .f32) : FVec Ideal S4x4096x1024 .f32 :=
  summed (summed h (product (extf .f32 o bitsLt_bf16_f32) wout) gmix)
    (product (heads (shares (weights
      (scores (product (normed (summed h (product (extf .f32 o bitsLt_bf16_f32) wout) gmix) gpre) wq) k)
      (largest (scores (product (normed (summed h (product (extf .f32 o bitsLt_bf16_f32) wout) gmix) gpre) wq) k)))) v) wo) gpost

theorem mixed_at (h : FVec Ideal S4x4096x1024 .f32) (o : FVec Ideal S4x4096x1024 .bf16) (g : FVec Ideal S1024 .f32) (w : FVec Ideal S1024x1024 .f32)
    (b : Fin 4) (a : Fin 4096) (j : Fin 1024) : summed h (product (extf .f32 o bitsLt_bf16_f32) w) g (ix3 b a j) = mixedRow h o g w b a j := by
  rw [summed_at]
  refine congrArg₂ (· + ·) rfl (congrFun (congrArg₂ norm (funext fun l => (product_at _ _ _ _ l).trans ?_) rfl) j)
  exact congrFun (congrArg₂ mul (funext fun i => by pointwise) rfl) l

theorem query_at (x : FVec Ideal S4x4096x1024 .f32) (g : FVec Ideal S1024 .f32) (w : FVec Ideal S1024x1024 .f32) (b : Fin 4) (a : Fin 4096) (j : Fin 1024) :
    product (normed x g) w (ix3 b a j) = query (fun l => x (ix3 b a l)) (fun l => g (ix1 l)) (fun l j => w (ix2 l j)) j :=
  (product_at _ _ _ _ j).trans (congrFun (congrArg₂ mul (funext fun i => normed_at _ _ _ _ i) rfl) j)

/-- The scores of a row, as the model has them. -/
def rowScores (h o : Rows) (k : Places) (gmix gpre : Weights) (wout wq : Matrix) (b n : Fin 4) (a : Fin 4096) : Fin 256 → EReal :=
  score (query (mixedRow h o gmix wout b a) (fun l => gpre (ix1 l)) fun l j => wq (ix2 l j)) (fun p l => k (ix3 b p l)) n

theorem rowScores_at (h : FVec Ideal S4x4096x1024 .f32) (o : FVec Ideal S4x4096x1024 .bf16) (k : FVec Ideal S4x256x1024 .bf16)
    (gmix gpre : FVec Ideal S1024 .f32) (wout wq : FVec Ideal S1024x1024 .f32) (b n : Fin 4) (a : Fin 4096) :
    (fun p => scores (product (normed (summed h (product (extf .f32 o bitsLt_bf16_f32) wout) gmix) gpre) wq) k (ix4 b n a p))
      = rowScores h o k gmix gpre wout wq b n a := by
  funext p
  refine (scores_at _ _ _ _ _ p).trans (congrFun (congrFun (congrArg₂ score (funext fun l => (query_at _ _ _ _ _ l).trans ?_) rfl) n) p)
  exact congrFun (congrFun (congrFun (congrArg query (funext fun i => mixed_at _ _ _ _ _ _ i)) _) _) l

/-- A head of a row: the model's, where its largest score is finite. -/
theorem head_at (s : FVec Ideal S4x4x4096x256 .f32) (b n : Fin 4) (a : Fin 4096) (r v : Fin 256 → EReal) (hs : (fun p => s (ix4 b n a p)) = r)
    (hb : top r ≠ ⊥) (ht : top r ≠ ⊤) : ∑ p : Fin 256, shares (weights s (largest s)) (ix4 b n a p) * v p = weighed r v := by
  subst hs
  refine Eq.trans ?_ (divided_eq _ v hb ht)
  refine Finset.sum_congr rfl fun p _ => ?_
  have e : ∀ p, weights s (largest s) (ix4 b n a p) = Ideal.exp (s (ix4 b n a p) - top fun p => s (ix4 b n a p)) := fun p => by
    rw [weights_at, largest_at]
  rw [shares_at, e p, Finset.sum_congr rfl fun p _ => e p]
  rfl

theorem composed_eq (h : FVec Ideal S4x4096x1024 .f32) (o : FVec Ideal S4x4096x1024 .bf16) (k v : FVec Ideal S4x256x1024 .bf16)
    (gmix gpre gpost : FVec Ideal S1024 .f32) (wout wq wo : FVec Ideal S1024x1024 .f32)
    (hb : ∀ b n a, top (rowScores h o k gmix gpre wout wq b n a) ≠ ⊥) (ht : ∀ b n a, top (rowScores h o k gmix gpre wout wq b n a) ≠ ⊤) :
    composed h o k v gmix gpre gpost wout wq wo = Xa.array h o k v gmix gpre gpost wout wq wo := by
  funext y
  obtain ⟨b, a, j, rfl⟩ : ∃ b a j, y = ix3 b a j := ⟨y 0, y 1, y 2, eq_ix3 y⟩
  refine (summed_at _ _ _ b a j).trans ?_
  refine congrArg₂ (· + ·) (mixed_at _ _ _ _ b a j) (congrFun (congrArg₂ norm (funext fun l => (product_at _ _ b a l).trans ?_) rfl) j)
  refine congrFun (congrArg₂ mul (funext fun i => (heads_at _ _ b a i).trans ?_) rfl) l
  exact head_at _ b _ a _ (fun p => v (ix3 b p i)) (rowScores_at h o k gmix gpre wout wq b _ a) (hb b _ a) (ht b _ a)

variable (m : (ℓ : Loc nD τ sig) → Buf (Elt Ideal) ℓ) (c : Dev nD)

theorem term : res_out0 m c = composed (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := rfl

end Cert.Xa.Reference

end
-- ==== Proof.Xa.Claims.lean ====
/-
  The claims about the mixer's output product and the cross-attention: each program ends with its arguments unchanged, and the kernel's result
  equals the reference's wherever the largest score of each head of each row is finite.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Xa.Kernel
public import proofs.«01_k».proof.Proof.Xa.Reference

@[expose] public section

set_option maxRecDepth 16384

noncomputable section

namespace Cert.Xa.Claims

open Idealize.ShloMosaic Idealize.ShloMosaic.TcCoe Idealize.SL.Sem

theorem scores_facts : Cert.Pre_scores_finite.Facts where
  bitsLt_bf16_f32 := Cert.Reference3Ideal.Gen.facts.bitsLt_bf16_f32
  reducesTo_S4x4096x1024_S4x4096_d2 := Cert.Reference3Ideal.Gen.facts.reducesTo_S4x4096x1024_S4x4096_d2
  h_S_ := Cert.Reference3Ideal.Gen.facts.h_S_
  bcast_S4x4096_S4x4096x1_0_1 := Cert.Reference3Ideal.Gen.facts.bcast_S4x4096_S4x4096x1_0_1
  bcast_S_S4x4096x1 := Cert.Reference3Ideal.Gen.facts.bcast_S_S4x4096x1
  bcast_S4x4096x1_S4x4096x1024_0_1_2 := Cert.Reference3Ideal.Gen.facts.bcast_S4x4096x1_S4x4096x1024_0_1_2
  bcast_S1024_S1x1x1024_2 := Cert.Reference3Ideal.Gen.facts.bcast_S1024_S1x1x1024_2
  bcast_S1x1x1024_S4x4096x1024_0_1_2 := Cert.Reference3Ideal.Gen.facts.bcast_S1x1x1024_S4x4096x1024_0_1_2
  shapeCasts_S4x4096x1024_S4x4096x4x256 := Cert.Reference3Ideal.Gen.facts.shapeCasts_S4x4096x1024_S4x4096x4x256
  shapeCasts_S4x256x1024_S4x256x4x256 := Cert.Reference3Ideal.Gen.facts.shapeCasts_S4x256x1024_S4x256x4x256
  reducesTo_S4x4x4096x256_S4x4x4096_d3 := Cert.Reference3Ideal.Gen.facts.reducesTo_S4x4x4096x256_S4x4x4096_d3
  bcast_S_S4x4x4096 := Cert.Reference3Ideal.Gen.facts.bcast_S_S4x4x4096
  dot_S4x4096x1024_S1024x1024_S4x4096x1024_2_0_01_1_n_n_wf :=
    Cert.Reference3Ideal.Gen.facts.dot_S4x4096x1024_S1024x1024_S4x4096x1024_2_0_01_1_n_n_wf
  dot_S4x4096x4x256_S4x256x4x256_S4x4x4096x256_3_3_1_1_02_02_wf :=
    Cert.Reference3Ideal.Gen.facts.dot_S4x4096x4x256_S4x256x4x256_S4x4x4096x256_3_3_1_1_02_02_wf

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

section Precondition

open Cert.Reference3Ideal Cert.Reference3Ideal.Gen Idealize.ShloMosaic.StableHlo

/-- The precondition's function, of the reference's parts. -/
theorem finite_eq (h : FVec Ideal S4x4096x1024 .f32) (o : FVec Ideal S4x4096x1024 .bf16) (k v : FVec Ideal S4x256x1024 .bf16)
    (gmix gpre gpost : FVec Ideal S1024 .f32) (wout wq wo : FVec Ideal S1024x1024 .f32) :
    @Cert.Pre_scores_finite.fn scores_facts Ideal _ h o k v gmix gpre gpost wout wq wo
      = cmpf .olt (Host.absf (Reference.largest (Reference.scores
          (Reference.product (Reference.normed (Reference.summed h (Reference.product (extf .f32 o bitsLt_bf16_f32) wout) gmix) gpre) wq) k)))
        (broadcastInDim S4x4x4096 ![] bcast_S_S4x4x4096 (constant S_ .f32 0x7F800000#32)) := rfl

/-- A number whose absolute value is below infinity is neither infinity. -/
theorem of_abs_lt (x : EReal) (hx : max x (-x) < (⊤ : EReal)) : x ≠ ⊥ ∧ x ≠ ⊤ := by
  constructor
  · rintro rfl
    simp at hx
  · rintro rfl
    simp at hx

theorem greatest : Ideal.ofBits .f32 0x7F800000#32 = (⊤ : EReal) := by
  simp [Ideal.ofBits, Ideal.ieee]

/-- An element of an array that is everywhere finite. -/
theorem below (t : FVec Ideal S4x4x4096 .f32)
    (e : cmpf .olt (Host.absf t) (broadcastInDim S4x4x4096 ![] bcast_S_S4x4x4096 (constant S_ .f32 0x7F800000#32)) = fun _ => 1#1)
    (b n : Fin 4) (a : Fin 4096) : t (ix3 b n a) ≠ (⊥ : EReal) ∧ t (ix3 b n a) ≠ (⊤ : EReal) := by
  replace e := congrFun e (ix3 b n a)
  pointwise at e
  rw [greatest] at e
  refine of_abs_lt _ ?_
  by_contra hx
  exact absurd e (by rw [decide_eq_false (show ¬ FloatOps.absf (F := Ideal) (φ := .f32) _ < _ from hx)]; decide)

theorem finite (h : FVec Ideal S4x4096x1024 .f32) (o : FVec Ideal S4x4096x1024 .bf16) (k v : FVec Ideal S4x256x1024 .bf16)
    (gmix gpre gpost : FVec Ideal S1024 .f32) (wout wq wo : FVec Ideal S1024x1024 .f32)
    (hm : @Cert.Pre_scores_finite.fn scores_facts Ideal _ h o k v gmix gpre gpost wout wq wo = fun _ => 1#1) (b n : Fin 4) (a : Fin 4096) :
    top (Reference.rowScores h o k gmix gpre wout wq b n a) ≠ ⊥ ∧ top (Reference.rowScores h o k gmix gpre wout wq b n a) ≠ ⊤ := by
  have e := below _ ((finite_eq h o k v gmix gpre gpost wout wq wo).symm.trans hm) b n a
  rw [Reference.largest_at, Reference.rowScores_at] at e
  exact e

end Precondition

theorem algebraic : Cert.algebraic_Kernel3Ideal_Reference3Ideal_pre_scores_finite (hKernel3Ideal := Cert.Kernel3Ideal.Gen.facts)
    (hReference3Ideal := Cert.Reference3Ideal.Gen.facts) (hPre_scores_finite := scores_facts) := by
  intro m ρ m' ρ' hm hagree
  refine ⟨fun c => (Cert.Kernel3Ideal.Gen.dats m 0 c).arrAt 10 Cert.Kernel3Ideal.cfg0.N, Cert.Kernel3Ideal.Value.run_blocks m ρ, ?_⟩
  refine (θ_run _ _ _).mono (fun _ h c => ⟨(h c).1.trans ?_, (h c).2⟩) (Cert.Reference3Ideal.Value.run (F := Ideal) m' ρ')
  obtain ⟨h0, h1, h2, h3, h4, h5, h6, h7, h8, h9⟩ := hagree c
  refine (Reference.term m' c).trans ?_
  refine Eq.trans ?_ (Kernel.array m c).symm
  rw [h0, h1, h2, h3, h4, h5, h6, h7, h8, h9]
  exact Reference.composed_eq _ _ _ _ _ _ _ _ _ _ (fun b n a => (finite _ _ _ _ _ _ _ _ _ _ (hm c) b n a).1)
    (fun b n a => (finite _ _ _ _ _ _ _ _ _ _ (hm c) b n a).2)

end Cert.Xa.Claims

end
-- ==== Proof.Kv.Kernel.lean ====
/-
  The memory's keys and values: the kernel's one grid point writes, of each normed row of the memory, its product with the first 1024 columns of
  the odd layer's matrix, times a sixteenth, and its product with the other 1024 columns.
-/
module

public import proofs.«01_k».proof.Proof.Gen.Kernel4Ideal.Value
public import proofs.«01_k».proof.Proof.Ffn.Model
public import Idealize.ShloMosaic.Lib.Pipeline.ValueKit
public import Idealize.ShloMosaic.Lib.Pointwise
public import Idealize.ShloMosaic.Lib.Claim

@[expose] public section

set_option maxRecDepth 16384

noncomputable section

namespace Cert.Kv

open Idealize.ShloMosaic Cert.Ffn

/-- Column `j` of a normed row's product with a matrix of 2048 columns. -/
def product (x g : Row) (w : Fin 1024 → Fin 2048 → EReal) (j : Fin 2048) : EReal := ∑ l : Fin 1024, norm x g l * w l j

/-- Row `r` of the memory laid out as 1024 rows. -/
def memory (x : (⟨3, ![4, 256, 1024]⟩ : Shape).Idx → EReal) (r : Fin 1024) : Row := fun l => x (ix3 ⟨r / 256, by omega⟩ ⟨r % 256, by omega⟩ l)

/-- The keys of the three argument arrays. -/
def keys (x : (⟨3, ![4, 256, 1024]⟩ : Shape).Idx → EReal) (g : (⟨1, ![1024]⟩ : Shape).Idx → EReal) (w : (⟨3, ![2, 1024, 2048]⟩ : Shape).Idx → EReal) :
    (⟨2, ![1024, 1024]⟩ : Shape).Idx → EReal := fun y =>
  product (memory x (y 0)) (fun l => g (ix1 l)) (fun l j => w (ix3 1 l j)) ⟨(y 1).val, (y 1).isLt.trans (by decide)⟩ * Ideal.ofBits .f32 0x3D800000#32

/-- Their values. -/
def values (x : (⟨3, ![4, 256, 1024]⟩ : Shape).Idx → EReal) (g : (⟨1, ![1024]⟩ : Shape).Idx → EReal) (w : (⟨3, ![2, 1024, 2048]⟩ : Shape).Idx → EReal) :
    (⟨2, ![1024, 1024]⟩ : Shape).Idx → EReal := fun y =>
  product (memory x (y 0)) (fun l => g (ix1 l)) (fun l j => w (ix3 1 l j)) ⟨1024 + (y 1).val, Nat.add_lt_add_left (y 1).isLt 1024⟩

end Cert.Kv

namespace Cert.Kv.Kernel

open Idealize.ShloMosaic Idealize.ShloMosaic.TcCoe Idealize.SL.Sem Cert.Kernel4Ideal Cert.Kernel4Ideal.Gen Cert.Ffn

variable (m : (ℓ : Loc nD τ sig) → Buf (Elt Ideal) ℓ) (c : Dev nD)

theorem norm_at (x : Vec Ideal S1024x1024 .f32) (g : Vec Ideal S1x1024 .f32) (a l : Fin 1024) :
    k0_pay1 x g (ix2 a l) = norm (fun l => x (ix2 a l)) (fun l => g (ix2 0 l)) l := by
  pointwise [k0_pay1]
  rfl

theorem keys_stored (x : Vec Ideal S1024x1024 .f32) (g : Vec Ideal S1x1024 .f32) (w : Vec Ideal S1x1024x2048 .f32) (a j : Fin 1024) :
    k0_pay2 (View.ld x r0_0) (View.ld g r0_1) (View.ld w r0_2) (ix2 a j)
      = product (fun l => x (ix2 a l)) (fun l => g (ix2 0 l)) (fun l j => w (ix3 0 l j)) ⟨j, by omega⟩ * Ideal.ofBits .f32 0x3D800000#32 := by
  pointwise [k0_pay2, norm_at]
  rfl

theorem values_stored (x : Vec Ideal S1024x1024 .f32) (g : Vec Ideal S1x1024 .f32) (w : Vec Ideal S1x1024x2048 .f32) (a j : Fin 1024) :
    k0_pay3 (View.ld x r0_0) (View.ld g r0_1) (View.ld w r0_3) (ix2 a j)
      = product (fun l => x (ix2 a l)) (fun l => g (ix2 0 l)) (fun l j => w (ix3 0 l j)) ⟨1024 + j, by omega⟩ := by
  pointwise [k0_pay3, norm_at]
  rfl

/-- The rows of keys the point writes. -/
theorem keys_out (t : Fin cfg0.N) (a j : Fin 1024) : (dats m 0 c).after 3 t (ix2 a j)
    = product (fun l => iblk m c 0 t (ix2 a l)) (fun l => iblk m c 1 t (ix2 0 l)) (fun l j => iblk m c 2 t (ix3 0 l j)) ⟨j, by omega⟩
      * Ideal.ofBits .f32 0x3D800000#32 := by
  rw [after0_3]
  generalize iblk m c 0 t = x0
  generalize iblk m c 1 t = x1
  generalize iblk m c 2 t = x2
  unfold out0_3
  generalize hy : (ix2 a j : S1024x1024.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact keys_stored x0 x1 x2 a j

/-- The rows of values. -/
theorem values_out (t : Fin cfg0.N) (a j : Fin 1024) : (dats m 0 c).after 4 t (ix2 a j)
    = product (fun l => iblk m c 0 t (ix2 a l)) (fun l => iblk m c 1 t (ix2 0 l)) (fun l j => iblk m c 2 t (ix3 0 l j)) ⟨1024 + j, by omega⟩ := by
  rw [after0_4]
  generalize iblk m c 0 t = x0
  generalize iblk m c 1 t = x1
  generalize iblk m c 2 t = x2
  unfold out0_4
  generalize hy : (ix2 a j : S1024x1024.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact values_stored x0 x1 x2 a j

theorem idx : ∀ t : Fin cfg0.N, win0_0.index t = ![0, 0] ∧ win0_1.index t = ![0, 0] ∧ win0_2.index t = ![1, 0, 0]
    ∧ win0_3.index t = ![0, 0] ∧ win0_4.index t = ![0, 0] :=
  (by decide +kernel : ∀ t : Fin grid0.N, _)

theorem x_array (r l : Fin 1024) : (V m c main_v1 : S1024x1024.Idx → EReal) (ix2 r l)
    = memory (m ((c : Thread nD τ).loc main_arg0) : S4x256x1024.Idx → EReal) r l := by
  have h : V m c main_v1 = fun y : S1024x1024.Idx => memory (m ((c : Thread nD τ).loc main_arg0) : S4x256x1024.Idx → EReal) (y 0) (y 1) := by
    show StableHlo.after hostOps0 (fun b => m (c, b)) (Proc.devRef .tc main_v1) = _
    entry_read
    funext y
    rw [eq_ix2 y]
    unfold memory
    pointwise
  exact congrFun h (ix2 r l)

theorem g_array : V m c main_v0 = fun y : S1x1024.Idx => (m ((c : Thread nD τ).loc main_arg1) : S1024.Idx → EReal) (ix1 (y 1)) := by
  show StableHlo.after hostOps0 (fun b => m (c, b)) (Proc.devRef .tc main_v0) = _
  entry_read
  funext y
  rw [eq_ix2 y]
  pointwise

theorem x_at (t : Fin cfg0.N) (a l : Fin 1024) : (iblk m c 0 t : S1024x1024.Idx → EReal) (ix2 a l)
    = memory (m ((c : Thread nD τ).loc main_arg0) : S4x256x1024.Idx → EReal) a l := by
  have h : (iblk m c 0 t : S1024x1024.Idx → EReal) (ix2 a l) = (V m c main_v1 : S1024x1024.Idx → EReal) (ix2 a l) := by
    blk_ext [iblk, idx t]
  rw [h, x_array]

theorem g_at (t : Fin cfg0.N) (l : Fin 1024) :
    (iblk m c 1 t : S1x1024.Idx → EReal) (ix2 0 l) = (m ((c : Thread nD τ).loc main_arg1) : S1024.Idx → EReal) (ix1 l) := by
  have h : (iblk m c 1 t : S1x1024.Idx → EReal) (ix2 0 l) = (V m c main_v0 : S1x1024.Idx → EReal) (ix2 0 l) := by
    blk_ext [iblk, idx t]
  rw [h, g_array]
  rfl

theorem w_at (t : Fin cfg0.N) (l : Fin 1024) (j : Fin 2048) : (iblk m c 2 t : S1x1024x2048.Idx → EReal) (ix3 0 l j)
    = (m ((c : Thread nD τ).loc main_arg2) : S2x1024x2048.Idx → EReal) (ix3 1 l j) := by
  blk_ext [iblk, V, idx t]

theorem keys_array : (dats m 0 c).arrAt 3 cfg0.N = keys (m ((c : Thread nD τ).loc main_arg0)) (m ((c : Thread nD τ).loc main_arg1))
    (m ((c : Thread nD τ).loc main_arg2)) := by
  refine (dats m 0 c).arrAt_eq_of_covers 3 _ (by decide +kernel) fun t hf y => ?_
  have e0 : (((win0_3.blk t).view.emb y) 0 : ℕ) = y 0 := by
    blk_simp [idx t]
  have e1 : (((win0_3.blk t).view.emb y) 1 : ℕ) = y 1 := by
    blk_simp [idx t]
  generalize (win0_3.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  obtain rfl : r = a := Fin.ext e0
  blk_simp
  rw [keys_out]
  rw [show (fun l => iblk m c 0 t (ix2 r l)) = _ from funext fun l => x_at m c t r l,
    show (fun l => iblk m c 1 t (ix2 0 l)) = _ from funext fun l => g_at m c t l,
    show (fun l j => iblk m c 2 t (ix3 0 l j)) = _ from funext fun l => funext fun j => w_at m c t l j]
  rfl

theorem values_array : (dats m 0 c).arrAt 4 cfg0.N = values (m ((c : Thread nD τ).loc main_arg0)) (m ((c : Thread nD τ).loc main_arg1))
    (m ((c : Thread nD τ).loc main_arg2)) := by
  refine (dats m 0 c).arrAt_eq_of_covers 4 _ (by decide +kernel) fun t hf y => ?_
  have e0 : (((win0_4.blk t).view.emb y) 0 : ℕ) = y 0 := by
    blk_simp [idx t]
  have e1 : (((win0_4.blk t).view.emb y) 1 : ℕ) = y 1 := by
    blk_simp [idx t]
  generalize (win0_4.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  obtain rfl : r = a := Fin.ext e0
  blk_simp
  rw [values_out]
  rw [show (fun l => iblk m c 0 t (ix2 r l)) = _ from funext fun l => x_at m c t r l,
    show (fun l => iblk m c 1 t (ix2 0 l)) = _ from funext fun l => g_at m c t l,
    show (fun l j => iblk m c 2 t (ix3 0 l j)) = _ from funext fun l => funext fun j => w_at m c t l j]
  rfl

end Cert.Kv.Kernel

end
-- ==== Proof.Kv.Reference.lean ====
/-
  The reference's keys and values: the model's. Its composed terms are cut at the norm, the product laid out as 1024 rows and the two slices.
-/
module

public import proofs.«01_k».proof.Proof.Gen.Reference4Ideal.Run
public import proofs.«01_k».proof.Proof.Kv.Kernel

@[expose] public section

set_option maxRecDepth 16384

noncomputable section

namespace Cert.Kv.Reference

open Idealize.ShloMosaic Idealize.ShloMosaic.TcCoe Idealize.SL.Sem Idealize.ShloMosaic.StableHlo Cert.Reference4Ideal Cert.Reference4Ideal.Gen
  Cert.Reference4Ideal.Value Cert.Ffn

/-- The reference's norm. -/
def normed (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf
    (Host.divf (broadcastInDim S4x256x1 ![0, 1] bcast_S4x256_S4x256x1_0_1
      (Host.reduceAdd (mulf x x) (constant S_ .f32 0x00000000#32) reducesTo_S4x256x1024_S4x256_d2 h_S_))
      (broadcastInDim S4x256x1 ![] bcast_S_S4x256x1 (constant S_ .f32 0x44800000#32)))
    (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))

/-- Its product with the odd layer's matrix, laid out as 1024 rows. -/
def both (x : FVec Ideal S4x256x1024 .f32) (w : FVec Ideal S2x1024x2048 .f32) : FVec Ideal S1024x2048 .f32 :=
  shapeCast _ (Host.dotGeneral dot_S4x256x1024_S1024x2048_S4x256x2048_2_0_01_1_n_n none x
    (shapeCast _ (extractStridedSlice S1x1024x2048 ![1, 0, 0] w slices_S2x1024x2048_S1x1024x2048_1_0_0) shapeCasts_S1x1024x2048_S1024x2048 :
      FVec Ideal S1024x2048 .f32)) shapeCasts_S4x256x2048_S1024x2048

/-- Its keys, of both. -/
def first (u : FVec Ideal S1024x2048 .f32) : FVec Ideal S1024x1024 .bf16 :=
  truncf .bf16 (mulf (extractStridedSlice S1024x1024 ![0, 0] u slices_S1024x2048_S1024x1024_0_0)
    (broadcastInDim S1024x1024 ![] bcast_S_S1024x1024 (constant S_ .f32 0x3D800000#32))) bitsLt_bf16_f32

/-- Its values, of both. -/
def second (u : FVec Ideal S1024x2048 .f32) : FVec Ideal S1024x1024 .bf16 :=
  truncf .bf16 (extractStridedSlice S1024x1024 ![0, 1024] u slices_S1024x2048_S1024x1024_0_1024) bitsLt_bf16_f32

theorem normed_at (x : FVec Ideal S4x256x1024 .f32) (g : FVec Ideal S1024 .f32) (b : Fin 4) (a : Fin 256) (l : Fin 1024) :
    normed x g (ix3 b a l) = norm (fun l => x (ix3 b a l)) (fun l => g (ix1 l)) l := by
  pointwise [normed]
  rfl

theorem both_at (x : FVec Ideal S4x256x1024 .f32) (g : FVec Ideal S1024 .f32) (w : FVec Ideal S2x1024x2048 .f32) (r : Fin 1024) (j : Fin 2048) :
    both (normed x g) w (ix2 r j) = product (memory x r) (fun l => g (ix1 l)) (fun l j => w (ix3 1 l j)) j := by
  pointwise [both, normed_at]
  rfl

theorem first_eq (x : FVec Ideal S4x256x1024 .f32) (g : FVec Ideal S1024 .f32) (w : FVec Ideal S2x1024x2048 .f32) :
    first (both (normed x g) w) = keys x g w := by
  funext y
  obtain ⟨r, j, rfl⟩ : ∃ r j, y = ix2 r j := ⟨y 0, y 1, eq_ix2 y⟩
  pointwise [first, both_at]
  rfl

theorem second_eq (x : FVec Ideal S4x256x1024 .f32) (g : FVec Ideal S1024 .f32) (w : FVec Ideal S2x1024x2048 .f32) :
    second (both (normed x g) w) = values x g w := by
  funext y
  obtain ⟨r, j, rfl⟩ : ∃ r j, y = ix2 r j := ⟨y 0, y 1, eq_ix2 y⟩
  pointwise [second, both_at]
  rfl

end Cert.Kv.Reference

end
-- ==== Proof.Kv.Claims.lean ====
/-
  The claims about the memory's keys and values: each program ends with its arguments unchanged, and the kernel's results equal the reference's.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Kv.Kernel
public import proofs.«01_k».proof.Proof.Kv.Reference

@[expose] public section

set_option maxRecDepth 16384

noncomputable section

namespace Cert.Kv.Claims

open Idealize.ShloMosaic Idealize.ShloMosaic.TcCoe Idealize.SL.Sem

theorem frame_reference : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := by
  intro m ρ m' ρ' hm hagree
  refine ⟨fun c => (Cert.Kernel4Ideal.Gen.dats m 0 c).arrAt 3 Cert.Kernel4Ideal.cfg0.N,
    fun c => (Cert.Kernel4Ideal.Gen.dats m 0 c).arrAt 4 Cert.Kernel4Ideal.cfg0.N, Cert.Kernel4Ideal.Value.run_blocks m ρ, ?_⟩
  refine (θ_run _ _ _).mono (fun _ h c => ⟨(h c).1.trans ?_, (h c).2.1.trans ?_, (h c).2.2⟩)
    (Cert.Reference4Ideal.Value.run (F := Ideal) m' ρ')
  · obtain ⟨h0, h1, h2⟩ := hagree c
    refine (Reference.first_eq _ _ _).trans ?_
    refine Eq.trans ?_ (Kernel.keys_array m c).symm
    rw [h0, h1, h2]
  · obtain ⟨h0, h1, h2⟩ := hagree c
    refine (Reference.second_eq _ _ _).trans ?_
    refine Eq.trans ?_ (Kernel.values_array m c).symm
    rw [h0, h1, h2]

end Cert.Kv.Claims

end
-- ==== Proof.Proj.Kernel.lean ====
/-
  The odd layer's input projection: each of the kernel's 16 grid points writes, of 1024 normed rows, the columns of their product with the matrix
  that are the queries (scaled), the keys, the values, the output gate's and the log gates' inputs.
-/
module

public import proofs.«01_k».proof.Proof.Gen.Kernel5Ideal.Value
public import proofs.«01_k».proof.Proof.Ffn.Model
public import Idealize.ShloMosaic.Lib.Pipeline.ValueKit
public import Idealize.ShloMosaic.Lib.Pointwise
public import Idealize.ShloMosaic.Lib.Claim

@[expose] public section

set_option maxRecDepth 16384

noncomputable section

namespace Cert.Proj

open Idealize.ShloMosaic Cert.Ffn

/-- Column `j` of a normed row's product with a matrix of 3088 columns. -/
def product (x g : Row) (w : Fin 1024 → Fin 3088 → EReal) (j : Fin 3088) : EReal := ∑ l : Fin 1024, norm x g l * w l j

/-- A sixteenth of the logarithm of the logistic function: `-(max (-z) 0 + log (1 + exp (-|z|))) / 16`. -/
def logGate (z : EReal) : EReal :=
  -(max (-z) 0 + Ideal.log1p (Ideal.exp (-max (-z) (- -z)))) * Ideal.ofBits .f32 0x3D800000#32

/-- The input of a log gate, of the sixteen columns from 2048 on: their product with the second matrix, and the bias. -/
def gateInput (p : Fin 3088 → EReal) (u : Fin 16 → Fin 512 → EReal) (b : Fin 512 → EReal) (j : Fin 512) : EReal :=
  (∑ i : Fin 16, p ⟨2048 + i, by omega⟩ * u i j) + b j

/-- Row `r` of the product, of the argument arrays. -/
def projected (h : (⟨3, ![4, 4096, 1024]⟩ : Shape).Idx → EReal) (g : (⟨1, ![1024]⟩ : Shape).Idx → EReal) (w : (⟨2, ![1024, 3088]⟩ : Shape).Idx → EReal)
    (r : Fin 16384) : Fin 3088 → EReal :=
  product (fun l => h (ix3 ⟨r / 4096, by omega⟩ ⟨r % 4096, by omega⟩ l)) (fun l => g (ix1 l)) (fun l j => w (ix2 l j))

/-- The scaled queries. -/
def queries (h : (⟨3, ![4, 4096, 1024]⟩ : Shape).Idx → EReal) (g : (⟨1, ![1024]⟩ : Shape).Idx → EReal)
    (w : (⟨2, ![1024, 3088]⟩ : Shape).Idx → EReal) : (⟨2, ![16384, 512]⟩ : Shape).Idx → EReal := fun y =>
  projected h g w (y 0) ⟨(y 1).val, (y 1).isLt.trans (by decide)⟩ * Ideal.ofBits .f32 0x3DB504F3#32

/-- The keys. -/
def keys (h : (⟨3, ![4, 4096, 1024]⟩ : Shape).Idx → EReal) (g : (⟨1, ![1024]⟩ : Shape).Idx → EReal)
    (w : (⟨2, ![1024, 3088]⟩ : Shape).Idx → EReal) : (⟨2, ![16384, 512]⟩ : Shape).Idx → EReal := fun y =>
  projected h g w (y 0) ⟨512 + (y 1).val, (Nat.add_lt_add_left (y 1).isLt 512).trans_le (by decide)⟩

/-- The values. -/
def values (h : (⟨3, ![4, 4096, 1024]⟩ : Shape).Idx → EReal) (g : (⟨1, ![1024]⟩ : Shape).Idx → EReal)
    (w : (⟨2, ![1024, 3088]⟩ : Shape).Idx → EReal) : (⟨2, ![16384, 1024]⟩ : Shape).Idx → EReal := fun y =>
  projected h g w (y 0) ⟨1024 + (y 1).val, (Nat.add_lt_add_left (y 1).isLt 1024).trans_le (by decide)⟩

/-- The output gate's inputs. -/
def outputGates (h : (⟨3, ![4, 4096, 1024]⟩ : Shape).Idx → EReal) (g : (⟨1, ![1024]⟩ : Shape).Idx → EReal)
    (w : (⟨2, ![1024, 3088]⟩ : Shape).Idx → EReal) : (⟨2, ![16384, 1024]⟩ : Shape).Idx → EReal := fun y =>
  projected h g w (y 0) ⟨2064 + (y 1).val, (Nat.add_lt_add_left (y 1).isLt 2064).trans_le (by decide)⟩

/-- The log gates. -/
def logGates (h : (⟨3, ![4, 4096, 1024]⟩ : Shape).Idx → EReal) (g : (⟨1, ![1024]⟩ : Shape).Idx → EReal)
    (w : (⟨2, ![1024, 3088]⟩ : Shape).Idx → EReal)
    (u : (⟨2, ![16, 512]⟩ : Shape).Idx → EReal) (b : (⟨1, ![512]⟩ : Shape).Idx → EReal) : (⟨2, ![16384, 512]⟩ : Shape).Idx → EReal := fun y =>
  logGate (gateInput (projected h g w (y 0)) (fun i j => u (ix2 i j)) (fun j => b (ix1 j)) (y 1))

end Cert.Proj

namespace Cert.Proj.Kernel

open Idealize.ShloMosaic Idealize.ShloMosaic.TcCoe Idealize.SL.Sem Cert.Kernel5Ideal Cert.Kernel5Ideal.Gen Cert.Ffn

variable (m : (ℓ : Loc nD τ sig) → Buf (Elt Ideal) ℓ) (c : Dev nD)

theorem norm_at (x : Vec Ideal S1024x1024 .f32) (g : Vec Ideal S1x1024 .f32) (a l : Fin 1024) :
    k0_pay4 x g (ix2 a l) = norm (fun l => x (ix2 a l)) (fun l => g (ix2 0 l)) l := by
  pointwise [k0_pay4]
  rfl

theorem q_stored (x : Vec Ideal S1024x1024 .f32) (g : Vec Ideal S1x1024 .f32) (w : Vec Ideal S1024x3200 .bf16) (a : Fin 1024) (j : Fin 512) :
    k0_pay5 (View.ld x r0_0) (View.ld g r0_1) (View.ld w r0_2) (ix2 a j)
      = product (fun l => x (ix2 a l)) (fun l => g (ix2 0 l)) (fun l j => w (ix2 l ⟨j, by omega⟩)) ⟨j, by omega⟩ * Ideal.ofBits .f32 0x3DB504F3#32 := by
  pointwise [k0_pay5, norm_at]
  rfl

theorem k_stored (x : Vec Ideal S1024x1024 .f32) (g : Vec Ideal S1x1024 .f32) (w : Vec Ideal S1024x3200 .bf16) (a : Fin 1024) (j : Fin 512) :
    k0_pay6 (View.ld x r0_0) (View.ld g r0_1) (View.ld w r0_4) (ix2 a j)
      = product (fun l => x (ix2 a l)) (fun l => g (ix2 0 l)) (fun l j => w (ix2 l ⟨j, by omega⟩)) ⟨512 + j, by omega⟩ := by
  pointwise [k0_pay6, norm_at]
  rfl

theorem v_stored (x : Vec Ideal S1024x1024 .f32) (g : Vec Ideal S1x1024 .f32) (w : Vec Ideal S1024x3200 .bf16) (a j : Fin 1024) :
    k0_pay7 (View.ld x r0_0) (View.ld g r0_1) (View.ld w r0_5) (ix2 a j)
      = product (fun l => x (ix2 a l)) (fun l => g (ix2 0 l)) (fun l j => w (ix2 l ⟨j, by omega⟩)) ⟨1024 + j, by omega⟩ := by
  pointwise [k0_pay7, norm_at]
  rfl

/-- A column of the last product, which the output gate's and the log gates' inputs are cut from. -/
theorem tail_at (x : Vec Ideal S1024x1024 .f32) (g : Vec Ideal S1x1024 .f32) (w : Vec Ideal S1024x3200 .bf16) (a : Fin 1024) (j : Fin 1152)
    (hj : j.val < 1040) :
    k0_pay1 (k0_pay4 (View.ld x r0_0) (View.ld g r0_1)) (View.ld w r0_6) (ix2 a j)
      = product (fun l => x (ix2 a l)) (fun l => g (ix2 0 l)) (fun l j => w (ix2 l ⟨j, by omega⟩)) ⟨2048 + j, by omega⟩ := by
  pointwise [k0_pay1, norm_at]
  rfl

theorem r_stored (x : Vec Ideal S1024x1024 .f32) (g : Vec Ideal S1x1024 .f32) (w : Vec Ideal S1024x3200 .bf16) (a j : Fin 1024) :
    k0_pay2 (k0_pay4 (View.ld x r0_0) (View.ld g r0_1)) (View.ld w r0_6) (ix2 a j)
      = product (fun l => x (ix2 a l)) (fun l => g (ix2 0 l)) (fun l j => w (ix2 l ⟨j, by omega⟩)) ⟨2064 + j, by omega⟩ := by
  have h := tail_at x g w a ⟨16 + j, by omega⟩ (by simp; omega)
  generalize k0_pay4 (View.ld x r0_0) (View.ld g r0_1) = n at h ⊢
  pointwise [k0_pay2]
  refine h.trans ?_
  congr 1
  exact Fin.ext (by simp; omega)

/-- Which lanes are below 16. -/
theorem low (i : Fin 128) : IntOp.cmpi .slt (BitVec.ofNat 32 i) 16#32 = if i.val < 16 then 1#1 else 0#1 := by
  revert i
  decide

/-- A sum over 128 lanes of what is zero from lane 16 on. -/
theorem lanes (f : Fin 128 → EReal) :
    ∑ i : Fin 128, Scalar.select (IntOp.cmpi .slt (BitVec.ofNat 32 i) 16#32) (f i) 0 = ∑ i : Fin 16, f ⟨i, by omega⟩ := by
  rw [show (∑ i : Fin 128, Scalar.select (IntOp.cmpi .slt (BitVec.ofNat 32 i) 16#32) (f i) 0) = ∑ i : Fin 128, if i.val < 16 then f i else 0 from
    Finset.sum_congr rfl fun i _ => by
      rw [low]
      by_cases h : i.val < 16
      · rw [if_pos h, if_pos h]
        rfl
      · rw [if_neg h, if_neg h]
        rfl]
  refine (Fin.sum_univ_add (a := 16) (b := 112) _).trans ?_
  rw [Finset.sum_eq_zero (s := (Finset.univ : Finset (Fin 112))) fun i _ => if_neg (by simp), add_zero]
  exact Finset.sum_congr rfl fun i _ => if_pos i.isLt

theorem logGate_eq (z : EReal) :
    (0 - (max (0 - z) 0 + Ideal.log1p (Ideal.exp (0 - FloatOps.absf (F := Ideal) (φ := .f32) (0 - z))))) * Ideal.ofBits .f32 0x3D800000#32 = logGate z := by
  simp only [zero_sub]
  rfl

theorem gate_stored (n : FVec Ideal S1024x1024 .bf16) (w : Vec Ideal S1024x1152 .bf16) (u : Vec Ideal S128x512 .bf16) (b : Vec Ideal S1x512 .f32)
    (a : Fin 1024) (j : Fin 512) :
    k0_pay3 n w u b (ix2 a j)
      = logGate ((∑ i : Fin 16, k0_pay1 n w (ix2 a ⟨i, by omega⟩) * u (ix2 ⟨i, by omega⟩ j)) + b (ix2 0 j)) := by
  refine Eq.trans ?_ (congrArg (fun s => logGate (s + b (ix2 0 j)))
    (lanes fun i : Fin 128 => k0_pay1 n w (ix2 a ⟨i, by omega⟩) * u (ix2 i j)))
  refine Eq.trans ?_ (logGate_eq _)
  pointwise [k0_pay3]

theorem gk_stored (x : Vec Ideal S1024x1024 .f32) (g : Vec Ideal S1x1024 .f32) (w : Vec Ideal S1024x3200 .bf16) (u : Vec Ideal S128x512 .bf16)
    (b : Vec Ideal S1x512 .f32) (a : Fin 1024) (j : Fin 512) :
    k0_pay3 (k0_pay4 (View.ld x r0_0) (View.ld g r0_1)) (View.ld w r0_6) (View.ld u r0_7) (View.ld b r0_8) (ix2 a j)
      = logGate (gateInput (product (fun l => x (ix2 a l)) (fun l => g (ix2 0 l)) (fun l j => w (ix2 l ⟨j, by omega⟩)))
        (fun i j => u (ix2 ⟨i, by omega⟩ j)) (fun j => b (ix2 0 j)) j) := by
  rw [gate_stored]
  simp only [fun i : Fin 16 => tail_at x g w a ⟨i, by omega⟩ (by simp; omega)]
  have hu : ∀ i j, View.ld u r0_7 (ix2 i j) = u (ix2 i j) := fun i j => by pointwise
  have hb : ∀ j, View.ld b r0_8 (ix2 0 j) = b (ix2 0 j) := fun j => by pointwise
  simp only [hu, hb]
  rfl

/-- The queries that point `t` writes. -/
theorem q_out (t : Fin cfg0.N) (a : Fin 1024) (j : Fin 512) : (dats m 0 c).after 5 t (ix2 a j)
    = product (fun l => iblk m c 0 t (ix2 a l)) (fun l => iblk m c 1 t (ix2 0 l))
      (fun l j => iblk m c 2 t (ix2 l ⟨j, by omega⟩)) ⟨j, by omega⟩ * Ideal.ofBits .f32 0x3DB504F3#32 := by
  rw [after0_5]
  generalize iblk m c 0 t = x0
  generalize iblk m c 1 t = x1
  generalize iblk m c 2 t = x2
  generalize iblk m c 3 t = x3
  generalize iblk m c 4 t = x4
  unfold_out out0_5
  generalize hy : (ix2 a j : S1024x512.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact q_stored x0 x1 x2 a j

/-- The keys that point `t` writes. -/
theorem k_out (t : Fin cfg0.N) (a : Fin 1024) (j : Fin 512) : (dats m 0 c).after 6 t (ix2 a j)
    = product (fun l => iblk m c 0 t (ix2 a l)) (fun l => iblk m c 1 t (ix2 0 l))
      (fun l j => iblk m c 2 t (ix2 l ⟨j, by omega⟩)) ⟨512 + j, by omega⟩ := by
  rw [after0_6]
  generalize iblk m c 0 t = x0
  generalize iblk m c 1 t = x1
  generalize iblk m c 2 t = x2
  generalize iblk m c 3 t = x3
  generalize iblk m c 4 t = x4
  unfold_out out0_6
  generalize hy : (ix2 a j : S1024x512.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact k_stored x0 x1 x2 a j

/-- The values that point `t` writes. -/
theorem v_out (t : Fin cfg0.N) (a : Fin 1024) (j : Fin 1024) : (dats m 0 c).after 7 t (ix2 a j)
    = product (fun l => iblk m c 0 t (ix2 a l)) (fun l => iblk m c 1 t (ix2 0 l))
      (fun l j => iblk m c 2 t (ix2 l ⟨j, by omega⟩)) ⟨1024 + j, by omega⟩ := by
  rw [after0_7]
  generalize iblk m c 0 t = x0
  generalize iblk m c 1 t = x1
  generalize iblk m c 2 t = x2
  generalize iblk m c 3 t = x3
  generalize iblk m c 4 t = x4
  unfold_out out0_7
  generalize hy : (ix2 a j : S1024x1024.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact v_stored x0 x1 x2 a j

/-- The output gate's inputs that point `t` writes. -/
theorem r_out (t : Fin cfg0.N) (a : Fin 1024) (j : Fin 1024) : (dats m 0 c).after 8 t (ix2 a j)
    = product (fun l => iblk m c 0 t (ix2 a l)) (fun l => iblk m c 1 t (ix2 0 l))
      (fun l j => iblk m c 2 t (ix2 l ⟨j, by omega⟩)) ⟨2064 + j, by omega⟩ := by
  rw [after0_8]
  generalize iblk m c 0 t = x0
  generalize iblk m c 1 t = x1
  generalize iblk m c 2 t = x2
  generalize iblk m c 3 t = x3
  generalize iblk m c 4 t = x4
  unfold_out out0_8
  generalize hy : (ix2 a j : S1024x1024.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact r_stored x0 x1 x2 a j

/-- The log gates that point `t` writes. -/
theorem gk_out (t : Fin cfg0.N) (a : Fin 1024) (j : Fin 512) : (dats m 0 c).after 9 t (ix2 a j)
    = logGate (gateInput (product (fun l => iblk m c 0 t (ix2 a l)) (fun l => iblk m c 1 t (ix2 0 l))
      (fun l j => iblk m c 2 t (ix2 l ⟨j, by omega⟩))) (fun i j => iblk m c 3 t (ix2 ⟨i, by omega⟩ j)) (fun j => iblk m c 4 t (ix2 0 j)) j) := by
  rw [after0_9]
  generalize iblk m c 0 t = x0
  generalize iblk m c 1 t = x1
  generalize iblk m c 2 t = x2
  generalize iblk m c 3 t = x3
  generalize iblk m c 4 t = x4
  unfold_out out0_9
  generalize hy : (ix2 a j : S1024x512.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact gk_stored x0 x1 x2 x3 x4 a j

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The 16384 rows of an array of four batches. -/
theorem rows_at (x : FVec Ideal S4x4096x1024 .f32) (r : Fin 16384) (l : Fin 1024) :
    (shapeCast S16384x1024 x shapeCasts_S4x4096x1024_S16384x1024 : FVec Ideal S16384x1024 .f32) (ix2 r l)
      = x (ix3 ⟨r / 4096, by omega⟩ ⟨r % 4096, by omega⟩ l) := by
  pointwise

/-- The columns of a padded matrix that are not padding. -/
theorem padded_at (x : FVec Ideal S1024x3088 .bf16) (v : FVec Ideal S_ .bf16) (l : Fin 1024) (j : Fin 3088) :
    pad S1024x3200 ![0, 0] ![0, 112] ![0, 0] x v pads_S1024x3088_S1024x3200_000_01120 h_S_ (ix2 l ⟨j, by omega⟩) = x (ix2 l j) := by
  pointwise

theorem x_array (r : Fin 16384) (l : Fin 1024) : (V m c main_v3 : S16384x1024.Idx → EReal) (ix2 r l)
    = (m ((c : Thread nD τ).loc main_arg0) : S4x4096x1024.Idx → EReal) (ix3 ⟨r / 4096, by omega⟩ ⟨r % 4096, by omega⟩ l) := by
  have h : V m c main_v3 = shapeCast S16384x1024 (m ((c : Thread nD τ).loc main_arg0) : S4x4096x1024.Idx → EReal) shapeCasts_S4x4096x1024_S16384x1024 := by
    unfold V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  exact rows_at _ r l

theorem g_array (l : Fin 1024) : (V m c main_v4 : S1x1024.Idx → EReal) (ix2 0 l) = (m ((c : Thread nD τ).loc main_arg1) : S1024.Idx → EReal) (ix1 l) := by
  have h : V m c main_v4 = broadcastInDim S1x1024 ![1] bcast_S1024_S1x1024_1 (m ((c : Thread nD τ).loc main_arg1) : S1024.Idx → EReal) := by
    unfold V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  pointwise

theorem b_array (j : Fin 512) : (V m c main_v7 : S1x512.Idx → EReal) (ix2 0 j) = (m ((c : Thread nD τ).loc main_arg4) : S512.Idx → EReal) (ix1 j) := by
  have h : V m c main_v7 = broadcastInDim S1x512 ![1] bcast_S512_S1x512_1 (m ((c : Thread nD τ).loc main_arg4) : S512.Idx → EReal) := by
    unfold V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  pointwise

theorem w_array (l : Fin 1024) (j : Fin 3088) : (V m c main_v6 : S1024x3200.Idx → EReal) (ix2 l ⟨j, by omega⟩)
    = (m ((c : Thread nD τ).loc main_arg2) : S1024x3088.Idx → EReal) (ix2 l j) := by
  have h : V m c main_v6 = pad S1024x3200 ![0, 0] ![0, 112] ![0, 0] (m ((c : Thread nD τ).loc main_arg2) : S1024x3088.Idx → EReal)
      (sitofp (F := Ideal) .bf16 (constantI S_ 32 0#32) : S_.Idx → EReal) pads_S1024x3088_S1024x3200_000_01120 h_S_ := by
    unfold V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  exact padded_at _ _ l j

theorem u_array (i : Fin 16) (j : Fin 512) : (V m c main_v2 : S128x512.Idx → EReal) (ix2 ⟨i, by omega⟩ j)
    = (m ((c : Thread nD τ).loc main_arg3) : S16x512.Idx → EReal) (ix2 i j) := by
  have h : V m c main_v2 = concatenate S128x512 0 [⟨S16x512, (m ((c : Thread nD τ).loc main_arg3) : S16x512.Idx → EReal)⟩,
      ⟨S112x512, broadcastInDim S112x512 ![] bcast_S_S112x512 (constant (F := Ideal) S_ .f32 0x00000000#32)⟩]
      concatenates_S16x512_S112x512_S128x512_d0 := by
    unfold V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  pointwise

theorem x_at (t : Fin cfg0.N) (a : Fin 1024) (l : Fin 1024) (r : Fin 16384) (hr : (r : ℕ) = 1024 * t.val + a) :
    (iblk m c 0 t : S1024x1024.Idx → EReal) (ix2 a l)
      = (m ((c : Thread nD τ).loc main_arg0) : S4x4096x1024.Idx → EReal) (ix3 ⟨r / 4096, by omega⟩ ⟨r % 4096, by omega⟩ l) := by
  have h : (iblk m c 0 t : S1024x1024.Idx → EReal) (ix2 a l) = (V m c main_v3 : S16384x1024.Idx → EReal) (ix2 r l) := by
    blk_ext [iblk, idx t]
  rw [h, x_array]

theorem g_at (t : Fin cfg0.N) (l : Fin 1024) :
    (iblk m c 1 t : S1x1024.Idx → EReal) (ix2 0 l) = (m ((c : Thread nD τ).loc main_arg1) : S1024.Idx → EReal) (ix1 l) := by
  have h : (iblk m c 1 t : S1x1024.Idx → EReal) (ix2 0 l) = (V m c main_v4 : S1x1024.Idx → EReal) (ix2 0 l) := by
    blk_ext [iblk, idx t]
  rw [h, g_array]

theorem w_at (t : Fin cfg0.N) (l : Fin 1024) (j : Fin 3088) : (iblk m c 2 t : S1024x3200.Idx → EReal) (ix2 l ⟨j, by omega⟩)
    = (m ((c : Thread nD τ).loc main_arg2) : S1024x3088.Idx → EReal) (ix2 l j) := by
  have h : (iblk m c 2 t : S1024x3200.Idx → EReal) (ix2 l ⟨j, by omega⟩) = (V m c main_v6 : S1024x3200.Idx → EReal) (ix2 l ⟨j, by omega⟩) := by
    blk_ext [iblk, idx t]
  rw [h, w_array]

theorem u_at (t : Fin cfg0.N) (i : Fin 16) (j : Fin 512) : (iblk m c 3 t : S128x512.Idx → EReal) (ix2 ⟨i, by omega⟩ j)
    = (m ((c : Thread nD τ).loc main_arg3) : S16x512.Idx → EReal) (ix2 i j) := by
  have h : (iblk m c 3 t : S128x512.Idx → EReal) (ix2 ⟨i, by omega⟩ j) = (V m c main_v2 : S128x512.Idx → EReal) (ix2 ⟨i, by omega⟩ j) := by
    blk_ext [iblk, idx t]
  rw [h, u_array]

theorem b_at (t : Fin cfg0.N) (j : Fin 512) :
    (iblk m c 4 t : S1x512.Idx → EReal) (ix2 0 j) = (m ((c : Thread nD τ).loc main_arg4) : S512.Idx → EReal) (ix1 j) := by
  have h : (iblk m c 4 t : S1x512.Idx → EReal) (ix2 0 j) = (V m c main_v7 : S1x512.Idx → EReal) (ix2 0 j) := by
    blk_ext [iblk, idx t]
  rw [h, b_array]

/-- The product's row of one row of the kernel's block, in the argument arrays. -/
theorem product_at (t : Fin cfg0.N) (a : Fin 1024) (r : Fin 16384) (hr : (r : ℕ) = 1024 * t.val + a) :
    product (fun l => iblk m c 0 t (ix2 a l)) (fun l => iblk m c 1 t (ix2 0 l)) (fun l j => iblk m c 2 t (ix2 l ⟨j, by omega⟩))
      = projected (m ((c : Thread nD τ).loc main_arg0)) (m ((c : Thread nD τ).loc main_arg1)) (m ((c : Thread nD τ).loc main_arg2)) r := by
  rw [show (fun l => iblk m c 0 t (ix2 a l)) = _ from funext fun l => x_at m c t a l r hr,
    show (fun l => iblk m c 1 t (ix2 0 l)) = _ from funext fun l => g_at m c t l,
    show (fun (l : Fin 1024) (j : Fin 3088) => (iblk m c 2 t : S1024x3200.Idx → EReal) (ix2 l ⟨j, by omega⟩)) = _ from
      funext fun l => funext fun j => w_at m c t l j]
  rfl

theorem q_result : (dats m 0 c).arrAt 5 cfg0.N = queries (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 16 := lt_of_lt_of_eq t.isLt N_0
  have e0 : (((win0_5.blk t).view.emb y) 0 : ℕ) = 1024 * t.val + y 0 := by
    blk_simp [idx t]
    omega
  have e1 : (((win0_5.blk t).view.emb y) 1 : ℕ) = y 1 := by
    blk_simp [idx t]
  generalize (win0_5.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [q_out, product_at m c t a r e0]
  rfl

theorem k_result : (dats m 0 c).arrAt 6 cfg0.N = keys (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 16 := lt_of_lt_of_eq t.isLt N_0
  have e0 : (((win0_6.blk t).view.emb y) 0 : ℕ) = 1024 * t.val + y 0 := by
    blk_simp [idx t]
    omega
  have e1 : (((win0_6.blk t).view.emb y) 1 : ℕ) = y 1 := by
    blk_simp [idx t]
  generalize (win0_6.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [k_out, product_at m c t a r e0]
  rfl

theorem v_result : (dats m 0 c).arrAt 7 cfg0.N = values (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht : t.val < 16 := lt_of_lt_of_eq t.isLt N_0
  have e0 : (((win0_7.blk t).view.emb y) 0 : ℕ) = 1024 * t.val + y 0 := by
    blk_simp [idx t]
    omega
  have e1 : (((win0_7.blk t).view.emb y) 1 : ℕ) = y 1 := by
    blk_simp [idx t]
  generalize (win0_7.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [v_out, product_at m c t a r e0]
  rfl

theorem r_result : (dats m 0 c).arrAt 8 cfg0.N = outputGates (m ((c : Thread nD τ).loc main_arg0)) (m ((c : Thread nD τ).loc main_arg1)) (m ((c : Thread nD τ).loc main_arg2)) := by
  refine (dats m 0 c).arrAt_eq_of_covers 8 _ (by decide +kernel) fun t hf y => ?_
  have ht : t.val < 16 := lt_of_lt_of_eq t.isLt N_0
  have e0 : (((win0_8.blk t).view.emb y) 0 : ℕ) = 1024 * t.val + y 0 := by
    blk_simp [idx t]
    omega
  have e1 : (((win0_8.blk t).view.emb y) 1 : ℕ) = y 1 := by
    blk_simp [idx t]
  generalize (win0_8.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [r_out, product_at m c t a r e0]
  rfl

theorem gk_result : (dats m 0 c).arrAt 9 cfg0.N = logGates (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 9 _ (by decide +kernel) fun t hf y => ?_
  have ht : t.val < 16 := lt_of_lt_of_eq t.isLt N_0
  have e0 : (((win0_9.blk t).view.emb y) 0 : ℕ) = 1024 * t.val + y 0 := by
    blk_simp [idx t]
    omega
  have e1 : (((win0_9.blk t).view.emb y) 1 : ℕ) = y 1 := by
    blk_simp [idx t]
  generalize (win0_9.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [gk_out, product_at m c t a r e0]
  rw [show (fun (i : Fin 16) (j : Fin 512) => (iblk m c 3 t : S128x512.Idx → EReal) (ix2 ⟨i, by omega⟩ j)) = _ from
      funext fun i => funext fun j => u_at m c t i j,
    show (fun j => iblk m c 4 t (ix2 0 j)) = _ from funext fun j => b_at m c t j]
  rfl

end Cert.Proj.Kernel

end
-- ==== Proof.Proj.Reference.lean ====
/-
  The reference's five arrays: the model's. Its composed terms are cut at the norm, the product laid out as 16384 rows, the slices and the log gates'
  input.
-/
module

public import proofs.«01_k».proof.Proof.Gen.Reference5Ideal.Run
public import proofs.«01_k».proof.Proof.Proj.Kernel

@[expose] public section

set_option maxRecDepth 16384

noncomputable section

namespace Cert.Proj.Reference

open Idealize.ShloMosaic Idealize.ShloMosaic.TcCoe Idealize.SL.Sem Idealize.ShloMosaic.StableHlo Cert.Reference5Ideal Cert.Reference5Ideal.Gen
  Cert.Reference5Ideal.Value Cert.Ffn

/-- The reference's norm. -/
def normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- Its product with the matrix, laid out as 16384 rows. -/
def rows (x : FVec Ideal S4x4096x1024 .f32) (w : FVec Ideal S1024x3088 .f32) : FVec Ideal S16384x3088 .f32 :=
  shapeCast _ (Host.dotGeneral dot_S4x4096x1024_S1024x3088_S4x4096x3088_2_0_01_1_n_n none x w) shapeCasts_S4x4096x3088_S16384x3088

/-- Its queries, of the rows. -/
def first (p : FVec Ideal S16384x3088 .f32) : FVec Ideal S16384x512 .f32 :=
  mulf (extractStridedSlice S16384x512 ![0, 0] p slices_S16384x3088_S16384x512_0_0)
    (broadcastInDim S16384x512 ![] bcast_S_S16384x512 (constant S_ .f32 0x3DB504F3#32))

/-- Its keys. -/
def second (p : FVec Ideal S16384x3088 .f32) : FVec Ideal S16384x512 .f32 :=
  extractStridedSlice S16384x512 ![0, 512] p slices_S16384x3088_S16384x512_0_512

/-- Its values. -/
def third (p : FVec Ideal S16384x3088 .f32) : FVec Ideal S16384x1024 .bf16 :=
  truncf .bf16 (extractStridedSlice S16384x1024 ![0, 1024] p slices_S16384x3088_S16384x1024_0_1024) bitsLt_bf16_f32

/-- Its output gate's inputs. -/
def fourth (p : FVec Ideal S16384x3088 .f32) : FVec Ideal S16384x1024 .f32 :=
  extractStridedSlice S16384x1024 ![0, 2064] p slices_S16384x3088_S16384x1024_0_2064

/-- Its log gates' input. -/
def gateIn (p : FVec Ideal S16384x3088 .f32) (u : FVec Ideal S16x512 .f32) (b : FVec Ideal S512 .f32) : FVec Ideal S16384x512 .f32 :=
  addf (Host.dotGeneral dot_S16384x16_S16x512_S16384x512_1_0_0_1_n_n none
    (extractStridedSlice S16384x16 ![0, 2048] p slices_S16384x3088_S16384x16_0_2048) u)
    (broadcastInDim S16384x512 ![0, 1] bcast_S1x512_S16384x512_0_1 (broadcastInDim S1x512 ![1] bcast_S512_S1x512_1 b))

/-- The log gates, of their input's negative and an array of zeros. -/
def fifth (n z : FVec Ideal S16384x512 .f32) : FVec Ideal S16384x512 .f32 :=
  Host.divf (Host.negf (select (cmpf .une (subf n z) (subf n z)) (addf n z)
    (addf (maximumf n z) (Host.log1p (Host.exp (Host.negf (Host.absf (subf n z))))))))
    (broadcastInDim S16384x512 ![] bcast_S_S16384x512 (constant S_ .f32 0x41800000#32))

theorem normed_at (x : FVec Ideal S4x4096x1024 .f32) (g : FVec Ideal S1024 .f32) (b : Fin 4) (a : Fin 4096) (l : Fin 1024) :
    normed x g (ix3 b a l) = norm (fun l => x (ix3 b a l)) (fun l => g (ix1 l)) l := by
  pointwise [normed]
  rfl

theorem rows_at (x : FVec Ideal S4x4096x1024 .f32) (g : FVec Ideal S1024 .f32) (w : FVec Ideal S1024x3088 .f32) (r : Fin 16384) (j : Fin 3088) :
    rows (normed x g) w (ix2 r j) = projected x g w r j := by
  pointwise [rows, normed_at]
  rfl

theorem first_eq (x : FVec Ideal S4x4096x1024 .f32) (g : FVec Ideal S1024 .f32) (w : FVec Ideal S1024x3088 .f32) :
    first (rows (normed x g) w) = queries x g w := by
  funext y
  obtain ⟨r, j, rfl⟩ : ∃ r j, y = ix2 r j := ⟨y 0, y 1, eq_ix2 y⟩
  pointwise [first, rows_at]
  rfl

theorem second_eq (x : FVec Ideal S4x4096x1024 .f32) (g : FVec Ideal S1024 .f32) (w : FVec Ideal S1024x3088 .f32) :
    second (rows (normed x g) w) = keys x g w := by
  funext y
  obtain ⟨r, j, rfl⟩ : ∃ r j, y = ix2 r j := ⟨y 0, y 1, eq_ix2 y⟩
  pointwise [second, rows_at]
  rfl

theorem third_eq (x : FVec Ideal S4x4096x1024 .f32) (g : FVec Ideal S1024 .f32) (w : FVec Ideal S1024x3088 .f32) :
    third (rows (normed x g) w) = values x g w := by
  funext y
  obtain ⟨r, j, rfl⟩ : ∃ r j, y = ix2 r j := ⟨y 0, y 1, eq_ix2 y⟩
  pointwise [third, rows_at]
  rfl

theorem fourth_eq (x : FVec Ideal S4x4096x1024 .f32) (g : FVec Ideal S1024 .f32) (w : FVec Ideal S1024x3088 .f32) :
    fourth (rows (normed x g) w) = outputGates x g w := by
  funext y
  obtain ⟨r, j, rfl⟩ : ∃ r j, y = ix2 r j := ⟨y 0, y 1, eq_ix2 y⟩
  pointwise [fourth, rows_at]
  rfl

theorem gateIn_at (x : FVec Ideal S4x4096x1024 .f32) (g : FVec Ideal S1024 .f32) (w : FVec Ideal S1024x3088 .f32) (u : FVec Ideal S16x512 .f32)
    (b : FVec Ideal S512 .f32) (r : Fin 16384) (j : Fin 512) :
    gateIn (rows (normed x g) w) u b (ix2 r j) = gateInput (projected x g w r) (fun i j => u (ix2 i j)) (fun j => b (ix1 j)) j := by
  pointwise [gateIn, rows_at]
  rfl

theorem sixteen : Ideal.ofBits .f32 0x41800000#32 = ((16 : ℝ) : EReal) := by
  simp only [Ideal.ofBits, Ideal.ieee]
  simp
  rw [← EReal.coe_mul]
  norm_num

theorem sixteenth : Ideal.ofBits .f32 0x3D800000#32 = ((1 / 16 : ℝ) : EReal) := by
  simp only [Ideal.ofBits, Ideal.ieee]
  simp
  rw [← EReal.coe_mul]
  norm_num

/-- A sixteenth of a number is its quotient by sixteen. -/
theorem over_sixteen (s : EReal) : Ideal.div s (Ideal.ofBits .f32 0x41800000#32) = s * Ideal.ofBits .f32 0x3D800000#32 := by
  rw [sixteen, sixteenth, Ideal.div_coe (by norm_num)]

/-- A choice between two numbers by whether a number differs from itself. -/
theorem choice (d a b : EReal) : Scalar.select (Ideal.cmp .une d d) a b = b := by
  simp [Ideal.cmp, Scalar.select]

/-- The reference's log gate at an index: its comparison of a number with itself never holds. -/
theorem fifth_at (v : FVec Ideal S16384x512 .f32) (y : S16384x512.Idx) :
    fifth (Host.negf v) (broadcastInDim S16384x512 ![] bcast_S_S16384x512 (constant S_ .f32 0x00000000#32)) y = logGate (v y) := by
  have hz : (broadcastInDim S16384x512 ![] bcast_S_S16384x512 (constant (F := Ideal) S_ .f32 0x00000000#32)) = fun _ => (0 : EReal) := by
    funext z
    pointwise
  rw [hz]
  refine (over_sixteen _).trans ?_
  refine congrArg (fun s : EReal => -s * Ideal.ofBits .f32 0x3D800000#32) ((choice _ _ _).trans ?_)
  show max (-v y) 0 + Ideal.log1p (Ideal.exp (-max (-v y - 0) (-(-v y - 0)))) = _
  rw [sub_zero]

theorem fifth_eq (x : FVec Ideal S4x4096x1024 .f32) (g : FVec Ideal S1024 .f32) (w : FVec Ideal S1024x3088 .f32) (u : FVec Ideal S16x512 .f32)
    (b : FVec Ideal S512 .f32) :
    fifth (Host.negf (gateIn (rows (normed x g) w) u b)) (broadcastInDim S16384x512 ![] bcast_S_S16384x512 (constant S_ .f32 0x00000000#32))
      = logGates x g w u b := by
  funext y
  obtain ⟨r, j, rfl⟩ : ∃ r j, y = ix2 r j := ⟨y 0, y 1, eq_ix2 y⟩
  rw [fifth_at, gateIn_at]
  rfl

end Cert.Proj.Reference

end
-- ==== Proof.Proj.Claims.lean ====
/-
  The claims about the odd layer's input projection: each program ends with its arguments unchanged, and the kernel's five results equal the
  reference's.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Proj.Kernel
public import proofs.«01_k».proof.Proof.Proj.Reference

@[expose] public section

set_option maxRecDepth 16384

noncomputable section

namespace Cert.Proj.Claims

open Idealize.ShloMosaic Idealize.ShloMosaic.TcCoe Idealize.SL.Sem

theorem frame_reference : Cert.quiescent_Reference5Ideal (hReference5Ideal := Cert.Reference5Ideal.Gen.facts) := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts)
    (hReference5Ideal := Cert.Reference5Ideal.Gen.facts) := by
  intro m ρ m' ρ' hm hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N,
    fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N, Cert.Kernel5Ideal.Value.run_blocks m ρ, ?_⟩
  refine (θ_run _ _ _).mono (fun _ h c => ⟨(h c).1.trans ?_, (h c).2.1.trans ?_, (h c).2.2.1.trans ?_, (h c).2.2.2.1.trans ?_,
    (h c).2.2.2.2.1.trans ?_, (h c).2.2.2.2.2⟩) (Cert.Reference5Ideal.Value.run (F := Ideal) m' ρ')
  · obtain ⟨h0, h1, h2, h3, h4⟩ := hagree c
    refine (Reference.first_eq _ _ _).trans ?_
    refine Eq.trans ?_ (Kernel.q_result m c).symm
    rw [h0, h1, h2]
  · obtain ⟨h0, h1, h2, h3, h4⟩ := hagree c
    refine (Reference.second_eq _ _ _).trans ?_
    refine Eq.trans ?_ (Kernel.k_result m c).symm
    rw [h0, h1, h2]
  · obtain ⟨h0, h1, h2, h3, h4⟩ := hagree c
    refine (Reference.third_eq _ _ _).trans ?_
    refine Eq.trans ?_ (Kernel.v_result m c).symm
    rw [h0, h1, h2]
  · obtain ⟨h0, h1, h2, h3, h4⟩ := hagree c
    refine (Reference.fourth_eq _ _ _).trans ?_
    refine Eq.trans ?_ (Kernel.r_result m c).symm
    rw [h0, h1, h2]
  · obtain ⟨h0, h1, h2, h3, h4⟩ := hagree c
    refine (Reference.fifth_eq _ _ _ _ _).trans ?_
    refine Eq.trans ?_ (Kernel.gk_result m c).symm
    rw [h0, h1, h2, h3, h4]

end Cert.Proj.Claims

end
-- ==== Proof.Even.Block.lean ====
/-
  One grid point of the mixer-output and cross-attention kernel where the mixer's output comes in two parts: what it stores is what the kernel
  of one part stores of the two parts side by side.
-/
module

public import proofs.«01_k».proof.Proof.Gen.Kernel6Ideal.Value
public import proofs.«01_k».proof.Proof.Xa.Block
public import Idealize.ShloMosaic.Lib.Pipeline.ValueKit
public import Idealize.ShloMosaic.Lib.Pointwise

@[expose] public section

set_option maxRecDepth 16384

noncomputable section

namespace Cert.Even

open Idealize.ShloMosaic Cert.Ffn

/-- Two halves side by side. -/
def side (a b : Fin 512 → EReal) : Row := fun l => if h : (l : ℕ) < 512 then a ⟨l, h⟩ else b ⟨l - 512, by omega⟩

/-- A sum over the columns of two halves side by side. -/
theorem sum_side (a b : Fin 512 → EReal) (w : Fin 1024 → EReal) :
    ∑ l : Fin 1024, side a b l * w l = (∑ l : Fin 512, a l * w ⟨l, by omega⟩) + ∑ l : Fin 512, b l * w ⟨512 + l, by omega⟩ := by
  refine (Fin.sum_univ_add (a := 512) (b := 512) fun l => side a b l * w l).trans ?_
  refine congrArg₂ (· + ·) (Finset.sum_congr rfl fun l _ => ?_) (Finset.sum_congr rfl fun l _ => ?_)
  · refine congrArg₂ (· * ·) ?_ rfl
    unfold side
    rw [dif_pos (show ((Fin.castAdd 512 l : Fin 1024) : ℕ) < 512 from l.isLt)]
    rfl
  · refine congrArg₂ (· * ·) ?_ rfl
    unfold side
    rw [dif_neg (show ¬ ((Fin.natAdd 512 l : Fin 1024) : ℕ) < 512 by simp)]
    exact congrArg b (Fin.ext (by simp))

end Cert.Even

namespace Cert.Even.Block

open Idealize.ShloMosaic Idealize.ShloMosaic.TcCoe Idealize.SL.Sem Cert.Kernel6Ideal Cert.Kernel6Ideal.Gen Cert.Ffn Cert.Xa

variable (m : (ℓ : Loc nD τ sig) → Buf (Elt Ideal) ℓ) (c : Dev nD)

/-- The two parts' blocks side by side. -/
def joined (a b : Vec Ideal S1x1024x512 .bf16) : Vec Ideal S1x1024x1024 .bf16 := fun y =>
  side (fun l => a (ix3 0 (y 1) l)) (fun l => b (ix3 0 (y 1) l)) (y 2)

theorem mixed_at (o1 o2 : Vec Ideal S1x1024x512 .bf16) (w1 w2 : Vec Ideal S512x1024 .bf16) (h : Vec Ideal S1x1024x1024 .f32) (g : Vec Ideal S1x1024 .f32)
    (w : Vec Ideal S1024x1024 .bf16) (h1 : ∀ l j, w1 (ix2 l j) = w (ix2 ⟨l, by omega⟩ j)) (h2 : ∀ l j, w2 (ix2 l j) = w (ix2 ⟨512 + l, by omega⟩ j))
    (a j : Fin 1024) : k0_pay2 o1 w1 o2 w2 h g (ix2 a j)
      = mixed (fun l => h (ix3 0 a l)) (fun l => joined o1 o2 (ix3 0 a l)) (fun l => g (ix2 0 l)) (fun l j => w (ix2 l j)) j := by
  have e : (fun j : Fin 1024 => (∑ l : Fin 512, o1 (ix3 0 a l) * w1 (ix2 l j)) + ∑ l : Fin 512, o2 (ix3 0 a l) * w2 (ix2 l j))
      = mul (fun l => joined o1 o2 (ix3 0 a l)) fun l j => w (ix2 l j) := by
    funext j
    simp only [h1, h2]
    exact (sum_side (fun l => o1 (ix3 0 a l)) (fun l => o2 (ix3 0 a l)) fun l => w (ix2 l j)).symm
  unfold mixed
  rw [← e]
  pointwise [k0_pay2]
  rfl

/-- The rows with the mixer's output added are those of the kernel of one part. -/
theorem mixed_eq (x0 : Vec Ideal S1x1024x1024 .f32) (x1 : Vec Ideal S1x1024 .f32) (x4 x5 : Vec Ideal S1x1024x512 .bf16)
    (x6 : Vec Ideal S1024x1024 .bf16) :
    k0_pay2 (View.ld x4 r0_0) (View.ld x6 r0_1) (View.ld x5 r0_0) (View.ld x6 r0_2) (View.ld x0 r0_3) (View.ld x1 r0_4)
      = Cert.Kernel3Ideal.Gen.k0_pay2 (View.ld (joined x4 x5) r0_3) (View.ld x6 r0_5) (View.ld x0 r0_3) (View.ld x1 r0_4) := by
  have e4 : View.ld x4 r0_0 = x4 := funext fun y => by
    rw [eq_ix3 y]
    pointwise
    exact congrArg x4 (funext fun i => by fin_cases i <;> first | rfl | exact Subsingleton.elim (α := Fin 1) _ _)
  have e5 : View.ld x5 r0_0 = x5 := funext fun y => by
    rw [eq_ix3 y]
    pointwise
    exact congrArg x5 (funext fun i => by fin_cases i <;> first | rfl | exact Subsingleton.elim (α := Fin 1) _ _)
  have ej : View.ld (joined x4 x5) r0_3 = joined x4 x5 := by
    generalize joined x4 x5 = o
    funext y
    rw [eq_ix3 y]
    pointwise
    exact congrArg o (funext fun i => by fin_cases i <;> first | rfl | exact Subsingleton.elim (α := Fin 1) _ _)
  have e6 : View.ld x6 r0_5 = x6 := by funext y; rw [eq_ix2 y]; pointwise
  rw [e4, e5, ej, e6]
  funext y
  rw [eq_ix2 y]
  refine (mixed_at x4 x5 _ _ _ _ x6 (fun l j => ?_) (fun l j => ?_) _ _).trans (Xa.Block.mixed_at _ _ _ _ _ _).symm
  · pointwise
  · pointwise

/-- The rows stored, of the eleven blocks read. -/
theorem stored (x0 : Vec Ideal S1x1024x1024 .f32) (x1 x2 x3 : Vec Ideal S1x1024 .f32) (x4 x5 : Vec Ideal S1x1024x512 .bf16)
    (x6 x7 : Vec Ideal S1024x1024 .bf16) (x8 x9 : Vec Ideal S1x256x1024 .bf16) (x10 : Vec Ideal S1024x1024 .bf16) (a j : Fin 1024) :
    (out0_11 x0 x1 x2 x3 x4 x5 x6 x7 x8 x9 x10) (ix3 0 a j)
    = result (mixed (fun l => x0 (ix3 0 a l)) (fun l => joined x4 x5 (ix3 0 a l)) (fun l => x1 (ix2 0 l)) fun l j => x6 (ix2 l j))
        (fun l => x2 (ix2 0 l)) (fun l => x3 (ix2 0 l)) (fun l j => x7 (ix2 l j)) (fun l j => x10 (ix2 l j))
        (fun p l => x8 (ix3 0 p l)) (fun p l => x9 (ix3 0 p l)) j := by
  unfold_out out0_11
  simp only [k0_pay4]
  rw [mixed_eq]
  generalize hy : (ix3 0 a j : S1x1024x1024.Idx) = y
  canon_tiles y h
  case piece0 =>
    subst hy
    obtain ⟨z, p, q, rfl⟩ : ∃ z p q, y = ix3 z p q := ⟨y 0, y 1, y 2, eq_ix3 y⟩
    obtain rfl : a = p := Fin.ext h1
    obtain rfl : j = q := Fin.ext h2
    obtain rfl : 0 = z := Fin.ext h0
    exact Xa.Block.stored x0 x1 x2 x3 (joined x4 x5) x6 x7 x8 x9 x10 a j

/-- The rows a point writes. -/
theorem out (t : Fin cfg0.N) (a j : Fin 1024) : (dats m 0 c).after 11 t (ix3 0 a j)
    = result (mixed (fun l => iblk m c 0 t (ix3 0 a l)) (side (fun l => iblk m c 4 t (ix3 0 a l)) fun l => iblk m c 5 t (ix3 0 a l))
        (fun l => iblk m c 1 t (ix2 0 l)) (fun l j => iblk m c 6 t (ix2 l j)))
      (fun l => iblk m c 2 t (ix2 0 l)) (fun l => iblk m c 3 t (ix2 0 l)) (fun l j => iblk m c 7 t (ix2 l j)) (fun l j => iblk m c 10 t (ix2 l j))
      (fun p l => iblk m c 8 t (ix3 0 p l)) (fun p l => iblk m c 9 t (ix3 0 p l)) j := by
  rw [after0_11]
  exact stored _ _ _ _ _ _ _ _ _ _ _ a j

end Cert.Even.Block

end
-- ==== Proof.Even.Kernel.lean ====
/-
  The result array of the mixer-output and cross-attention kernel of two parts: the model's result of the two parts side by side.
-/
module

public import proofs.«01_k».proof.Proof.Even.Block
public import proofs.«01_k».proof.Proof.Xa.Kernel
public import Idealize.ShloMosaic.Lib.Pipeline.ValueKit
public import Idealize.ShloMosaic.Lib.Claim

@[expose] public section

set_option maxRecDepth 16384

noncomputable section

namespace Cert.Even

open Idealize.ShloMosaic Cert.Ffn Cert.Xa

/-- An array of half rows, four batches of 4096. -/
abbrev Halves : Type := (⟨3, ![4, 4096, 512]⟩ : Shape).Idx → EReal

/-- Two arrays of half rows side by side. -/
def rows (a b : Halves) : Rows := fun y => side (fun l => a (ix3 (y 0) (y 1) l)) (fun l => b (ix3 (y 0) (y 1) l)) (y 2)

end Cert.Even

namespace Cert.Even.Kernel

open Idealize.ShloMosaic Idealize.ShloMosaic.TcCoe Idealize.SL.Sem Cert.Kernel6Ideal Cert.Kernel6Ideal.Gen Cert.Xa

variable (m : (ℓ : Loc nD τ sig) → Buf (Elt Ideal) ℓ) (c : Dev nD)

theorem idx : ∀ t : Fin cfg0.N, win0_0.index t = ![t.val / 4, t.val % 4, 0] ∧ win0_1.index t = ![0, 0] ∧ win0_2.index t = ![0, 0]
    ∧ win0_3.index t = ![0, 0] ∧ win0_4.index t = ![t.val / 4, t.val % 4, 0] ∧ win0_5.index t = ![t.val / 4, t.val % 4, 0]
    ∧ win0_6.index t = ![0, 0] ∧ win0_7.index t = ![0, 0]
    ∧ win0_8.index t = ![t.val / 4, 0, 0] ∧ win0_9.index t = ![t.val / 4, 0, 0] ∧ win0_10.index t = ![0, 0]
    ∧ win0_11.index t = ![t.val / 4, t.val % 4, 0] :=
  (by decide +kernel : ∀ t : Fin grid0.N, _)

theorem gmix_array : V m c main_v0 = fun y : S1x1024.Idx => (m ((c : Thread nD τ).loc main_arg5) : S1024.Idx → EReal) (ix1 (y 1)) := by
  show StableHlo.after hostOps0 (fun b => m (c, b)) (Proc.devRef .tc main_v0) = _
  entry_read
  funext y
  rw [eq_ix2 y]
  pointwise

theorem gpre_array : V m c main_v1 = fun y : S1x1024.Idx => (m ((c : Thread nD τ).loc main_arg6) : S1024.Idx → EReal) (ix1 (y 1)) := by
  show StableHlo.after hostOps0 (fun b => m (c, b)) (Proc.devRef .tc main_v1) = _
  entry_read
  funext y
  rw [eq_ix2 y]
  pointwise

theorem gpost_array : V m c main_v2 = fun y : S1x1024.Idx => (m ((c : Thread nD τ).loc main_arg7) : S1024.Idx → EReal) (ix1 (y 1)) := by
  show StableHlo.after hostOps0 (fun b => m (c, b)) (Proc.devRef .tc main_v2) = _
  entry_read
  funext y
  rw [eq_ix2 y]
  pointwise

theorem wout_array : V m c main_v3 = fun y : S1024x1024.Idx => (m ((c : Thread nD τ).loc main_arg8) : S1024x1024.Idx → EReal) y := by
  show StableHlo.after hostOps0 (fun b => m (c, b)) (Proc.devRef .tc main_v3) = _
  entry_read
  funext y
  rw [eq_ix2 y]
  pointwise

theorem wq_array : V m c main_v4 = fun y : S1024x1024.Idx => (m ((c : Thread nD τ).loc main_arg9) : S1024x1024.Idx → EReal) y := by
  show StableHlo.after hostOps0 (fun b => m (c, b)) (Proc.devRef .tc main_v4) = _
  entry_read
  funext y
  rw [eq_ix2 y]
  pointwise

theorem wo_array : V m c main_v5 = fun y : S1024x1024.Idx => (m ((c : Thread nD τ).loc main_arg10) : S1024x1024.Idx → EReal) y := by
  show StableHlo.after hostOps0 (fun b => m (c, b)) (Proc.devRef .tc main_v5) = _
  entry_read
  funext y
  rw [eq_ix2 y]
  pointwise

theorem h_at (t : Fin cfg0.N) (a : Fin 1024) (l : Fin 1024) (b : Fin 4) (r : Fin 4096) (hb : (b : ℕ) = t.val / 4)
    (hr : (r : ℕ) = 1024 * (t.val % 4) + a) : (iblk m c 0 t : S1x1024x1024.Idx → EReal) (ix3 0 a l)
      = (m ((c : Thread nD τ).loc main_arg0) : S4x4096x1024.Idx → EReal) (ix3 b r l) := by
  blk_ext [iblk, V, idx t]

theorem first_at (t : Fin cfg0.N) (a : Fin 1024) (l : Fin 512) (b : Fin 4) (r : Fin 4096) (hb : (b : ℕ) = t.val / 4)
    (hr : (r : ℕ) = 1024 * (t.val % 4) + a) : (iblk m c 4 t : S1x1024x512.Idx → EReal) (ix3 0 a l)
      = (m ((c : Thread nD τ).loc main_arg1) : S4x4096x512.Idx → EReal) (ix3 b r l) := by
  blk_ext [iblk, V, idx t]

theorem second_at (t : Fin cfg0.N) (a : Fin 1024) (l : Fin 512) (b : Fin 4) (r : Fin 4096) (hb : (b : ℕ) = t.val / 4)
    (hr : (r : ℕ) = 1024 * (t.val % 4) + a) : (iblk m c 5 t : S1x1024x512.Idx → EReal) (ix3 0 a l)
      = (m ((c : Thread nD τ).loc main_arg2) : S4x4096x512.Idx → EReal) (ix3 b r l) := by
  blk_ext [iblk, V, idx t]

theorem k_at (t : Fin cfg0.N) (p : Fin 256) (l : Fin 1024) (b : Fin 4) (hb : (b : ℕ) = t.val / 4) :
    (iblk m c 8 t : S1x256x1024.Idx → EReal) (ix3 0 p l)
      = (m ((c : Thread nD τ).loc main_arg3) : S4x256x1024.Idx → EReal) (ix3 b p l) := by
  blk_ext [iblk, V, idx t]

theorem v_at (t : Fin cfg0.N) (p : Fin 256) (l : Fin 1024) (b : Fin 4) (hb : (b : ℕ) = t.val / 4) :
    (iblk m c 9 t : S1x256x1024.Idx → EReal) (ix3 0 p l)
      = (m ((c : Thread nD τ).loc main_arg4) : S4x256x1024.Idx → EReal) (ix3 b p l) := by
  blk_ext [iblk, V, idx t]

theorem gmix_at (t : Fin cfg0.N) (l : Fin 1024) :
    (iblk m c 1 t : S1x1024.Idx → EReal) (ix2 0 l) = (m ((c : Thread nD τ).loc main_arg5) : S1024.Idx → EReal) (ix1 l) := by
  have h : (iblk m c 1 t : S1x1024.Idx → EReal) (ix2 0 l) = (V m c main_v0 : S1x1024.Idx → EReal) (ix2 0 l) := by
    blk_ext [iblk, idx t]
  rw [h, gmix_array]
  rfl

theorem gpre_at (t : Fin cfg0.N) (l : Fin 1024) :
    (iblk m c 2 t : S1x1024.Idx → EReal) (ix2 0 l) = (m ((c : Thread nD τ).loc main_arg6) : S1024.Idx → EReal) (ix1 l) := by
  have h : (iblk m c 2 t : S1x1024.Idx → EReal) (ix2 0 l) = (V m c main_v1 : S1x1024.Idx → EReal) (ix2 0 l) := by
    blk_ext [iblk, idx t]
  rw [h, gpre_array]
  rfl

theorem gpost_at (t : Fin cfg0.N) (l : Fin 1024) :
    (iblk m c 3 t : S1x1024.Idx → EReal) (ix2 0 l) = (m ((c : Thread nD τ).loc main_arg7) : S1024.Idx → EReal) (ix1 l) := by
  have h : (iblk m c 3 t : S1x1024.Idx → EReal) (ix2 0 l) = (V m c main_v2 : S1x1024.Idx → EReal) (ix2 0 l) := by
    blk_ext [iblk, idx t]
  rw [h, gpost_array]
  rfl

theorem wout_at (t : Fin cfg0.N) (l j : Fin 1024) :
    (iblk m c 6 t : S1024x1024.Idx → EReal) (ix2 l j) = (m ((c : Thread nD τ).loc main_arg8) : S1024x1024.Idx → EReal) (ix2 l j) := by
  have h : (iblk m c 6 t : S1024x1024.Idx → EReal) (ix2 l j) = (V m c main_v3 : S1024x1024.Idx → EReal) (ix2 l j) := by
    blk_ext [iblk, idx t]
  rw [h, wout_array]

theorem wq_at (t : Fin cfg0.N) (l j : Fin 1024) :
    (iblk m c 7 t : S1024x1024.Idx → EReal) (ix2 l j) = (m ((c : Thread nD τ).loc main_arg9) : S1024x1024.Idx → EReal) (ix2 l j) := by
  have h : (iblk m c 7 t : S1024x1024.Idx → EReal) (ix2 l j) = (V m c main_v4 : S1024x1024.Idx → EReal) (ix2 l j) := by
    blk_ext [iblk, idx t]
  rw [h, wq_array]

theorem wo_at (t : Fin cfg0.N) (l j : Fin 1024) :
    (iblk m c 10 t : S1024x1024.Idx → EReal) (ix2 l j) = (m ((c : Thread nD τ).loc main_arg10) : S1024x1024.Idx → EReal) (ix2 l j) := by
  have h : (iblk m c 10 t : S1024x1024.Idx → EReal) (ix2 l j) = (V m c main_v5 : S1024x1024.Idx → EReal) (ix2 l j) := by
    blk_ext [iblk, idx t]
  rw [h, wo_array]

theorem array : (dats m 0 c).arrAt 11 cfg0.N = Xa.array (m ((c : Thread nD τ).loc main_arg0))
    (rows (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) := by
  refine (dats m 0 c).arrAt_eq_of_covers 11 _ (by decide +kernel) fun t hf y => ?_
  have ht : t.val < 16 := lt_of_lt_of_eq t.isLt N_0
  have hy : (y 0 : ℕ) < 1 := (y 0).isLt
  have e0 : (((win0_11.blk t).view.emb y) 0 : ℕ) = t.val / 4 := by
    blk_simp [idx t]
  have e1 : (((win0_11.blk t).view.emb y) 1 : ℕ) = 1024 * (t.val % 4) + y 1 := by
    blk_simp [idx t]
    omega
  have e2 : (((win0_11.blk t).view.emb y) 2 : ℕ) = y 2 := by
    blk_simp [idx t]
  generalize (win0_11.blk t).view.emb y = z at e0 e1 e2
  obtain ⟨u, a, j, rfl⟩ : ∃ u a j, y = ix3 u a j := ⟨y 0, y 1, y 2, eq_ix3 y⟩
  obtain ⟨b, r, k, rfl⟩ : ∃ b r k, z = ix3 b r k := ⟨z 0, z 1, z 2, eq_ix3 z⟩
  obtain rfl : k = j := Fin.ext e2
  obtain rfl : u = 0 := Subsingleton.elim (α := Fin 1) _ _
  blk_simp
  rw [Even.Block.out]
  rw [show (fun l => iblk m c 0 t (ix3 0 a l)) = _ from funext fun l => h_at m c t a l b r e0 e1,
    show (fun l => iblk m c 4 t (ix3 0 a l)) = _ from funext fun l => first_at m c t a l b r e0 e1,
    show (fun l => iblk m c 5 t (ix3 0 a l)) = _ from funext fun l => second_at m c t a l b r e0 e1,
    show (fun l => iblk m c 1 t (ix2 0 l)) = _ from funext fun l => gmix_at m c t l,
    show (fun l => iblk m c 2 t (ix2 0 l)) = _ from funext fun l => gpre_at m c t l,
    show (fun l => iblk m c 3 t (ix2 0 l)) = _ from funext fun l => gpost_at m c t l,
    show (fun l j => iblk m c 6 t (ix2 l j)) = _ from funext fun l => funext fun j => wout_at m c t l j,
    show (fun l j => iblk m c 7 t (ix2 l j)) = _ from funext fun l => funext fun j => wq_at m c t l j,
    show (fun l j => iblk m c 10 t (ix2 l j)) = _ from funext fun l => funext fun j => wo_at m c t l j,
    show (fun p l => iblk m c 8 t (ix3 0 p l)) = _ from funext fun p => funext fun l => k_at m c t p l b e0,
    show (fun p l => iblk m c 9 t (ix3 0 p l)) = _ from funext fun p => funext fun l => v_at m c t p l b e0]
  rfl

end Cert.Even.Kernel

end
-- ==== Proof.Even.Claims.lean ====
/-
  The claims about the even layer's output product and the cross-attention: each program ends with its arguments unchanged, and the kernel's
  result equals the reference's wherever the largest score of each head of each row is finite.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Even.Kernel
public import proofs.«01_k».proof.Proof.Xa.Claims

@[expose] public section

set_option maxRecDepth 16384

noncomputable section

namespace Cert.Even.Claims

open Idealize.ShloMosaic Idealize.ShloMosaic.TcCoe Idealize.SL.Sem

theorem scores_facts : Cert.Pre_even_scores_finite.Facts where
  concatenates_S4x4096x512_S4x4096x512_S4x4096x1024_d2 := Cert.Reference6Ideal.Gen.facts.concatenates_S4x4096x512_S4x4096x512_S4x4096x1024_d2
  bitsLt_bf16_f32 := Cert.Reference6Ideal.Gen.facts.bitsLt_bf16_f32
  reducesTo_S4x4096x1024_S4x4096_d2 := Cert.Reference6Ideal.Gen.facts.reducesTo_S4x4096x1024_S4x4096_d2
  h_S_ := Cert.Reference6Ideal.Gen.facts.h_S_
  bcast_S4x4096_S4x4096x1_0_1 := Cert.Reference6Ideal.Gen.facts.bcast_S4x4096_S4x4096x1_0_1
  bcast_S_S4x4096x1 := Cert.Reference6Ideal.Gen.facts.bcast_S_S4x4096x1
  bcast_S4x4096x1_S4x4096x1024_0_1_2 := Cert.Reference6Ideal.Gen.facts.bcast_S4x4096x1_S4x4096x1024_0_1_2
  bcast_S1024_S1x1x1024_2 := Cert.Reference6Ideal.Gen.facts.bcast_S1024_S1x1x1024_2
  bcast_S1x1x1024_S4x4096x1024_0_1_2 := Cert.Reference6Ideal.Gen.facts.bcast_S1x1x1024_S4x4096x1024_0_1_2
  shapeCasts_S4x4096x1024_S4x4096x4x256 := Cert.Reference6Ideal.Gen.facts.shapeCasts_S4x4096x1024_S4x4096x4x256
  shapeCasts_S4x256x1024_S4x256x4x256 := Cert.Reference6Ideal.Gen.facts.shapeCasts_S4x256x1024_S4x256x4x256
  reducesTo_S4x4x4096x256_S4x4x4096_d3 := Cert.Reference6Ideal.Gen.facts.reducesTo_S4x4x4096x256_S4x4x4096_d3
  bcast_S_S4x4x4096 := Cert.Reference6Ideal.Gen.facts.bcast_S_S4x4x4096
  dot_S4x4096x1024_S1024x1024_S4x4096x1024_2_0_01_1_n_n_wf :=
    Cert.Reference6Ideal.Gen.facts.dot_S4x4096x1024_S1024x1024_S4x4096x1024_2_0_01_1_n_n_wf
  dot_S4x4096x4x256_S4x256x4x256_S4x4x4096x256_3_3_1_1_02_02_wf :=
    Cert.Reference6Ideal.Gen.facts.dot_S4x4096x4x256_S4x256x4x256_S4x4x4096x256_3_3_1_1_02_02_wf

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

section Reference

open Cert.Reference6Ideal Cert.Reference6Ideal.Gen Cert.Reference6Ideal.Value Idealize.ShloMosaic.StableHlo

/-- The reference's concatenation of the two parts. -/
def beside (a b : FVec Ideal S4x4096x512 .bf16) : FVec Ideal S4x4096x1024 .bf16 :=
  concatenate S4x4096x1024 2 [⟨S4x4096x512, a⟩, ⟨S4x4096x512, b⟩] concatenates_S4x4096x512_S4x4096x512_S4x4096x1024_d2

theorem beside_eq (a b : FVec Ideal S4x4096x512 .bf16) : beside a b = rows a b := by
  funext y
  obtain ⟨u, r, l, rfl⟩ : ∃ u r l, y = ix3 u r l := ⟨y 0, y 1, y 2, eq_ix3 y⟩
  refine Eq.trans ?_ (show side (fun l => a (ix3 u r l)) (fun l => b (ix3 u r l)) l = rows a b (ix3 u r l) from rfl)
  unfold side
  pointwise [beside]

variable (m : (ℓ : Loc nD τ sig) → Buf (Elt Ideal) ℓ) (c : Dev nD)

theorem term : res_out0 m c = Xa.Reference.composed (m ((c : Thread nD τ).loc main_arg0))
    (beside (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) := rfl

/-- The precondition's function is that of the one-part use, of the concatenation. -/
theorem finite_eq (h : FVec Ideal S4x4096x1024 .f32) (a b : FVec Ideal S4x4096x512 .bf16) (k v : FVec Ideal S4x256x1024 .bf16)
    (gmix gpre gpost : FVec Ideal S1024 .f32) (wout wq wo : FVec Ideal S1024x1024 .f32) :
    @Cert.Pre_even_scores_finite.fn scores_facts Ideal _ h a b k v gmix gpre gpost wout wq wo
      = @Cert.Pre_scores_finite.fn Xa.Claims.scores_facts Ideal _ h (beside a b) k v gmix gpre gpost wout wq wo := rfl

end Reference

theorem algebraic : Cert.algebraic_Kernel6Ideal_Reference6Ideal_pre_even_scores_finite (hKernel6Ideal := Cert.Kernel6Ideal.Gen.facts)
    (hReference6Ideal := Cert.Reference6Ideal.Gen.facts) (hPre_even_scores_finite := scores_facts) := by
  intro m ρ m' ρ' hm hagree
  refine ⟨fun c => (Cert.Kernel6Ideal.Gen.dats m 0 c).arrAt 11 Cert.Kernel6Ideal.cfg0.N, Cert.Kernel6Ideal.Value.run_blocks m ρ, ?_⟩
  refine (θ_run _ _ _).mono (fun _ h c => ⟨(h c).1.trans ?_, (h c).2⟩) (Cert.Reference6Ideal.Value.run (F := Ideal) m' ρ')
  obtain ⟨h0, h1, h2, h3, h4, h5, h6, h7, h8, h9, h10⟩ := hagree c
  refine (term m' c).trans ?_
  refine Eq.trans ?_ (Kernel.array m c).symm
  rw [h0, h1, h2, h3, h4, h5, h6, h7, h8, h9, h10, ← beside_eq]
  have hf := Xa.Claims.finite _ _ _ _ _ _ _ _ _ _ ((finite_eq _ _ _ _ _ _ _ _ _ _ _).symm.trans (hm c))
  exact Xa.Reference.composed_eq _ _ _ _ _ _ _ _ _ _ (fun b n a => (hf b n a).1) (fun b n a => (hf b n a).2)

end Cert.Even.Claims

end
-- ==== Proof.Ev.Outputs.lean ====
module

public import proofs.«01_k».proof.Proof.Gen.Kernel7Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-!
# The six projected outputs' blocks

What the body of the even layer's input projection stores in the six projected outputs' buffers, as
functions of a grid point's input blocks, and that each one's stores cover it. Over any float values.
-/

@[expose] public section

set_option maxRecDepth 16384

noncomputable section

namespace Cert.Ev

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body stores in the six outputs -/

/-- The normalised rows. -/
def normed (x0 : Vec F S1024x1024 .f32) (x1 : Vec F S1x1024 .f32) : FVec F S1024x1024 .bf16 :=
  k0_pay4 (View.ld x0 (Rect.unit (s := S1024x1024) ![0, 0] S1024x1024.size inb_S1024x1024_S1024x1024_0_0))
    (View.ld x1 (Rect.unit (s := S1x1024) ![0, 0] S1x1024.size inb_S1x1024_S1x1024_0_0))

/-- The normalised compressed rows. -/
def latent (x0 : Vec F S1024x1024 .f32) (x1 : Vec F S1x1024 .f32) (x2 : Vec F S1024x2560 .bf16) (x3 : Vec F S1x256 .f32) :
    FVec F S1024x256 .bf16 :=
  k0_pay40 (normed x0 x1) (View.ld x2 (Rect.unit (s := S1024x2560) ![0, 512] S1024x256.size inb_S1024x2560_S1024x256_0_512))
    (View.ld x3 (Rect.unit (s := S1x256) ![0, 0] S1x256.size inb_S1x256_S1x256_0_0))

/-- The queries' block. -/
def out13 (x0 : Vec F S1024x1024 .f32) (x1 : Vec F S1x1024 .f32) (x2 : Vec F S1024x2560 .bf16) : Vec F S512x1024 .bf16 :=
  View.canon [⟨Rect.unit (s := S512x1024) ![0, 0] S512x1024.size inb_S512x1024_S512x1024_0_0,
    k0_pay27 (normed x0 x1) (View.ld x2 (Rect.unit (s := S1024x2560) ![0, 0] S1024x512.size inb_S1024x2560_S1024x512_0_0))⟩]

theorem cover13 (p : S512x1024.Idx → Elt F .bf16) (y : S512x1024.Idx) :
    ∃ q ∈ ([⟨Rect.unit (s := S512x1024) ![0, 0] S512x1024.size inb_S512x1024_S512x1024_0_0, p⟩] : List (View.Piece (Elt F) S512x1024 .bf16)), y ∈ q.1.set :=
  View.cover_of_tiled [⟨Rect.unit (s := S512x1024) ![0, 0] S512x1024.size inb_S512x1024_S512x1024_0_0, p⟩] S512x1024.size (by rfl) y

/-- The keys' block. -/
def out14 (x0 : Vec F S1024x1024 .f32) (x1 : Vec F S1x1024 .f32) (x2 : Vec F S1024x2560 .bf16) (x3 : Vec F S1x256 .f32) (x4 : Vec F S256x512 .bf16) : Vec F S1024x512 .bf16 :=
  View.canon [⟨Rect.unit (s := S1024x512) ![0, 0] S1024x512.size inb_S1024x512_S1024x512_0_0,
    k0_pay41 (latent x0 x1 x2 x3) (View.ld x4 (Rect.unit (s := S256x512) ![0, 0] S256x512.size inb_S256x512_S256x512_0_0))⟩]

theorem cover14 (p : S1024x512.Idx → Elt F .bf16) (y : S1024x512.Idx) :
    ∃ q ∈ ([⟨Rect.unit (s := S1024x512) ![0, 0] S1024x512.size inb_S1024x512_S1024x512_0_0, p⟩] : List (View.Piece (Elt F) S1024x512 .bf16)), y ∈ q.1.set :=
  View.cover_of_tiled [⟨Rect.unit (s := S1024x512) ![0, 0] S1024x512.size inb_S1024x512_S1024x512_0_0, p⟩] S1024x512.size (by rfl) y

/-- The values' block. -/
def out15 (x0 : Vec F S1024x1024 .f32) (x1 : Vec F S1x1024 .f32) (x2 : Vec F S1024x2560 .bf16) (x3 : Vec F S1x256 .f32) (x5 : Vec F S256x512 .bf16) : Vec F S2x512x512 .bf16 :=
  View.canon [⟨Rect.unit (s := S2x512x512) ![1, 0, 0] S1x512x512.size inb_S2x512x512_S1x512x512_1_0_0, k0_pay52 (latent x0 x1 x2 x3) (View.ld x5 (Rect.unit (s := S256x512) ![0, 0] S256x512.size inb_S256x512_S256x512_0_0))⟩,
    ⟨Rect.unit (s := S2x512x512) ![0, 0, 0] S1x512x512.size inb_S2x512x512_S1x512x512_0_0_0, k0_pay51 (latent x0 x1 x2 x3) (View.ld x5 (Rect.unit (s := S256x512) ![0, 0] S256x512.size inb_S256x512_S256x512_0_0))⟩]

theorem cover15 (p0 p1 : S1x512x512.Idx → Elt F .bf16) (y : S2x512x512.Idx) :
    ∃ p ∈ ([⟨Rect.unit (s := S2x512x512) ![1, 0, 0] S1x512x512.size inb_S2x512x512_S1x512x512_1_0_0, p0⟩,
      ⟨Rect.unit (s := S2x512x512) ![0, 0, 0] S1x512x512.size inb_S2x512x512_S1x512x512_0_0_0, p1⟩] : List (View.Piece (Elt F) S2x512x512 .bf16)), y ∈ p.1.set :=
  View.cover_of_tiled [⟨Rect.unit (s := S2x512x512) ![1, 0, 0] S1x512x512.size inb_S2x512x512_S1x512x512_1_0_0, p0⟩, ⟨Rect.unit (s := S2x512x512) ![0, 0, 0] S1x512x512.size inb_S2x512x512_S1x512x512_0_0_0, p1⟩] S1x512x512.size (by rfl) y

/-- The index queries' block. -/
def out16 (x0 : Vec F S1024x1024 .f32) (x1 : Vec F S1x1024 .f32) (x2 : Vec F S1024x2560 .bf16) : Vec F S512x1024 .bf16 :=
  View.canon [⟨Rect.unit (s := S512x1024) ![0, 0] S512x1024.size inb_S512x1024_S512x1024_0_0,
    k0_pay63 (normed x0 x1) (View.ld x2 (Rect.unit (s := S1024x2560) ![0, 768] S1024x512.size inb_S1024x2560_S1024x512_0_768))⟩]

theorem cover16 (p : S512x1024.Idx → Elt F .bf16) (y : S512x1024.Idx) :
    ∃ q ∈ ([⟨Rect.unit (s := S512x1024) ![0, 0] S512x1024.size inb_S512x1024_S512x1024_0_0, p⟩] : List (View.Piece (Elt F) S512x1024 .bf16)), y ∈ q.1.set :=
  View.cover_of_tiled [⟨Rect.unit (s := S512x1024) ![0, 0] S512x1024.size inb_S512x1024_S512x1024_0_0, p⟩] S512x1024.size (by rfl) y

/-- The index keys' block. -/
def out17 (x0 : Vec F S1024x1024 .f32) (x1 : Vec F S1x1024 .f32) (x2 : Vec F S1024x2560 .bf16) : Vec F S1024x128 .bf16 :=
  View.canon [⟨Rect.unit (s := S1024x128) ![0, 0] S1024x128.size inb_S1024x128_S1024x128_0_0,
    k0_pay74 (normed x0 x1) (View.ld x2 (Rect.unit (s := S1024x2560) ![0, 1280] S1024x128.size inb_S1024x2560_S1024x128_0_1280))⟩]

theorem cover17 (p : S1024x128.Idx → Elt F .bf16) (y : S1024x128.Idx) :
    ∃ q ∈ ([⟨Rect.unit (s := S1024x128) ![0, 0] S1024x128.size inb_S1024x128_S1024x128_0_0, p⟩] : List (View.Piece (Elt F) S1024x128 .bf16)), y ∈ q.1.set :=
  View.cover_of_tiled [⟨Rect.unit (s := S1024x128) ![0, 0] S1024x128.size inb_S1024x128_S1024x128_0_0, p⟩] S1024x128.size (by rfl) y

/-- The index weights' block. -/
def out18 (x0 : Vec F S1024x1024 .f32) (x1 : Vec F S1x1024 .f32) (x2 : Vec F S1024x2560 .bf16) : Vec F S8x1024 .f32 :=
  View.canon [⟨Rect.unit (s := S8x1024) ![0, 0] S8x1024.size inb_S8x1024_S8x1024_0_0,
    k0_pay85 (normed x0 x1) (View.ld x2 (Rect.unit (s := S1024x2560) ![0, 2432] S1024x128.size inb_S1024x2560_S1024x128_0_2432))⟩]

theorem cover18 (p : S8x1024.Idx → Elt F .f32) (y : S8x1024.Idx) :
    ∃ q ∈ ([⟨Rect.unit (s := S8x1024) ![0, 0] S8x1024.size inb_S8x1024_S8x1024_0_0, p⟩] : List (View.Piece (Elt F) S8x1024 .f32)), y ∈ q.1.set :=
  View.cover_of_tiled [⟨Rect.unit (s := S8x1024) ![0, 0] S8x1024.size inb_S8x1024_S8x1024_0_0, p⟩] S8x1024.size (by rfl) y

end Cert.Ev

end
-- ==== Proof.Ev.Body.lean ====
module

public import proofs.«01_k».proof.Proof.Ev.Outputs
public import proofs.«01_k».proof.Proof.Gen.Kernel7Ideal.Launch
public import proofs.«01_k».proof.Proof.Gen.Kernel7Ideal.Points
public import proofs.«01_k».proof.Proof.Gen.Kernel7Ideal.Loops
public import proofs.«01_k».proof.Proof.Gen.Kernel7Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-!
# The body of the even layer's input projection at a grid point

The body's triple: run over whole buffers, it leaves the six projected outputs' buffers at the
contents that `Ev.Outputs` names, the inputs as they were, and the channels' output and the scratch
at some contents. The body's `if`
(the state cleared at a sequence's first point) is run both ways; the loop goes by its generated
invariant. Over any float values.
-/

@[expose] public section

set_option maxRecDepth 16384

noncomputable section

namespace Cert.Ev

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the run. -/
abbrev Res (F : FTy → Type) [FloatOps F] := MT nD τ sig Unit (Elt F) ℕ (UR sig nD τ) ℕ

/-- The condition of the body's `if`: the point is a sequence's first. -/
abbrev first (i : grid0.Coords) : Prop :=
  (Scalar.cmpi .ne (Scalar.extui (Scalar.cmpi .eq
    (Scalar.select
      (Scalar.andi
        (Scalar.xori
          (Scalar.cmpi .slt (Scalar.remsi (BitVec.ofNat 32 (i 0).val) (Scalar.select (Scalar.cmpi .eq 4#32 0#32) 1#32 4#32)) 0#32)
          (Scalar.cmpi .slt (Scalar.select (Scalar.cmpi .eq 4#32 0#32) 1#32 4#32) 0#32))
        (Scalar.cmpi .ne (Scalar.remsi (BitVec.ofNat 32 (i 0).val) (Scalar.select (Scalar.cmpi .eq 4#32 0#32) 1#32 4#32)) 0#32))
      (Scalar.addi (Scalar.remsi (BitVec.ofNat 32 (i 0).val) (Scalar.select (Scalar.cmpi .eq 4#32 0#32) 1#32 4#32))
        (Scalar.select (Scalar.cmpi .eq 4#32 0#32) 1#32 4#32))
      (Scalar.remsi (BitVec.ofNat 32 (i 0).val) (Scalar.select (Scalar.cmpi .eq 4#32 0#32) 1#32 4#32)))
    0#32) : BitVec 32) 0#32) = 1#1

set_option maxHeartbeats 12000000 in
/-- The body's triple. -/
theorem body (c : Dev nD) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x256 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S4x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S1024x512 .bf16) (harg15 : arg15.IsWhole) (arg16 : Memref sig .tc .vmem S2x512x512 .bf16) (harg16 : arg16.IsWhole) (arg17 : Memref sig .tc .vmem S512x1024 .bf16) (harg17 : arg17.IsWhole) (arg18 : Memref sig .tc .vmem S1024x128 .bf16) (harg18 : arg18.IsWhole) (arg19 : Memref sig .tc .vmem S8x1024 .f32) (harg19 : arg19.IsWhole) (arg20 : Memref sig .tc .vmem S1024x512 .bf16) (harg20 : arg20.IsWhole) (arg21 : Memref sig .tc .vmem S1032x512 .f32) (harg21 : arg21.IsWhole) (arg22 : Memref sig .tc .vmem S1024x512 .f32) (harg22 : arg22.IsWhole) (arg23 : Memref sig .tc .vmem S1024x512 .f32) (harg23 : arg23.IsWhole) (arg24 : Memref sig .tc .vmem S8x512 .f32) (harg24 : arg24.IsWhole) (arg25 : Memref sig .tc .vmem S1024x512 .f32) (harg25 : arg25.IsWhole)
    (x0 : Vec F S1024x1024 .f32) (x1 : Vec F S1x1024 .f32) (x2 : Vec F S1024x2560 .bf16) (x3 : Vec F S1x256 .f32) (x4 : Vec F S256x512 .bf16) (x5 : Vec F S256x512 .bf16) (x6 : Vec F S4x512 .f32) (x7 : Vec F S1x512 .f32) (x8 : Vec F S512x512 .bf16) (x9 : Vec F S1x512 .f32) (x10 : Vec F S512x512 .bf16) (x11 : Vec F S1x512 .f32) (x12 : Vec F S1x512 .f32) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out13 x0 x1 x2) ∗ owns (c : Thread nD τ) arg15 fullShare (out14 x0 x1 x2 x3 x4) ∗ owns (c : Thread nD τ) arg16 fullShare (out15 x0 x1 x2 x3 x5) ∗ owns (c : Thread nD τ) arg17 fullShare (out16 x0 x1 x2) ∗ owns (c : Thread nD τ) arg18 fullShare (out17 x0 x1 x2) ∗ owns (c : Thread nD τ) arg19 fullShare (out18 x0 x1 x2) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) E (cc0_even_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_even_proj_eq_skeleton]; unfold cc0_even_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  by_cases hc : first i
  all_goals
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr
      swap; · iexact H13
      ipureintro; refine (View.read_writes_eq_canon _ _ _ (cover13 _)).trans ?_
      conv_rhs => rw [← hf0, ← hf1, ← hf2]
      rfl
    isplitl [H14]
    · iexists _; isplitr
      swap; · iexact H14
      ipureintro; refine (View.read_writes_eq_canon _ _ _ (cover14 _)).trans ?_
      conv_rhs => rw [← hf0, ← hf1, ← hf2, ← hf3, ← hf4]
      rfl
    isplitl [H15]
    · iexists _; isplitr
      swap; · iexact H15
      ipureintro; refine (View.read_writes_eq_canon _ _ _ (cover15 _ _)).trans ?_
      conv_rhs => rw [← hf0, ← hf1, ← hf2, ← hf3, ← hf5]
      rfl
    isplitl [H16]
    · iexists _; isplitr
      swap; · iexact H16
      ipureintro; refine (View.read_writes_eq_canon _ _ _ (cover16 _)).trans ?_
      conv_rhs => rw [← hf0, ← hf1, ← hf2]
      rfl
    isplitl [H17]
    · iexists _; isplitr
      swap; · iexact H17
      ipureintro; refine (View.read_writes_eq_canon _ _ _ (cover17 _)).trans ?_
      conv_rhs => rw [← hf0, ← hf1, ← hf2]
      rfl
    isplitl [H18]
    · iexists _; isplitr
      swap; · iexact H18
      ipureintro; refine (View.read_writes_eq_canon _ _ _ (cover18 _)).trans ?_
      conv_rhs => rw [← hf0, ← hf1, ← hf2]
      rfl
    isplitl [H19]
    · iexists _; iexists _; isplitr
      swap; · iexact H19
      ipureintro; rfl
    isplitl [H20]
    · iexists _; iexists _; isplitr
      swap; · iexact H20
      ipureintro; rfl
    isplitl [H21]
    · iexists _; iexists _; isplitr
      swap; · iexact H21
      ipureintro; rfl
    isplitl [H22]
    · iexists _; iexists _; isplitr
      swap; · iexact H22
      ipureintro; rfl
    isplitl [H23]
    · iexists _; iexists _; isplitr
      swap; · iexact H23
      ipureintro; rfl
    iexists _; iexists _; isplitr
    swap; · iexact H24
    ipureintro; rfl

end Cert.Ev

end
-- ==== Proof.Ev.Data.lean ====
module

public import proofs.«01_k».proof.Proof.Ev.Outputs
public import proofs.«01_k».proof.Proof.Gen.Kernel7Ideal.Frame

/-!
# The proof data of the even layer's input projection's launch

Each input window's block left as found, each of the six projected outputs' blocks what `Ev.Outputs`
names, nothing said of the channels' output. Over any float values.
-/

@[expose] public section

set_option maxRecDepth 16384

noncomputable section

namespace Cert.Ev

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]
variable (m : (ℓ : Loc nD τ sig) → Buf (Elt F) ℓ)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t)
    | ⟨14, _⟩ => out14 (iblk m c 0 t) (iblk m c 1 t) (iblk m c 2 t) (iblk m c 3 t) (iblk m c 4 t)
    | ⟨15, _⟩ => out15 (iblk m c 0 t) (iblk m c 1 t) (iblk m c 2 t) (iblk m c 3 t) (iblk m c 5 t)
    | ⟨16, _⟩ => out16 (iblk m c 0 t) (iblk m c 1 t) (iblk m c 2 t)
    | ⟨17, _⟩ => out17 (iblk m c 0 t) (iblk m c 1 t) (iblk m c 2 t)
    | ⟨18, _⟩ => out18 (iblk m c 0 t) (iblk m c 1 t) (iblk m c 2 t)
    | ⟨19, _⟩ => Dat.unnamed (cfg := cfg0) 19 t
    | ⟨n + 20, h⟩ => absurd h (by simp [show cfg0.W = 20 from rfl])
  Φ _ := Pipeline.ΦA spec0 c
  q _ := fullShare
  owed _ := 0

/-- The windows nothing is said of: the channels' output. -/
def unread (w : Fin 20) : Bool := w.val == 19

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = out13 (iblk m c 0 t) (iblk m c 1 t) (iblk m c 2 t) := by dsimp only [dats]
theorem after_14 (c : Dev nD) (t : Fin cfg0.N) : (dats m 0 c).after 14 t = out14 (iblk m c 0 t) (iblk m c 1 t) (iblk m c 2 t) (iblk m c 3 t) (iblk m c 4 t) := by dsimp only [dats]
theorem after_15 (c : Dev nD) (t : Fin cfg0.N) : (dats m 0 c).after 15 t = out15 (iblk m c 0 t) (iblk m c 1 t) (iblk m c 2 t) (iblk m c 3 t) (iblk m c 5 t) := by dsimp only [dats]
theorem after_16 (c : Dev nD) (t : Fin cfg0.N) : (dats m 0 c).after 16 t = out16 (iblk m c 0 t) (iblk m c 1 t) (iblk m c 2 t) := by dsimp only [dats]
theorem after_17 (c : Dev nD) (t : Fin cfg0.N) : (dats m 0 c).after 17 t = out17 (iblk m c 0 t) (iblk m c 1 t) (iblk m c 2 t) := by dsimp only [dats]
theorem after_18 (c : Dev nD) (t : Fin cfg0.N) : (dats m 0 c).after 18 t = out18 (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

end Cert.Ev

end
-- ==== Proof.Ev.Run.lean ====
module

public import proofs.«01_k».proof.Proof.Ev.Body
public import proofs.«01_k».proof.Proof.Ev.Data

/-!
# The launch of the even layer's input projection

The body's obligation and the run: every execution terminates, the six arrays end at what the proof
data computes, the arguments unchanged and every counter at zero. Over any float values.
-/

@[expose] public section

set_option maxRecDepth 16384

noncomputable section

namespace Cert.Ev

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]
variable (m : (ℓ : Loc nD τ sig) → Buf (Elt F) ℓ) (ρ : Dev nD → PrngReg)

/-- The launch's invariant, with the scratch as memrefs owned at some contents. -/
theorem invariant_eq (c : Dev nD) :
    (Pipeline.ΦA spec0 c : sProp (Res F))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare d))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (∃ d, owns (c : Thread nD τ) (st0_19 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, invariant_eq,
    after_0, after_1, after_2, after_3, after_4, after_5, after_6, after_7, after_8, after_9, after_10, after_11, after_12, after_13, after_14, after_15, after_16, after_17, after_18]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem row (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (dats (F := F) m 0 c) (defs₀ (F := F)) Variants.none () Set.univ unread := fun t => by
  rw [bigSep_W0, bigSep_W0, row]
  exact triple_restated (sound_body m c t) rfl .rfl fun _ => .rfl

/-- What the run leaves. -/
abbrev Post (r : PUnit × MemSt nD τ sig (Elt F)) : Prop :=
  Pipeline.RDat.FramePost cfg0 (fun c => (dats m 0 c).toRForget unread) (V m) r

set_option backward.isDefEq.respectTransparency.types false in
set_option maxHeartbeats 800000 in
/-- The run. -/
theorem run_quiescent : θ_run defs (onTc (τ := τ) (main (F := F))) (s₀ m ρ) (fun r => Post m r ∧ r.2.sem = fun _ => 0) :=
  Pipeline.θ_run_frame_forget (Q' := _) cfgs (dats m) (0 : Fin 1) launch0 defs₀ Variants.none unread m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments are unchanged. -/
theorem kept (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (((dats m 0 c).toRForget_arrAt_iff (w := 6) rfl _ _).mp ((h c).1 6)).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- The run, with the arguments unchanged and the counters at zero. -/
theorem run_kept : θ_run defs (onTc (τ := τ) (main (F := F))) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0 :=
  (θ_run defs _ _).mono (fun r h => ⟨kept m r h.1, h.2⟩) (run_quiescent m ρ)

/-- The run with the six arrays named. -/
theorem run_blocks : θ_run defs (onTc (τ := τ) (main (F := F))) ⟨m, fun _ => 0, ρ⟩ fun r => ∀ c : Dev nD,
    r.2.mem ((c.tc : Thread nD τ).loc main_v42_0) = (dats m 0 c).arrAt 13 cfg0.N
      ∧ r.2.mem ((c.tc : Thread nD τ).loc main_v42_1) = (dats m 0 c).arrAt 14 cfg0.N
      ∧ r.2.mem ((c.tc : Thread nD τ).loc main_v42_2) = (dats m 0 c).arrAt 15 cfg0.N
      ∧ r.2.mem ((c.tc : Thread nD τ).loc main_v42_3) = (dats m 0 c).arrAt 16 cfg0.N
      ∧ r.2.mem ((c.tc : Thread nD τ).loc main_v42_4) = (dats m 0 c).arrAt 17 cfg0.N
      ∧ r.2.mem ((c.tc : Thread nD τ).loc main_v42_5) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((dats m 0 c).toRForget_arrAt_iff (w := 13) rfl _ _).mp ((h.1 c).1 13),
      ((dats m 0 c).toRForget_arrAt_iff (w := 14) rfl _ _).mp ((h.1 c).1 14),
      ((dats m 0 c).toRForget_arrAt_iff (w := 15) rfl _ _).mp ((h.1 c).1 15),
      ((dats m 0 c).toRForget_arrAt_iff (w := 16) rfl _ _).mp ((h.1 c).1 16),
      ((dats m 0 c).toRForget_arrAt_iff (w := 17) rfl _ _).mp ((h.1 c).1 17),
      ((dats m 0 c).toRForget_arrAt_iff (w := 18) rfl _ _).mp ((h.1 c).1 18),
      kept m r h.1 c⟩)
    (run_quiescent m ρ)

end Cert.Ev

end
-- ==== Proof.Ev.Model.lean ====
/-
  The even layer's input projection, apart from the recurrent channels' part: per row the norm and its products with columns of the matrix; the
  latent row's second norm and its products.
-/
module

public import proofs.«01_k».proof.Proof.Ffn.Model
public import Idealize.ShloMosaic.Lib.Pointwise

@[expose] public section

noncomputable section

namespace Cert.Ev

open Idealize.ShloMosaic Cert.Ffn

/-- A normed row's product with a column. -/
def product (x g col : Row) : EReal := ∑ l : Fin 1024, norm x g l * col l

/-- A row of 256 numbers over the root of its mean square, times a weight per column. -/
def norm256 (x g : Fin 256 → EReal) : Fin 256 → EReal := fun j =>
  x j * Ideal.rsqrt (Ideal.div (∑ l : Fin 256, x l * x l) (Ideal.ofBits .f32 0x43800000#32) + Ideal.ofBits .f32 0x358637BD#32) * g j

/-- A row of 256 numbers' product with a column. -/
def product256 (x col : Fin 256 → EReal) : EReal := ∑ l : Fin 256, x l * col l

variable (h : (⟨3, ![4, 4096, 1024]⟩ : Shape).Idx → EReal) (g : (⟨1, ![1024]⟩ : Shape).Idx → EReal) (w : (⟨2, ![1024, 2376]⟩ : Shape).Idx → EReal)
  (kv : (⟨1, ![256]⟩ : Shape).Idx → EReal) (u : (⟨2, ![256, 512]⟩ : Shape).Idx → EReal)

/-- Row `r` of the product with the matrix, of the argument arrays. -/
def projected (r : Fin 16384) (j : Fin 2376) : EReal :=
  product (fun l => h (ix3 ⟨r / 4096, by omega⟩ ⟨r % 4096, by omega⟩ l)) (fun l => g (ix1 l)) (fun l => w (ix2 l j))

/-- Row `r` of the latents. -/
def latentRow (r : Fin 16384) : Fin 256 → EReal := norm256 (fun j => projected h g w r ⟨512 + j, by omega⟩) (fun j => kv (ix1 j))

/-- Entry `j` of a latent row's product with a matrix. -/
def unfolded (r : Fin 16384) (j : Fin 512) : EReal := product256 (latentRow h g w kv r) (fun l => u (ix2 l j))

/-- The scaled queries, a column per row of the input. -/
def queries : (⟨2, ![512, 16384]⟩ : Shape).Idx → EReal := fun y =>
  projected h g w (y 1) ⟨(y 0).val, (y 0).isLt.trans (by decide)⟩ * Ideal.ofBits .f32 0x3E38AA3B#32

/-- The keys. -/
def keys : (⟨2, ![16384, 512]⟩ : Shape).Idx → EReal := fun y => unfolded h g w kv u (y 0) (y 1)

/-- The values, a column per row of the input, in 32 groups of 512 rows. -/
def values : (⟨3, ![32, 512, 512]⟩ : Shape).Idx → EReal := fun y =>
  unfolded h g w kv u ⟨512 * (y 0).val + (y 2).val, by
    have h0 : (y 0).val < 32 := (y 0).isLt
    have h2 : (y 2).val < 512 := (y 2).isLt
    omega⟩ (y 1)

/-- The scaled index queries, a column per row of the input. -/
def indexQueries : (⟨2, ![512, 16384]⟩ : Shape).Idx → EReal := fun y =>
  projected h g w (y 1) ⟨768 + (y 0).val, (Nat.add_lt_add_left (y 0).isLt 768).trans (by decide)⟩ * Ideal.ofBits .f32 0x3E000000#32

/-- The index keys, twice side by side. -/
def indexKeys : (⟨2, ![16384, 128]⟩ : Shape).Idx → EReal := fun y => projected h g w (y 0) ⟨1280 + (y 1).val % 64, by omega⟩

/-- The scaled index weights, a column per row of the input. -/
def indexWeights : (⟨2, ![8, 16384]⟩ : Shape).Idx → EReal := fun y =>
  projected h g w (y 1) ⟨1344 + (y 0).val, (Nat.add_lt_add_left (y 0).isLt 1344).trans (by decide)⟩ * Ideal.ofBits .f32 0x3EB504F3#32

end Cert.Ev

end
-- ==== Proof.Ev.Block.lean ====
/-
  What the even layer's input projection stores, at the ideal values: each of the six blocks at an index, of the point's input blocks.
-/
module

public import proofs.«01_k».proof.Proof.Ev.Outputs
public import proofs.«01_k».proof.Proof.Ev.Model
public import Idealize.ShloMosaic.Lib.Pipeline.ValueKit
public import Idealize.ShloMosaic.Lib.Pointwise

@[expose] public section

set_option maxRecDepth 16384

noncomputable section

namespace Cert.Ev.Block

open Idealize.ShloMosaic Idealize.ShloMosaic.TcCoe Cert.Kernel7Ideal Cert.Kernel7Ideal.Gen Cert.Ffn Cert.Ev

variable (x0 : Vec Ideal S1024x1024 .f32) (x1 : Vec Ideal S1x1024 .f32) (x2 : Vec Ideal S1024x2560 .bf16) (x3 : Vec Ideal S1x256 .f32)
  (x4 x5 : Vec Ideal S256x512 .bf16)

/-- The block's product of row `a` with column `k`. -/
def entry (a : Fin 1024) (k : Fin 2560) : EReal := product (fun l => x0 (ix2 a l)) (fun l => x1 (ix2 0 l)) (fun l => x2 (ix2 l k))

/-- The block's latent row `a`. -/
def latentAt (a : Fin 1024) : Fin 256 → EReal := norm256 (fun j => entry x0 x1 x2 a ⟨512 + j, by omega⟩) (fun j => x3 (ix2 0 j))

theorem normed_at (a l : Fin 1024) : normed x0 x1 (ix2 a l) = norm (fun l => x0 (ix2 a l)) (fun l => x1 (ix2 0 l)) l := by
  pointwise [normed, k0_pay4]
  rfl

theorem queries_stored (j : Fin 512) (a : Fin 1024) :
    k0_pay27 (normed x0 x1) (View.ld x2 (Rect.unit (s := S1024x2560) ![0, 0] S1024x512.size inb_S1024x2560_S1024x512_0_0)) (ix2 j a)
      = entry x0 x1 x2 a ⟨j, by omega⟩ * Ideal.ofBits .f32 0x3E38AA3B#32 := by
  pointwise [k0_pay27, normed_at]
  rfl

theorem indexQueries_stored (j : Fin 512) (a : Fin 1024) :
    k0_pay63 (normed x0 x1) (View.ld x2 (Rect.unit (s := S1024x2560) ![0, 768] S1024x512.size inb_S1024x2560_S1024x512_0_768)) (ix2 j a)
      = entry x0 x1 x2 a ⟨768 + j, by omega⟩ * Ideal.ofBits .f32 0x3E000000#32 := by
  pointwise [k0_pay63, normed_at]
  rfl

theorem indexKeys_stored (a : Fin 1024) (j : Fin 128) :
    k0_pay74 (normed x0 x1) (View.ld x2 (Rect.unit (s := S1024x2560) ![0, 1280] S1024x128.size inb_S1024x2560_S1024x128_0_1280)) (ix2 a j)
      = entry x0 x1 x2 a ⟨1280 + j, by omega⟩ := by
  pointwise [k0_pay74, normed_at]
  rfl

theorem indexWeights_stored (j : Fin 8) (a : Fin 1024) :
    k0_pay85 (normed x0 x1) (View.ld x2 (Rect.unit (s := S1024x2560) ![0, 2432] S1024x128.size inb_S1024x2560_S1024x128_0_2432)) (ix2 j a)
      = entry x0 x1 x2 a ⟨2432 + j, by omega⟩ * Ideal.ofBits .f32 0x3EB504F3#32 := by
  pointwise [k0_pay85, normed_at]
  rfl

/-- The latents before their norm. -/
theorem product_at (n : FVec Ideal S1024x1024 .bf16) (w : Vec Ideal S1024x256 .bf16) (g : Vec Ideal S1x256 .f32) (a : Fin 1024) (j : Fin 256) :
    k0_pay40 n w g (ix2 a j) = norm256 (fun j => ∑ l : Fin 1024, n (ix2 a l) * w (ix2 l j)) (fun j => g (ix2 0 j)) j := by
  pointwise [k0_pay40]
  rfl

theorem latent_at (a : Fin 1024) (j : Fin 256) : latent x0 x1 x2 x3 (ix2 a j) = latentAt x0 x1 x2 x3 a j := by
  unfold latent
  rw [product_at]
  have hw : ∀ (l : Fin 1024) (j : Fin 256), View.ld x2 (Rect.unit (s := S1024x2560) ![0, 512] S1024x256.size inb_S1024x2560_S1024x256_0_512) (ix2 l j)
      = x2 (ix2 l ⟨512 + j, by omega⟩) := fun l j => by pointwise
  have hg : ∀ j : Fin 256, View.ld x3 (Rect.unit (s := S1x256) ![0, 0] S1x256.size inb_S1x256_S1x256_0_0) (ix2 0 j) = x3 (ix2 0 j) := fun j => by
    pointwise
  simp only [hw, hg, normed_at]
  rfl

theorem keys_stored (a : Fin 1024) (j : Fin 512) :
    k0_pay41 (latent x0 x1 x2 x3) (View.ld x4 (Rect.unit (s := S256x512) ![0, 0] S256x512.size inb_S256x512_S256x512_0_0)) (ix2 a j)
      = product256 (latentAt x0 x1 x2 x3 a) (fun l => x4 (ix2 l j)) := by
  pointwise [k0_pay41, latent_at]
  rfl

theorem unfolded_at (a : Fin 1024) (j : Fin 512) :
    k0_pay50 (latent x0 x1 x2 x3) (View.ld x5 (Rect.unit (s := S256x512) ![0, 0] S256x512.size inb_S256x512_S256x512_0_0)) (ix2 a j)
      = product256 (latentAt x0 x1 x2 x3 a) (fun l => x5 (ix2 l j)) := by
  pointwise [k0_pay50, latent_at]
  rfl

theorem values_first (j a : Fin 512) :
    k0_pay51 (latent x0 x1 x2 x3) (View.ld x5 (Rect.unit (s := S256x512) ![0, 0] S256x512.size inb_S256x512_S256x512_0_0)) (ix3 0 j a)
      = product256 (latentAt x0 x1 x2 x3 ⟨a, by omega⟩) (fun l => x5 (ix2 l j)) := by
  have h := unfolded_at x0 x1 x2 x3 x5 ⟨a, by omega⟩ j
  refine Eq.trans ?_ h
  pointwise [k0_pay51]

theorem values_second (j a : Fin 512) :
    k0_pay52 (latent x0 x1 x2 x3) (View.ld x5 (Rect.unit (s := S256x512) ![0, 0] S256x512.size inb_S256x512_S256x512_0_0)) (ix3 0 j a)
      = product256 (latentAt x0 x1 x2 x3 ⟨512 + a, by omega⟩) (fun l => x5 (ix2 l j)) := by
  have h := unfolded_at x0 x1 x2 x3 x5 ⟨512 + a, by omega⟩ j
  refine Eq.trans ?_ h
  pointwise [k0_pay52]

/-! ## The blocks at an index -/

theorem out13_at (j : Fin 512) (a : Fin 1024) :
    out13 x0 x1 x2 (ix2 j a) = entry x0 x1 x2 a ⟨j, by omega⟩ * Ideal.ofBits .f32 0x3E38AA3B#32 := by
  unfold out13
  generalize hy : (ix2 j a : S512x1024.Idx) = y
  canon_tiles y h
  case piece0 =>
    subst hy
    obtain ⟨p, q, rfl⟩ : ∃ p q, y = ix2 p q := ⟨y 0, y 1, eq_ix2 y⟩
    obtain rfl : j = p := Fin.ext h0
    obtain rfl : a = q := Fin.ext h1
    exact queries_stored x0 x1 x2 j a

theorem out14_at (a : Fin 1024) (j : Fin 512) :
    out14 x0 x1 x2 x3 x4 (ix2 a j) = product256 (latentAt x0 x1 x2 x3 a) (fun l => x4 (ix2 l j)) := by
  unfold out14
  generalize hy : (ix2 a j : S1024x512.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact keys_stored x0 x1 x2 x3 x4 a j

theorem out15_at (b : Fin 2) (j a : Fin 512) :
    out15 x0 x1 x2 x3 x5 (ix3 b j a) = product256 (latentAt x0 x1 x2 x3 ⟨512 * b + a, by omega⟩) (fun l => x5 (ix2 l j)) := by
  unfold out15
  generalize hy : (ix3 b j a : S2x512x512.Idx) = y
  canon_tiles y h
  case piece0 =>
    subst hy
    obtain ⟨o, p, q, rfl⟩ : ∃ o p q, y = ix3 o p q := ⟨y 0, y 1, y 2, eq_ix3 y⟩
    obtain rfl : b = 1 := Fin.ext (by simpa using h0)
    obtain rfl : j = p := Fin.ext h1
    obtain rfl : a = q := Fin.ext h2
    obtain rfl : o = 0 := Subsingleton.elim _ _
    exact values_second x0 x1 x2 x3 x5 j a
  case piece1 =>
    subst hy
    obtain ⟨o, p, q, rfl⟩ : ∃ o p q, y = ix3 o p q := ⟨y 0, y 1, y 2, eq_ix3 y⟩
    obtain rfl : b = 0 := Fin.ext (by simpa using h0)
    obtain rfl : j = p := Fin.ext h1
    obtain rfl : a = q := Fin.ext h2
    obtain rfl : o = 0 := Subsingleton.elim _ _
    refine (values_first x0 x1 x2 x3 x5 j a).trans ?_
    congr 3
    simp

theorem out16_at (j : Fin 512) (a : Fin 1024) :
    out16 x0 x1 x2 (ix2 j a) = entry x0 x1 x2 a ⟨768 + j, by omega⟩ * Ideal.ofBits .f32 0x3E000000#32 := by
  unfold out16
  generalize hy : (ix2 j a : S512x1024.Idx) = y
  canon_tiles y h
  case piece0 =>
    subst hy
    obtain ⟨p, q, rfl⟩ : ∃ p q, y = ix2 p q := ⟨y 0, y 1, eq_ix2 y⟩
    obtain rfl : j = p := Fin.ext h0
    obtain rfl : a = q := Fin.ext h1
    exact indexQueries_stored x0 x1 x2 j a

theorem out17_at (a : Fin 1024) (j : Fin 128) : out17 x0 x1 x2 (ix2 a j) = entry x0 x1 x2 a ⟨1280 + j, by omega⟩ := by
  unfold out17
  generalize hy : (ix2 a j : S1024x128.Idx) = y
  canon_tiles y h
  case piece0 =>
    subst hy
    obtain ⟨p, q, rfl⟩ : ∃ p q, y = ix2 p q := ⟨y 0, y 1, eq_ix2 y⟩
    obtain rfl : a = p := Fin.ext h0
    obtain rfl : j = q := Fin.ext h1
    exact indexKeys_stored x0 x1 x2 a j

theorem out18_at (j : Fin 8) (a : Fin 1024) :
    out18 x0 x1 x2 (ix2 j a) = entry x0 x1 x2 a ⟨2432 + j, by omega⟩ * Ideal.ofBits .f32 0x3EB504F3#32 := by
  unfold out18
  generalize hy : (ix2 j a : S8x1024.Idx) = y
  canon_tiles y h
  case piece0 =>
    subst hy
    obtain ⟨p, q, rfl⟩ : ∃ p q, y = ix2 p q := ⟨y 0, y 1, eq_ix2 y⟩
    obtain rfl : j = p := Fin.ext h0
    obtain rfl : a = q := Fin.ext h1
    exact indexWeights_stored x0 x1 x2 j a

end Cert.Ev.Block

end
-- ==== Proof.Ev.Host.lean ====
/-
  The input blocks of the even layer's input projection at a grid point, in the argument arrays: the kernel's matrix is the argument's columns
  rearranged, the index keys' columns twice.
-/
module

public import proofs.«01_k».proof.Proof.Gen.Kernel7Ideal.Frame
public import proofs.«01_k».proof.Proof.Ev.Block

@[expose] public section

set_option maxRecDepth 16384

noncomputable section

namespace Cert.Ev.Kernel

open Idealize.ShloMosaic Idealize.ShloMosaic.TcCoe Idealize.SL.Sem Cert.Kernel7Ideal Cert.Kernel7Ideal.Gen Cert.Ffn Cert.Ev

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_13.index t = ![0, t.val]
    ∧ win0_14.index t = ![t.val, 0] ∧ win0_15.index t = ![t.val, 0, 0] ∧ win0_16.index t = ![0, t.val] ∧ win0_17.index t = ![t.val, 0]
    ∧ win0_18.index t = ![0, t.val] :=
  (by decide +kernel : ∀ t : Fin grid0.N, _)

/-- The 16384 rows of an array of four batches. -/
theorem rows_at (x : FVec Ideal S4x4096x1024 .f32) (r : Fin 16384) (l : Fin 1024) :
    (shapeCast S16384x1024 x shapeCasts_S4x4096x1024_S16384x1024 : FVec Ideal S16384x1024 .f32) (ix2 r l)
      = x (ix3 ⟨r / 4096, by omega⟩ ⟨r % 4096, by omega⟩ l) := by
  pointwise

/-- The kernel's matrix, of the argument. -/
def matrix (w : FVec Ideal S1024x2376 .f32) (z : FVec Ideal S1024x120 .f32) : FVec Ideal S1024x2560 .bf16 :=
  truncf .bf16 (concatenate S1024x2560 1 [⟨S1024x1280, extractStridedSlice S1024x1280 ![0, 0] w slices_S1024x2376_S1024x1280_0_0⟩,
    ⟨S1024x64, extractStridedSlice S1024x64 ![0, 1280] w slices_S1024x2376_S1024x64_0_1280⟩,
    ⟨S1024x64, extractStridedSlice S1024x64 ![0, 1280] w slices_S1024x2376_S1024x64_0_1280⟩,
    ⟨S1024x1024, extractStridedSlice S1024x1024 ![0, 1352] w slices_S1024x2376_S1024x1024_0_1352⟩,
    ⟨S1024x8, extractStridedSlice S1024x8 ![0, 1344] w slices_S1024x2376_S1024x8_0_1344⟩, ⟨S1024x120, z⟩]
    concatenates_S1024x1280_S1024x64_S1024x64_S1024x1024_S1024x8_S1024x120_S1024x2560_d1) bitsLt_bf16_f32

theorem matrix_low (w : FVec Ideal S1024x2376 .f32) (z : FVec Ideal S1024x120 .f32) (l : Fin 1024) (j : Fin 1280) :
    matrix w z (ix2 l ⟨j, by omega⟩) = w (ix2 l ⟨j, by omega⟩) := by
  pointwise [matrix]

theorem matrix_key (w : FVec Ideal S1024x2376 .f32) (z : FVec Ideal S1024x120 .f32) (l : Fin 1024) (j : Fin 64) :
    matrix w z (ix2 l ⟨1280 + j, by omega⟩) = w (ix2 l ⟨1280 + j, by omega⟩) := by
  pointwise [matrix]

theorem matrix_again (w : FVec Ideal S1024x2376 .f32) (z : FVec Ideal S1024x120 .f32) (l : Fin 1024) (j : Fin 64) :
    matrix w z (ix2 l ⟨1344 + j, by omega⟩) = w (ix2 l ⟨1280 + j, by omega⟩) := by
  pointwise [matrix]
  rw [dif_neg (by omega), dif_neg (by omega), dif_pos (by omega)]
  exact congrArg (fun k => w (ix2 l k)) (Fin.ext (by simp; omega))

theorem matrix_weight (w : FVec Ideal S1024x2376 .f32) (z : FVec Ideal S1024x120 .f32) (l : Fin 1024) (j : Fin 8) :
    matrix w z (ix2 l ⟨2432 + j, by omega⟩) = w (ix2 l ⟨1344 + j, by omega⟩) := by
  pointwise [matrix]
  rw [dif_neg (by omega), dif_neg (by omega), dif_neg (by omega), dif_neg (by omega), dif_pos (by omega)]
  exact congrArg (fun k => w (ix2 l k)) (Fin.ext (by simp; omega))

/-- The index keys' columns, twice. -/
theorem matrix_keys (w : FVec Ideal S1024x2376 .f32) (z : FVec Ideal S1024x120 .f32) (l : Fin 1024) (j : Fin 128) :
    matrix w z (ix2 l ⟨1280 + j, by omega⟩) = w (ix2 l ⟨1280 + j % 64, by omega⟩) := by
  rcases Nat.lt_or_ge j.val 64 with h | h
  · rw [show (⟨1280 + j, by omega⟩ : Fin 2560) = ⟨1280 + (⟨j % 64, by omega⟩ : Fin 64).val, by omega⟩ from Fin.ext (by simp; omega), matrix_key]
  · rw [show (⟨1280 + j, by omega⟩ : Fin 2560) = ⟨1344 + (⟨j % 64, by omega⟩ : Fin 64).val, by omega⟩ from Fin.ext (by simp; omega), matrix_again]

theorem x_array (r : Fin 16384) (l : Fin 1024) : (V m c main_v30 : S16384x1024.Idx → EReal) (ix2 r l)
    = (m ((c : Thread nD τ).loc main_arg0) : S4x4096x1024.Idx → EReal) (ix3 ⟨r / 4096, by omega⟩ ⟨r % 4096, by omega⟩ l) := by
  have h : V m c main_v30 = shapeCast S16384x1024 (m ((c : Thread nD τ).loc main_arg0) : S4x4096x1024.Idx → EReal) shapeCasts_S4x4096x1024_S16384x1024 := by
    unfold V
    simp only [hostOps0, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  exact rows_at _ r l

theorem g_array (l : Fin 1024) : (V m c main_v31 : S1x1024.Idx → EReal) (ix2 0 l) = (m ((c : Thread nD τ).loc main_arg1) : S1024.Idx → EReal) (ix1 l) := by
  have h : V m c main_v31 = broadcastInDim S1x1024 ![1] bcast_S1024_S1x1024_1 (m ((c : Thread nD τ).loc main_arg1) : S1024.Idx → EReal) := by
    unfold V
    simp only [hostOps0, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  pointwise

theorem w_array : V m c main_v38 = matrix (m ((c : Thread nD τ).loc main_arg2) : S1024x2376.Idx → EReal)
    (broadcastInDim S1024x120 ![] bcast_S_S1024x120 (constant (F := Ideal) S_ .f32 0x00000000#32)) := by
  unfold V matrix
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem kv_array (j : Fin 256) : (V m c main_v39 : S1x256.Idx → EReal) (ix2 0 j) = (m ((c : Thread nD τ).loc main_arg3) : S256.Idx → EReal) (ix1 j) := by
  have h : V m c main_v39 = broadcastInDim S1x256 ![1] bcast_S256_S1x256_1 (m ((c : Thread nD τ).loc main_arg3) : S256.Idx → EReal) := by
    unfold V
    simp only [hostOps0, List.flatten_cons, List.flatten_nil, List.append_nil, List.cons_append, List.nil_append,
      StableHlo.TRef.binary, StableHlo.TRef.unary, StableHlo.TRef.toBuf, StableHlo.TRef.ofBuf, cast_eq]
    after_results_simp <;> rfl
  rw [h]
  pointwise

theorem uk_array : (V m c main_v40 : S256x512.Idx → EReal) = (m ((c : Thread nD τ).loc main_arg4) : S256x512.Idx → EReal) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem uv_array : (V m c main_v41 : S256x512.Idx → EReal) = (m ((c : Thread nD τ).loc main_arg5) : S256x512.Idx → EReal) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem x_at (t : Fin cfg0.N) (a : Fin 1024) (l : Fin 1024) (r : Fin 16384) (hr : (r : ℕ) = 1024 * t.val + a) :
    (iblk m c 0 t : S1024x1024.Idx → EReal) (ix2 a l)
      = (m ((c : Thread nD τ).loc main_arg0) : S4x4096x1024.Idx → EReal) (ix3 ⟨r / 4096, by omega⟩ ⟨r % 4096, by omega⟩ l) := by
  have h : (iblk m c 0 t : S1024x1024.Idx → EReal) (ix2 a l) = (V m c main_v30 : S16384x1024.Idx → EReal) (ix2 r l) := by
    blk_ext [iblk, idx t]
  rw [h, x_array]

theorem g_at (t : Fin cfg0.N) (l : Fin 1024) : (iblk m c 1 t : S1x1024.Idx → EReal) (ix2 0 l) = (m ((c : Thread nD τ).loc main_arg1) : S1024.Idx → EReal) (ix1 l) := by
  have h : (iblk m c 1 t : S1x1024.Idx → EReal) (ix2 0 l) = (V m c main_v31 : S1x1024.Idx → EReal) (ix2 0 l) := by
    blk_ext [iblk, idx t]
  rw [h, g_array]

theorem w_block (t : Fin cfg0.N) (l : Fin 1024) (k : Fin 2560) :
    (iblk m c 2 t : S1024x2560.Idx → EReal) (ix2 l k) = (V m c main_v38 : S1024x2560.Idx → EReal) (ix2 l k) := by
  blk_ext [iblk, idx t]

theorem kv_at (t : Fin cfg0.N) (j : Fin 256) : (iblk m c 3 t : S1x256.Idx → EReal) (ix2 0 j) = (m ((c : Thread nD τ).loc main_arg3) : S256.Idx → EReal) (ix1 j) := by
  have h : (iblk m c 3 t : S1x256.Idx → EReal) (ix2 0 j) = (V m c main_v39 : S1x256.Idx → EReal) (ix2 0 j) := by
    blk_ext [iblk, idx t]
  rw [h, kv_array]

theorem uk_at (t : Fin cfg0.N) (l : Fin 256) (j : Fin 512) : (iblk m c 4 t : S256x512.Idx → EReal) (ix2 l j) = (m ((c : Thread nD τ).loc main_arg4) : S256x512.Idx → EReal) (ix2 l j) := by
  have h : (iblk m c 4 t : S256x512.Idx → EReal) (ix2 l j) = (V m c main_v40 : S256x512.Idx → EReal) (ix2 l j) := by
    blk_ext [iblk, idx t]
  rw [h, uk_array]

theorem uv_at (t : Fin cfg0.N) (l : Fin 256) (j : Fin 512) : (iblk m c 5 t : S256x512.Idx → EReal) (ix2 l j) = (m ((c : Thread nD τ).loc main_arg5) : S256x512.Idx → EReal) (ix2 l j) := by
  have h : (iblk m c 5 t : S256x512.Idx → EReal) (ix2 l j) = (V m c main_v41 : S256x512.Idx → EReal) (ix2 l j) := by
    blk_ext [iblk, idx t]
  rw [h, uv_array]

theorem product_congr {x x' g g' k k' : Row} (hx : ∀ l, x l = x' l) (hg : ∀ l, g l = g' l) (hk : ∀ l, k l = k' l) :
    product x g k = product x' g' k' := by
  rw [funext hx, funext hg, funext hk]

theorem norm256_congr {x x' g g' : Fin 256 → EReal} (hx : ∀ l, x l = x' l) (hg : ∀ l, g l = g' l) : norm256 x g = norm256 x' g' := by
  rw [funext hx, funext hg]

/-- The products of one row of the kernel's block with its columns below 1280, in the argument arrays. -/
theorem entry_low (t : Fin cfg0.N) (a : Fin 1024) (r : Fin 16384) (hr : (r : ℕ) = 1024 * t.val + a) (j : ℕ) (hj : j < 1280) :
    Block.entry (iblk m c 0 t) (iblk m c 1 t) (iblk m c 2 t) a ⟨j, by omega⟩
      = projected (m ((c : Thread nD τ).loc main_arg0) : S4x4096x1024.Idx → EReal) (m ((c : Thread nD τ).loc main_arg1) : S1024.Idx → EReal) (m ((c : Thread nD τ).loc main_arg2) : S1024x2376.Idx → EReal) r ⟨j, by omega⟩ := by
  refine product_congr (fun l => x_at m c t a l r hr) (fun l => g_at m c t l) fun l => ((w_block m c t l _).trans (congrFun (w_array m c) _)).trans (matrix_low _ _ l ⟨j, hj⟩)

/-- With its index keys' columns. -/
theorem entry_key (t : Fin cfg0.N) (a : Fin 1024) (r : Fin 16384) (hr : (r : ℕ) = 1024 * t.val + a) (j : Fin 128) :
    Block.entry (iblk m c 0 t) (iblk m c 1 t) (iblk m c 2 t) a ⟨1280 + j, by omega⟩
      = projected (m ((c : Thread nD τ).loc main_arg0) : S4x4096x1024.Idx → EReal) (m ((c : Thread nD τ).loc main_arg1) : S1024.Idx → EReal) (m ((c : Thread nD τ).loc main_arg2) : S1024x2376.Idx → EReal) r ⟨1280 + j % 64, by omega⟩ := by
  refine product_congr (fun l => x_at m c t a l r hr) (fun l => g_at m c t l) fun l => ((w_block m c t l _).trans (congrFun (w_array m c) _)).trans (matrix_keys _ _ l j)

/-- With its index weights' columns. -/
theorem entry_weight (t : Fin cfg0.N) (a : Fin 1024) (r : Fin 16384) (hr : (r : ℕ) = 1024 * t.val + a) (j : Fin 8) :
    Block.entry (iblk m c 0 t) (iblk m c 1 t) (iblk m c 2 t) a ⟨2432 + j, by omega⟩
      = projected (m ((c : Thread nD τ).loc main_arg0) : S4x4096x1024.Idx → EReal) (m ((c : Thread nD τ).loc main_arg1) : S1024.Idx → EReal) (m ((c : Thread nD τ).loc main_arg2) : S1024x2376.Idx → EReal) r ⟨1344 + j, by omega⟩ := by
  refine product_congr (fun l => x_at m c t a l r hr) (fun l => g_at m c t l) fun l => ((w_block m c t l _).trans (congrFun (w_array m c) _)).trans (matrix_weight _ _ l j)

/-- The latents of one row of the kernel's block. -/
theorem latent_row (t : Fin cfg0.N) (a : Fin 1024) (r : Fin 16384) (hr : (r : ℕ) = 1024 * t.val + a) :
    Block.latentAt (iblk m c 0 t) (iblk m c 1 t) (iblk m c 2 t) (iblk m c 3 t) a
      = latentRow (m ((c : Thread nD τ).loc main_arg0) : S4x4096x1024.Idx → EReal) (m ((c : Thread nD τ).loc main_arg1) : S1024.Idx → EReal) (m ((c : Thread nD τ).loc main_arg2) : S1024x2376.Idx → EReal) (m ((c : Thread nD τ).loc main_arg3) : S256.Idx → EReal) r := by
  exact norm256_congr (fun j => entry_low m c t a r hr (512 + j) (by omega)) fun j => kv_at m c t j

end Cert.Ev.Kernel

end
-- ==== Proof.Ev.Kernel.lean ====
/-
  The even layer's input projection's six arrays: each of the kernel's 16 grid points writes, of 1024 rows, the model's.
-/
module

public import proofs.«01_k».proof.Proof.Ev.Data
public import proofs.«01_k».proof.Proof.Ev.Host

@[expose] public section

set_option maxRecDepth 16384

noncomputable section

namespace Cert.Ev.Kernel

open Idealize.ShloMosaic Idealize.ShloMosaic.TcCoe Idealize.SL.Sem Cert.Kernel7Ideal Cert.Kernel7Ideal.Gen Cert.Ffn Cert.Ev

variable (m : (ℓ : Loc nD τ sig) → Buf (Elt Ideal) ℓ) (c : Dev nD)

/-- Row `a` of a block's latents, times a column. -/
theorem unfolded_row (t : Fin cfg0.N) (a : Fin 1024) (r : Fin 16384) (hr : (r : ℕ) = 1024 * t.val + a) (x4 : Vec Ideal S256x512 .bf16)
    (u : S256x512.Idx → EReal) (j : Fin 512) (hu : ∀ l, x4 (ix2 l j) = u (ix2 l j)) :
    product256 (Block.latentAt (iblk m c 0 t) (iblk m c 1 t) (iblk m c 2 t) (iblk m c 3 t) a) (fun l => x4 (ix2 l j))
      = unfolded (m ((c : Thread nD τ).loc main_arg0)) (m ((c : Thread nD τ).loc main_arg1)) (m ((c : Thread nD τ).loc main_arg2)) (m ((c : Thread nD τ).loc main_arg3)) u r j := by
  rw [latent_row m c t a r hr, funext hu]
  rfl

theorem queries_result : (dats m 0 c).arrAt 13 cfg0.N = queries (m ((c : Thread nD τ).loc main_arg0)) (m ((c : Thread nD τ).loc main_arg1)) (m ((c : Thread nD τ).loc main_arg2)) := by
  refine (dats m 0 c).arrAt_eq_of_covers 13 _ (by decide +kernel) fun t hf y => ?_
  have ht : t.val < 16 := lt_of_lt_of_eq t.isLt N_0
  have e0 : (((win0_13.blk t).view.emb y) 0 : ℕ) = y 0 := by
    blk_simp [idx t]
  have e1 : (((win0_13.blk t).view.emb y) 1 : ℕ) = 1024 * t.val + y 1 := by
    blk_simp [idx t]
    omega
  generalize (win0_13.blk t).view.emb y = z at e0 e1
  obtain ⟨j, a, rfl⟩ : ∃ j a, y = ix2 j a := ⟨y 0, y 1, eq_ix2 y⟩
  obtain ⟨k, r, rfl⟩ : ∃ k r, z = ix2 k r := ⟨z 0, z 1, eq_ix2 z⟩
  obtain rfl : k = j := Fin.ext e0
  blk_simp
  rw [after_13, Block.out13_at, entry_low m c t a r e1 k (by omega)]
  rfl

theorem keys_result : (dats m 0 c).arrAt 14 cfg0.N = keys (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  have ht : t.val < 16 := lt_of_lt_of_eq t.isLt N_0
  have e0 : (((win0_14.blk t).view.emb y) 0 : ℕ) = 1024 * t.val + y 0 := by
    blk_simp [idx t]
    omega
  have e1 : (((win0_14.blk t).view.emb y) 1 : ℕ) = y 1 := by
    blk_simp [idx t]
  generalize (win0_14.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [after_14, Block.out14_at, unfolded_row m c t a r e0 _ _ k (fun l => uk_at m c t l k)]
  rfl

theorem values_result : (dats m 0 c).arrAt 15 cfg0.N = values (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 15 _ (by decide +kernel) fun t hf y => ?_
  have ht : t.val < 16 := lt_of_lt_of_eq t.isLt N_0
  have e0 : (((win0_15.blk t).view.emb y) 0 : ℕ) = 2 * t.val + y 0 := by
    blk_simp [idx t]
    omega
  have e1 : (((win0_15.blk t).view.emb y) 1 : ℕ) = y 1 := by
    blk_simp [idx t]
  have e2 : (((win0_15.blk t).view.emb y) 2 : ℕ) = y 2 := by
    blk_simp [idx t]
  generalize (win0_15.blk t).view.emb y = z at e0 e1 e2
  obtain ⟨b, j, a, rfl⟩ : ∃ b j a, y = ix3 b j a := ⟨y 0, y 1, y 2, eq_ix3 y⟩
  obtain ⟨d, k, q, rfl⟩ : ∃ d k q, z = ix3 d k q := ⟨z 0, z 1, z 2, eq_ix3 z⟩
  obtain rfl : k = j := Fin.ext e1
  obtain rfl : q = a := Fin.ext e2
  have e : (d : ℕ) = 2 * t.val + b := e0
  blk_simp
  rw [after_15, Block.out15_at, unfolded_row m c t _ ⟨512 * d + q, by omega⟩ (by simp; omega) _ _ k (fun l => uv_at m c t l k)]
  rfl

theorem indexQueries_result : (dats m 0 c).arrAt 16 cfg0.N = indexQueries (m ((c : Thread nD τ).loc main_arg0)) (m ((c : Thread nD τ).loc main_arg1)) (m ((c : Thread nD τ).loc main_arg2)) := by
  refine (dats m 0 c).arrAt_eq_of_covers 16 _ (by decide +kernel) fun t hf y => ?_
  have ht : t.val < 16 := lt_of_lt_of_eq t.isLt N_0
  have e0 : (((win0_16.blk t).view.emb y) 0 : ℕ) = y 0 := by
    blk_simp [idx t]
  have e1 : (((win0_16.blk t).view.emb y) 1 : ℕ) = 1024 * t.val + y 1 := by
    blk_simp [idx t]
    omega
  generalize (win0_16.blk t).view.emb y = z at e0 e1
  obtain ⟨j, a, rfl⟩ : ∃ j a, y = ix2 j a := ⟨y 0, y 1, eq_ix2 y⟩
  obtain ⟨k, r, rfl⟩ : ∃ k r, z = ix2 k r := ⟨z 0, z 1, eq_ix2 z⟩
  obtain rfl : k = j := Fin.ext e0
  blk_simp
  rw [after_16, Block.out16_at, entry_low m c t a r e1 (768 + k) (by omega)]
  rfl

theorem indexKeys_result : (dats m 0 c).arrAt 17 cfg0.N = indexKeys (m ((c : Thread nD τ).loc main_arg0)) (m ((c : Thread nD τ).loc main_arg1)) (m ((c : Thread nD τ).loc main_arg2)) := by
  refine (dats m 0 c).arrAt_eq_of_covers 17 _ (by decide +kernel) fun t hf y => ?_
  have ht : t.val < 16 := lt_of_lt_of_eq t.isLt N_0
  have e0 : (((win0_17.blk t).view.emb y) 0 : ℕ) = 1024 * t.val + y 0 := by
    blk_simp [idx t]
    omega
  have e1 : (((win0_17.blk t).view.emb y) 1 : ℕ) = y 1 := by
    blk_simp [idx t]
  generalize (win0_17.blk t).view.emb y = z at e0 e1
  obtain ⟨a, j, rfl⟩ : ∃ a j, y = ix2 a j := ⟨y 0, y 1, eq_ix2 y⟩
  obtain ⟨r, k, rfl⟩ : ∃ r k, z = ix2 r k := ⟨z 0, z 1, eq_ix2 z⟩
  obtain rfl : k = j := Fin.ext e1
  blk_simp
  rw [after_17, Block.out17_at, entry_key m c t a r e0 k]
  rfl

theorem indexWeights_result : (dats m 0 c).arrAt 18 cfg0.N = indexWeights (m ((c : Thread nD τ).loc main_arg0)) (m ((c : Thread nD τ).loc main_arg1)) (m ((c : Thread nD τ).loc main_arg2)) := by
  refine (dats m 0 c).arrAt_eq_of_covers 18 _ (by decide +kernel) fun t hf y => ?_
  have ht : t.val < 16 := lt_of_lt_of_eq t.isLt N_0
  have e0 : (((win0_18.blk t).view.emb y) 0 : ℕ) = y 0 := by
    blk_simp [idx t]
  have e1 : (((win0_18.blk t).view.emb y) 1 : ℕ) = 1024 * t.val + y 1 := by
    blk_simp [idx t]
    omega
  generalize (win0_18.blk t).view.emb y = z at e0 e1
  obtain ⟨j, a, rfl⟩ : ∃ j a, y = ix2 j a := ⟨y 0, y 1, eq_ix2 y⟩
  obtain ⟨k, r, rfl⟩ : ∃ k r, z = ix2 k r := ⟨z 0, z 1, eq_ix2 z⟩
  obtain rfl : k = j := Fin.ext e0
  blk_simp
  rw [after_18, Block.out18_at, entry_weight m c t a r e1 k]
  rfl

end Cert.Ev.Kernel

end
-- ==== Proof.Ev.Reference.lean ====
/-
  The reference's six arrays of the even layer's input projection: the model's. Its composed terms are cut at the norm, the product laid out as
  16384 rows, and the latents' norm.
-/
module

public import proofs.«01_k».proof.Proof.Gen.Reference7Ideal.Run
public import proofs.«01_k».proof.Proof.Ev.Model

@[expose] public section

set_option maxRecDepth 16384

noncomputable section

namespace Cert.Ev.Reference

open Idealize.ShloMosaic Idealize.ShloMosaic.TcCoe Idealize.SL.Sem Idealize.ShloMosaic.StableHlo Cert.Reference7Ideal Cert.Reference7Ideal.Gen
  Cert.Reference7Ideal.Value Cert.Ffn

/-- The reference's norm. -/
def normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- Its product with the matrix, laid out as 16384 rows. -/
def rows (x : FVec Ideal S4x4096x1024 .f32) (w : FVec Ideal S1024x2376 .f32) : FVec Ideal S16384x2376 .f32 :=
  shapeCast _ (Host.dotGeneral dot_S4x4096x1024_S1024x2376_S4x4096x2376_2_0_01_1_n_n none x w) shapeCasts_S4x4096x2376_S16384x2376

/-- The columns that are the latents before their norm. -/
def columns (p : FVec Ideal S16384x2376 .f32) : FVec Ideal S16384x256 .f32 :=
  extractStridedSlice S16384x256 ![0, 512] p slices_S16384x2376_S16384x256_0_512

/-- The latents, of those columns. -/
def latents (s : FVec Ideal S16384x256 .f32) (g : FVec Ideal S256 .f32) : FVec Ideal S16384x256 .f32 :=
  mulf (mulf s (broadcastInDim S16384x256 ![0, 1] bcast_S16384x1_S16384x256_0_1 (Host.rsqrt (addf
    (Host.divf (broadcastInDim S16384x1 ![0] bcast_S16384_S16384x1_0
      (Host.reduceAdd (mulf s s) (constant S_ .f32 0x00000000#32) reducesTo_S16384x256_S16384_d1 h_S_))
      (broadcastInDim S16384x1 ![] bcast_S_S16384x1 (constant S_ .f32 0x43800000#32)))
    (broadcastInDim S16384x1 ![] bcast_S_S16384x1 (constant S_ .f32 0x358637BD#32))))))
    (broadcastInDim S16384x256 ![0, 1] bcast_S1x256_S16384x256_0_1 (broadcastInDim S1x256 ![1] bcast_S256_S1x256_1 g))

/-- Their product with a matrix. -/
def unfold (k : FVec Ideal S16384x256 .f32) (u : FVec Ideal S256x512 .f32) : FVec Ideal S16384x512 .f32 :=
  Host.dotGeneral dot_S16384x256_S256x512_S16384x512_1_0_0_1_n_n none k u

/-- Its queries, of the rows. -/
def first (p : FVec Ideal S16384x2376 .f32) : FVec Ideal S512x16384 .bf16 :=
  truncf .bf16 (transpose S512x16384 [1, 0] (mulf (extractStridedSlice S16384x512 ![0, 0] p slices_S16384x2376_S16384x512_0_0)
    (broadcastInDim S16384x512 ![] bcast_S_S16384x512 (constant S_ .f32 0x3E38AA3B#32))) transposes_S16384x512_S512x16384_1_0) bitsLt_bf16_f32

/-- Its values, of the latents' product. -/
def third (v : FVec Ideal S16384x512 .f32) : FVec Ideal S32x512x512 .bf16 :=
  truncf .bf16 (transpose S32x512x512 [0, 2, 1] (shapeCast S32x512x512 v shapeCasts_S16384x512_S32x512x512) transposes_S32x512x512_S32x512x512_0_2_1)
    bitsLt_bf16_f32

/-- Its index queries. -/
def fourth (p : FVec Ideal S16384x2376 .f32) : FVec Ideal S512x16384 .bf16 :=
  truncf .bf16 (transpose S512x16384 [1, 0] (mulf (extractStridedSlice S16384x512 ![0, 768] p slices_S16384x2376_S16384x512_0_768)
    (broadcastInDim S16384x512 ![] bcast_S_S16384x512 (constant S_ .f32 0x3E000000#32))) transposes_S16384x512_S512x16384_1_0) bitsLt_bf16_f32

/-- Its index keys, once. -/
def indexKey (p : FVec Ideal S16384x2376 .f32) : FVec Ideal S16384x64 .f32 :=
  extractStridedSlice S16384x64 ![0, 1280] p slices_S16384x2376_S16384x64_0_1280

/-- Its index keys, twice side by side. -/
def fifth (k : FVec Ideal S16384x64 .f32) : FVec Ideal S16384x128 .bf16 :=
  truncf .bf16 (concatenate S16384x128 1 [⟨S16384x64, k⟩, ⟨S16384x64, k⟩] concatenates_S16384x64_S16384x64_S16384x128_d1) bitsLt_bf16_f32

/-- Its index weights. -/
def sixth (p : FVec Ideal S16384x2376 .f32) : FVec Ideal S8x16384 .f32 :=
  transpose S8x16384 [1, 0] (mulf (extractStridedSlice S16384x8 ![0, 1344] p slices_S16384x2376_S16384x8_0_1344)
    (broadcastInDim S16384x8 ![] bcast_S_S16384x8 (constant S_ .f32 0x3EB504F3#32))) transposes_S16384x8_S8x16384_1_0

variable (x : FVec Ideal S4x4096x1024 .f32) (g : FVec Ideal S1024 .f32) (w : FVec Ideal S1024x2376 .f32) (kv : FVec Ideal S256 .f32)
  (u : FVec Ideal S256x512 .f32)

theorem normed_at (b : Fin 4) (a : Fin 4096) (l : Fin 1024) : normed x g (ix3 b a l) = norm (fun l => x (ix3 b a l)) (fun l => g (ix1 l)) l := by
  pointwise [normed]
  rfl

theorem rows_at (r : Fin 16384) (j : Fin 2376) : rows (normed x g) w (ix2 r j) = projected x g w r j := by
  pointwise [rows, normed_at]
  rfl

theorem columns_at (r : Fin 16384) (j : Fin 256) : columns (rows (normed x g) w) (ix2 r j) = projected x g w r ⟨512 + j, by omega⟩ := by
  pointwise [columns, rows_at]

theorem norm256_at (s : FVec Ideal S16384x256 .f32) (r : Fin 16384) (j : Fin 256) :
    latents s kv (ix2 r j) = norm256 (fun j => s (ix2 r j)) (fun j => kv (ix1 j)) j := by
  pointwise [latents]
  rfl

theorem latents_at (r : Fin 16384) (j : Fin 256) : latents (columns (rows (normed x g) w)) kv (ix2 r j) = latentRow x g w kv r j := by
  rw [norm256_at]
  simp only [columns_at]
  rfl

theorem unfold_at (r : Fin 16384) (j : Fin 512) : unfold (latents (columns (rows (normed x g) w)) kv) u (ix2 r j) = unfolded x g w kv u r j := by
  pointwise [unfold, latents_at]
  rfl

theorem first_eq : first (rows (normed x g) w) = queries x g w := by
  funext y
  obtain ⟨j, r, rfl⟩ : ∃ j r, y = ix2 j r := ⟨y 0, y 1, eq_ix2 y⟩
  pointwise [first, rows_at]
  rfl

theorem second_eq : truncf .bf16 (unfold (latents (columns (rows (normed x g) w)) kv) u) bitsLt_bf16_f32 = keys x g w kv u := by
  funext y
  obtain ⟨r, j, rfl⟩ : ∃ r j, y = ix2 r j := ⟨y 0, y 1, eq_ix2 y⟩
  exact unfold_at x g w kv u r j

theorem third_at (v : FVec Ideal S16384x512 .f32) (b : Fin 32) (j a : Fin 512) : third v (ix3 b j a) = v (ix2 ⟨512 * b + a, by omega⟩ j) := by
  rw [show (⟨512 * b + a, by omega⟩ : Fin 16384) = ⟨b * 512 + a, by omega⟩ from Fin.ext (by simp; omega)]
  pointwise [third]

theorem third_eq : third (unfold (latents (columns (rows (normed x g) w)) kv) u) = values x g w kv u := by
  funext y
  obtain ⟨b, j, a, rfl⟩ : ∃ b j a, y = ix3 b j a := ⟨y 0, y 1, y 2, eq_ix3 y⟩
  rw [third_at, unfold_at]
  rfl

theorem fourth_eq : fourth (rows (normed x g) w) = indexQueries x g w := by
  funext y
  obtain ⟨j, r, rfl⟩ : ∃ j r, y = ix2 j r := ⟨y 0, y 1, eq_ix2 y⟩
  pointwise [fourth, rows_at]
  rfl

theorem indexKey_at (r : Fin 16384) (j : Fin 64) : indexKey (rows (normed x g) w) (ix2 r j) = projected x g w r ⟨1280 + j, by omega⟩ := by
  pointwise [indexKey, rows_at]

theorem fifth_low (k : FVec Ideal S16384x64 .f32) (r : Fin 16384) (j : Fin 64) : fifth k (ix2 r ⟨j, by omega⟩) = k (ix2 r j) := by
  pointwise [fifth]

theorem fifth_high (k : FVec Ideal S16384x64 .f32) (r : Fin 16384) (j : Fin 64) : fifth k (ix2 r ⟨64 + j, by omega⟩) = k (ix2 r j) := by
  pointwise [fifth]

theorem fifth_at (k : FVec Ideal S16384x64 .f32) (r : Fin 16384) (j : Fin 128) : fifth k (ix2 r j) = k (ix2 r ⟨j % 64, by omega⟩) := by
  rcases Nat.lt_or_ge j.val 64 with h | h
  · rw [show j = ⟨(⟨j % 64, by omega⟩ : Fin 64).val, by omega⟩ from Fin.ext (by simp; omega), fifth_low]
    simp
  · rw [show j = ⟨64 + (⟨j % 64, by omega⟩ : Fin 64).val, by omega⟩ from Fin.ext (by simp; omega), fifth_high]
    simp

theorem fifth_eq : fifth (indexKey (rows (normed x g) w)) = indexKeys x g w := by
  funext y
  obtain ⟨r, j, rfl⟩ : ∃ r j, y = ix2 r j := ⟨y 0, y 1, eq_ix2 y⟩
  rw [fifth_at, indexKey_at]
  rfl

theorem sixth_eq : sixth (rows (normed x g) w) = indexWeights x g w := by
  funext y
  obtain ⟨j, r, rfl⟩ : ∃ j r, y = ix2 j r := ⟨y 0, y 1, eq_ix2 y⟩
  pointwise [sixth, rows_at]
  rfl

end Cert.Ev.Reference

end
-- ==== Proof.Ev.Claims.lean ====
/-
  The claims about the even layer's input projection: each program ends with its arguments unchanged, and the kernel's six results equal the
  reference's.
-/
module

public import proofs.«01_k».proof.Defs
public import proofs.«01_k».proof.Proof.Gen.Kernel7.Skeleton
public import proofs.«01_k».proof.Proof.Gen.Reference7Ideal.Run
public import proofs.«01_k».proof.Proof.Ev.Run
public import proofs.«01_k».proof.Proof.Ev.Kernel
public import proofs.«01_k».proof.Proof.Ev.Reference

@[expose] public section

set_option maxRecDepth 16384

noncomputable section

namespace Cert.Ev.Claims

open Idealize.ShloMosaic Idealize.ShloMosaic.TcCoe Idealize.SL.Sem

theorem frame_kernel_ideal : Cert.quiescent_Kernel7Ideal (hKernel7Ideal := Cert.Kernel7Ideal.Gen.facts) := fun m ρ _ => run_kept (F := Ideal) m ρ

/-! The two programs have the same text: body, body table and @main are the same functions. -/

section

variable {F : FTy → Type} [FloatOps F]

set_option maxHeartbeats 2000000 in
theorem body_eq : @Cert.Kernel7.cc0_even_proj F _ Cert.Kernel7.Gen.facts = @Cert.Kernel7Ideal.cc0_even_proj F _ Cert.Kernel7Ideal.Gen.facts := rfl

set_option maxHeartbeats 1000000 in
theorem defs₀_eq : @Cert.Kernel7.defs₀ F _ Cert.Kernel7.Gen.facts = @Cert.Kernel7Ideal.defs₀ F _ Cert.Kernel7Ideal.Gen.facts := by
  unfold Cert.Kernel7.defs₀ Cert.Kernel7Ideal.defs₀
  rw [body_eq]
  refine congrArg Defs.onTc (funext fun l => funext fun a => ?_)
  match l, a with
  | 0, (t, s) => rfl
  | ⟨n + 1, h⟩, _ => exact absurd h (Nat.not_lt.2 (Nat.le_add_left _ _))

set_option maxHeartbeats 1000000 in
theorem defs_eq : @Cert.Kernel7.defs F _ Cert.Kernel7.Gen.facts = @Cert.Kernel7Ideal.defs F _ Cert.Kernel7Ideal.Gen.facts := by
  unfold Cert.Kernel7.defs Cert.Kernel7Ideal.defs
  rw [defs₀_eq]
  rfl

set_option maxHeartbeats 8000000 in
theorem main_eq : @Cert.Kernel7.main F _ Cert.Kernel7.Gen.facts = @Cert.Kernel7Ideal.main F _ Cert.Kernel7Ideal.Gen.facts := rfl

end

set_option maxHeartbeats 8000000 in
/-- The run of the ideal program's text, over the stored bits. -/
theorem frame_kernel : Cert.quiescent_Kernel7 (hKernel7 := Cert.Kernel7.Gen.facts) := fun m ρ _ => by
  rw [defs_eq, main_eq]
  exact run_kept (F := Bits) m ρ

theorem frame_reference : Cert.quiescent_Reference7Ideal (hReference7Ideal := Cert.Reference7Ideal.Gen.facts) := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

set_option maxHeartbeats 8000000 in
theorem algebraic : Cert.algebraic_Kernel7Ideal_Reference7Ideal (hKernel7Ideal := Cert.Kernel7Ideal.Gen.facts)
    (hReference7Ideal := Cert.Reference7Ideal.Gen.facts) := by
  intro m ρ m' ρ' hm hagree
  refine ⟨fun c => (dats m 0 c).arrAt 13 Cert.Kernel7Ideal.cfg0.N, fun c => (dats m 0 c).arrAt 14 Cert.Kernel7Ideal.cfg0.N,
    fun c => (dats m 0 c).arrAt 15 Cert.Kernel7Ideal.cfg0.N, fun c => (dats m 0 c).arrAt 16 Cert.Kernel7Ideal.cfg0.N,
    fun c => (dats m 0 c).arrAt 17 Cert.Kernel7Ideal.cfg0.N, fun c => (dats m 0 c).arrAt 18 Cert.Kernel7Ideal.cfg0.N, run_blocks m ρ, ?_⟩
  refine (θ_run _ _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference7Ideal.Value.run (F := Ideal) m' ρ')
  all_goals obtain ⟨h0, h1, h2, h3, h4, h5, -⟩ := hagree c
  · refine (Reference.first_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))).trans ?_
    refine Eq.trans ?_ (Kernel.queries_result m c).symm
    rw [h0, h1, h2]
  · refine (Reference.second_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4))).trans ?_
    refine Eq.trans ?_ (Kernel.keys_result m c).symm
    rw [h0, h1, h2, h3, h4]
  · refine (Reference.third_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg5))).trans ?_
    refine Eq.trans ?_ (Kernel.values_result m c).symm
    rw [h0, h1, h2, h3, h5]
  · refine (Reference.fourth_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))).trans ?_
    refine Eq.trans ?_ (Kernel.indexQueries_result m c).symm
    rw [h0, h1, h2]
  · refine (Reference.fifth_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))).trans ?_
    refine Eq.trans ?_ (Kernel.indexKeys_result m c).symm
    rw [h0, h1, h2]
  · refine (Reference.sixth_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))).trans ?_
    refine Eq.trans ?_ (Kernel.indexWeights_result m c).symm
    rw [h0, h1, h2]

end Cert.Ev.Claims

end
-- ==== Proof.lean ====
/-
  The certificate: the claims about the mixer, the feed-forward part, the cross-attention (in both its uses) and the two layers' input
  projections.
-/
module

public import proofs.«01_k».proof.Defs
public import proofs.«01_k».proof.Proof.Gla.Claims
public import proofs.«01_k».proof.Proof.Ffn.Claims
public import proofs.«01_k».proof.Proof.Xa.Claims
public import proofs.«01_k».proof.Proof.Kv.Claims
public import proofs.«01_k».proof.Proof.Proj.Claims
public import proofs.«01_k».proof.Proof.Even.Claims
public import proofs.«01_k».proof.Proof.Ev.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Gla.Claims.gates_facts, Cert.Xa.Claims.scores_facts, Cert.Even.Claims.scores_facts,
    fun m ρ _ => Cert.Kernel.Gen.frame m ρ, fun m ρ _ => Cert.KernelIdeal.Gen.frame m ρ, fun m ρ _ => Cert.KernelIdeal.Gen.frame m ρ,
    Cert.Gla.Claims.frame_reference, fun m ρ _ => Cert.Gla.Claims.frame_reference m ρ trivial,
    fun m ρ _ => Cert.Kernel2.Gen.frame m ρ, fun m ρ _ => Cert.Kernel2Ideal.Gen.frame m ρ, Cert.Ffn.Claims.frame_reference,
    fun m ρ _ => Cert.Kernel3.Gen.frame m ρ, fun m ρ _ => Cert.Kernel3Ideal.Gen.frame m ρ, fun m ρ _ => Cert.Kernel3Ideal.Gen.frame m ρ,
    Cert.Xa.Claims.frame_reference, fun m ρ _ => Cert.Xa.Claims.frame_reference m ρ trivial,
    fun m ρ _ => Cert.Kernel4.Gen.frame m ρ, fun m ρ _ => Cert.Kernel4Ideal.Gen.frame m ρ, Cert.Kv.Claims.frame_reference,
    fun m ρ _ => Cert.Kernel5.Gen.frame m ρ, fun m ρ _ => Cert.Kernel5Ideal.Gen.frame m ρ, Cert.Proj.Claims.frame_reference,
    fun m ρ _ => Cert.Kernel6.Gen.frame m ρ, fun m ρ _ => Cert.Kernel6Ideal.Gen.frame m ρ, fun m ρ _ => Cert.Kernel6Ideal.Gen.frame m ρ,
    Cert.Even.Claims.frame_reference, fun m ρ _ => Cert.Even.Claims.frame_reference m ρ trivial,
    Cert.Ev.Claims.frame_kernel, Cert.Ev.Claims.frame_kernel_ideal, Cert.Ev.Claims.frame_reference,
    trivial, Cert.Gla.Claims.algebraic, trivial, Cert.Ffn.Claims.algebraic, trivial, Cert.Xa.Claims.algebraic, trivial, Cert.Kv.Claims.algebraic,
    trivial, Cert.Proj.Claims.algebraic, trivial, Cert.Even.Claims.algebraic,
    trivial, Cert.Ev.Claims.algebraic⟩

end Cert.Proof

end
